-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_merge [hPre_finite_merge : Cert.Pre_finite_merge.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_merge [hPre_finite_merge : Cert.Pre_finite_merge.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_qkv [hPre_finite_qkv : Cert.Pre_finite_qkv.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_qkv.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_qkv [hPre_finite_qkv : Cert.Pre_finite_qkv.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_qkv.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_merge [hKernel5Ideal : Cert.Kernel5Ideal.Facts] [hPre_finite_merge : Cert.Pre_finite_merge.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_merge m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_merge [hReference5Ideal : Cert.Reference5Ideal.Facts] [hPre_finite_merge : Cert.Pre_finite_merge.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_merge m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_qkv [hKernel6Ideal : Cert.Kernel6Ideal.Facts] [hPre_finite_qkv : Cert.Pre_finite_qkv.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_qkv m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_qkv [hReference6Ideal : Cert.Reference6Ideal.Facts] [hPre_finite_qkv : Cert.Pre_finite_qkv.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_qkv m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9)
      ∧ r.2.mem ((c.tc : Thread Cert.Kernel16.nD Cert.Kernel16.τ).loc Cert.Kernel16.main_arg10) = m ((c.tc : Thread Cert.Kernel16.nD Cert.Kernel16.τ).loc Cert.Kernel16.main_arg10)
      ∧ r.2.mem ((c.tc : Thread Cert.Kernel16.nD Cert.Kernel16.τ).loc Cert.Kernel16.main_arg11) = m ((c.tc : Thread Cert.Kernel16.nD Cert.Kernel16.τ).loc Cert.Kernel16.main_arg11)
      ∧ r.2.mem ((c.tc : Thread Cert.Kernel16.nD Cert.Kernel16.τ).loc Cert.Kernel16.main_arg12) = m ((c.tc : Thread Cert.Kernel16.nD Cert.Kernel16.τ).loc Cert.Kernel16.main_arg12)
      ∧ r.2.mem ((c.tc : Thread Cert.Kernel16.nD Cert.Kernel16.τ).loc Cert.Kernel16.main_arg13) = m ((c.tc : Thread Cert.Kernel16.nD Cert.Kernel16.τ).loc Cert.Kernel16.main_arg13))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
      ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11)
      ∧ r.2.mem ((c.tc : Thread Cert.Kernel16Ideal.nD Cert.Kernel16Ideal.τ).loc Cert.Kernel16Ideal.main_arg12) = m ((c.tc : Thread Cert.Kernel16Ideal.nD Cert.Kernel16Ideal.τ).loc Cert.Kernel16Ideal.main_arg12)
      ∧ r.2.mem ((c.tc : Thread Cert.Kernel16Ideal.nD Cert.Kernel16Ideal.τ).loc Cert.Kernel16Ideal.main_arg13) = m ((c.tc : Thread Cert.Kernel16Ideal.nD Cert.Kernel16Ideal.τ).loc Cert.Kernel16Ideal.main_arg13))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10)
      ∧ r.2.mem ((c.tc : Thread Cert.Reference16Ideal.nD Cert.Reference16Ideal.τ).loc Cert.Reference16Ideal.main_arg11) = m ((c.tc : Thread Cert.Reference16Ideal.nD Cert.Reference16Ideal.τ).loc Cert.Reference16Ideal.main_arg11)
      ∧ r.2.mem ((c.tc : Thread Cert.Reference16Ideal.nD Cert.Reference16Ideal.τ).loc Cert.Reference16Ideal.main_arg12) = m ((c.tc : Thread Cert.Reference16Ideal.nD Cert.Reference16Ideal.τ).loc Cert.Reference16Ideal.main_arg12)
      ∧ r.2.mem ((c.tc : Thread Cert.Reference16Ideal.nD Cert.Reference16Ideal.τ).loc Cert.Reference16Ideal.main_arg13) = m ((c.tc : Thread Cert.Reference16Ideal.nD Cert.Reference16Ideal.τ).loc Cert.Reference16Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v4) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v16) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v7)) (v3 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v7) = v2 c
          ∧ r.2.mem ((c.tc : Thread Cert.Kernel4Ideal.nD Cert.Kernel4Ideal.τ).loc Cert.Kernel4Ideal.main_v6) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_v38) = v2 c
          ∧ r.2.mem ((c.tc : Thread Cert.Reference4Ideal.nD Cert.Reference4Ideal.τ).loc Cert.Reference4Ideal.main_v26) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "gelu_c" .f32 0x3D372713#32 ((8943 / 200000 : ℝ) : EReal)
  ∧ IdealRules.named_const.Statement Cert.Kernel5Ideal.κ "gelu_3c" .f32 0x3E095D4F#32 ((26829 / 200000 : ℝ) : EReal)

def algebraic_Kernel5Ideal_Reference5Ideal_pre_finite_merge [hKernel5Ideal : Cert.Kernel5Ideal.Facts] [hReference5Ideal : Cert.Reference5Ideal.Facts] [hPre_finite_merge : Cert.Pre_finite_merge.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_merge m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v6)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v6) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v7) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0_0) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_v3) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "mask" .f32 0xF149F2CA#32 ⊥
  ∧ IdealRules.named_const.Statement Cert.Kernel6Ideal.κ "ln2" .f32 0x3F317218#32 ((Real.log 2 : ℝ) : EReal)

def algebraic_Kernel6Ideal_Reference6Ideal_pre_finite_qkv [hKernel6Ideal : Cert.Kernel6Ideal.Facts] [hReference6Ideal : Cert.Reference6Ideal.Facts] [hPre_finite_qkv : Cert.Pre_finite_qkv.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_qkv m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v46_0)) (v1 : (c : Dev Cert.Kernel6Ideal.nD) → Buf (Elt Ideal) ((c.tc : Thread Cert.Kernel6Ideal.nD Cert.Kernel6Ideal.τ).loc Cert.Kernel6Ideal.main_v46_1)) (v2 : (c : Dev Cert.Kernel6Ideal.nD) → Buf (Elt Ideal) ((c.tc : Thread Cert.Kernel6Ideal.nD Cert.Kernel6Ideal.τ).loc Cert.Kernel6Ideal.main_v46_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v46_0) = v0 c
          ∧ r.2.mem ((c.tc : Thread Cert.Kernel6Ideal.nD Cert.Kernel6Ideal.τ).loc Cert.Kernel6Ideal.main_v46_1) = v1 c
          ∧ r.2.mem ((c.tc : Thread Cert.Kernel6Ideal.nD Cert.Kernel6Ideal.τ).loc Cert.Kernel6Ideal.main_v46_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v63) = v0 c
          ∧ r.2.mem ((c.tc : Thread Cert.Reference6Ideal.nD Cert.Reference6Ideal.τ).loc Cert.Reference6Ideal.main_v66) = v1 c
          ∧ r.2.mem ((c.tc : Thread Cert.Reference6Ideal.nD Cert.Reference6Ideal.τ).loc Cert.Reference6Ideal.main_v68) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)) (v3 : (c : Dev Cert.Kernel10Ideal.nD) → Buf (Elt Ideal) ((c.tc : Thread Cert.Kernel10Ideal.nD Cert.Kernel10Ideal.τ).loc Cert.Kernel10Ideal.main_v1_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_v1_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v5) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_v5) = v2 c
          ∧ r.2.mem ((c.tc : Thread Cert.Reference12Ideal.nD Cert.Reference12Ideal.τ).loc Cert.Reference12Ideal.main_v11) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_v24) = v1 c
          ∧ r.2.mem ((c.tc : Thread Cert.Reference14Ideal.nD Cert.Reference14Ideal.τ).loc Cert.Reference14Ideal.main_v5) = v2 c
          ∧ r.2.mem ((c.tc : Thread Cert.Reference14Ideal.nD Cert.Reference14Ideal.τ).loc Cert.Reference14Ideal.main_v11) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v24) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v11) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)
      ∧ m' ((c.tc : Thread Cert.Reference16Ideal.nD Cert.Reference16Ideal.τ).loc Cert.Reference16Ideal.main_arg10) = m ((c.tc : Thread Cert.Kernel16Ideal.nD Cert.Kernel16Ideal.τ).loc Cert.Kernel16Ideal.main_arg10)
      ∧ m' ((c.tc : Thread Cert.Reference16Ideal.nD Cert.Reference16Ideal.τ).loc Cert.Reference16Ideal.main_arg11) = m ((c.tc : Thread Cert.Kernel16Ideal.nD Cert.Kernel16Ideal.τ).loc Cert.Kernel16Ideal.main_arg11)
      ∧ m' ((c.tc : Thread Cert.Reference16Ideal.nD Cert.Reference16Ideal.τ).loc Cert.Reference16Ideal.main_arg12) = m ((c.tc : Thread Cert.Kernel16Ideal.nD Cert.Kernel16Ideal.τ).loc Cert.Kernel16Ideal.main_arg12)
      ∧ m' ((c.tc : Thread Cert.Reference16Ideal.nD Cert.Reference16Ideal.τ).loc Cert.Reference16Ideal.main_arg13) = m ((c.tc : Thread Cert.Kernel16Ideal.nD Cert.Kernel16Ideal.τ).loc Cert.Kernel16Ideal.main_arg13)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)) (v4 : (c : Dev Cert.Kernel16Ideal.nD) → Buf (Elt Ideal) ((c.tc : Thread Cert.Kernel16Ideal.nD Cert.Kernel16Ideal.τ).loc Cert.Kernel16Ideal.main_v1_4)) (v5 : (c : Dev Cert.Kernel16Ideal.nD) → Buf (Elt Ideal) ((c.tc : Thread Cert.Kernel16Ideal.nD Cert.Kernel16Ideal.τ).loc Cert.Kernel16Ideal.main_v1_5)) (v6 : (c : Dev Cert.Kernel16Ideal.nD) → Buf (Elt Ideal) ((c.tc : Thread Cert.Kernel16Ideal.nD Cert.Kernel16Ideal.τ).loc Cert.Kernel16Ideal.main_v1_6)) (v7 : (c : Dev Cert.Kernel16Ideal.nD) → Buf (Elt Ideal) ((c.tc : Thread Cert.Kernel16Ideal.nD Cert.Kernel16Ideal.τ).loc Cert.Kernel16Ideal.main_v1_7)) (v8 : (c : Dev Cert.Kernel16Ideal.nD) → Buf (Elt Ideal) ((c.tc : Thread Cert.Kernel16Ideal.nD Cert.Kernel16Ideal.τ).loc Cert.Kernel16Ideal.main_v1_8)) (v9 : (c : Dev Cert.Kernel16Ideal.nD) → Buf (Elt Ideal) ((c.tc : Thread Cert.Kernel16Ideal.nD Cert.Kernel16Ideal.τ).loc Cert.Kernel16Ideal.main_v1_9)) (v10 : (c : Dev Cert.Kernel16Ideal.nD) → Buf (Elt Ideal) ((c.tc : Thread Cert.Kernel16Ideal.nD Cert.Kernel16Ideal.τ).loc Cert.Kernel16Ideal.main_v1_10)) (v11 : (c : Dev Cert.Kernel16Ideal.nD) → Buf (Elt Ideal) ((c.tc : Thread Cert.Kernel16Ideal.nD Cert.Kernel16Ideal.τ).loc Cert.Kernel16Ideal.main_v1_11)) (v12 : (c : Dev Cert.Kernel16Ideal.nD) → Buf (Elt Ideal) ((c.tc : Thread Cert.Kernel16Ideal.nD Cert.Kernel16Ideal.τ).loc Cert.Kernel16Ideal.main_v1_12)) (v13 : (c : Dev Cert.Kernel16Ideal.nD) → Buf (Elt Ideal) ((c.tc : Thread Cert.Kernel16Ideal.nD Cert.Kernel16Ideal.τ).loc Cert.Kernel16Ideal.main_v1_13)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_v1_4) = v4 c
          ∧ r.2.mem ((c.tc : Thread Cert.Kernel16Ideal.nD Cert.Kernel16Ideal.τ).loc Cert.Kernel16Ideal.main_v1_5) = v5 c
          ∧ r.2.mem ((c.tc : Thread Cert.Kernel16Ideal.nD Cert.Kernel16Ideal.τ).loc Cert.Kernel16Ideal.main_v1_6) = v6 c
          ∧ r.2.mem ((c.tc : Thread Cert.Kernel16Ideal.nD Cert.Kernel16Ideal.τ).loc Cert.Kernel16Ideal.main_v1_7) = v7 c
          ∧ r.2.mem ((c.tc : Thread Cert.Kernel16Ideal.nD Cert.Kernel16Ideal.τ).loc Cert.Kernel16Ideal.main_v1_8) = v8 c
          ∧ r.2.mem ((c.tc : Thread Cert.Kernel16Ideal.nD Cert.Kernel16Ideal.τ).loc Cert.Kernel16Ideal.main_v1_9) = v9 c
          ∧ r.2.mem ((c.tc : Thread Cert.Kernel16Ideal.nD Cert.Kernel16Ideal.τ).loc Cert.Kernel16Ideal.main_v1_10) = v10 c
          ∧ r.2.mem ((c.tc : Thread Cert.Kernel16Ideal.nD Cert.Kernel16Ideal.τ).loc Cert.Kernel16Ideal.main_v1_11) = v11 c
          ∧ r.2.mem ((c.tc : Thread Cert.Kernel16Ideal.nD Cert.Kernel16Ideal.τ).loc Cert.Kernel16Ideal.main_v1_12) = v12 c
          ∧ r.2.mem ((c.tc : Thread Cert.Kernel16Ideal.nD Cert.Kernel16Ideal.τ).loc Cert.Kernel16Ideal.main_v1_13) = v13 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
          ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
          ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11)
          ∧ r.2.mem ((c.tc : Thread Cert.Kernel16Ideal.nD Cert.Kernel16Ideal.τ).loc Cert.Kernel16Ideal.main_arg12) = m ((c.tc : Thread Cert.Kernel16Ideal.nD Cert.Kernel16Ideal.τ).loc Cert.Kernel16Ideal.main_arg12)
          ∧ r.2.mem ((c.tc : Thread Cert.Kernel16Ideal.nD Cert.Kernel16Ideal.τ).loc Cert.Kernel16Ideal.main_arg13) = m ((c.tc : Thread Cert.Kernel16Ideal.nD Cert.Kernel16Ideal.τ).loc Cert.Kernel16Ideal.main_arg13))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_v25) = v4 c
          ∧ r.2.mem ((c.tc : Thread Cert.Reference16Ideal.nD Cert.Reference16Ideal.τ).loc Cert.Reference16Ideal.main_v49) = v5 c
          ∧ r.2.mem ((c.tc : Thread Cert.Reference16Ideal.nD Cert.Reference16Ideal.τ).loc Cert.Reference16Ideal.main_v30) = v6 c
          ∧ r.2.mem ((c.tc : Thread Cert.Reference16Ideal.nD Cert.Reference16Ideal.τ).loc Cert.Reference16Ideal.main_v36) = v7 c
          ∧ r.2.mem ((c.tc : Thread Cert.Reference16Ideal.nD Cert.Reference16Ideal.τ).loc Cert.Reference16Ideal.main_v51) = v8 c
          ∧ r.2.mem ((c.tc : Thread Cert.Reference16Ideal.nD Cert.Reference16Ideal.τ).loc Cert.Reference16Ideal.main_v75) = v9 c
          ∧ r.2.mem ((c.tc : Thread Cert.Reference16Ideal.nD Cert.Reference16Ideal.τ).loc Cert.Reference16Ideal.main_v56) = v10 c
          ∧ r.2.mem ((c.tc : Thread Cert.Reference16Ideal.nD Cert.Reference16Ideal.τ).loc Cert.Reference16Ideal.main_v62) = v11 c
          ∧ r.2.mem ((c.tc : Thread Cert.Reference16Ideal.nD Cert.Reference16Ideal.τ).loc Cert.Reference16Ideal.main_v76) = v12 c
          ∧ r.2.mem ((c.tc : Thread Cert.Reference16Ideal.nD Cert.Reference16Ideal.τ).loc Cert.Reference16Ideal.main_v77) = v13 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9)
          ∧ r.2.mem ((c.tc : Thread Cert.Reference16Ideal.nD Cert.Reference16Ideal.τ).loc Cert.Reference16Ideal.main_arg10) = m' ((c.tc : Thread Cert.Reference16Ideal.nD Cert.Reference16Ideal.τ).loc Cert.Reference16Ideal.main_arg10)
          ∧ r.2.mem ((c.tc : Thread Cert.Reference16Ideal.nD Cert.Reference16Ideal.τ).loc Cert.Reference16Ideal.main_arg11) = m' ((c.tc : Thread Cert.Reference16Ideal.nD Cert.Reference16Ideal.τ).loc Cert.Reference16Ideal.main_arg11)
          ∧ r.2.mem ((c.tc : Thread Cert.Reference16Ideal.nD Cert.Reference16Ideal.τ).loc Cert.Reference16Ideal.main_arg12) = m' ((c.tc : Thread Cert.Reference16Ideal.nD Cert.Reference16Ideal.τ).loc Cert.Reference16Ideal.main_arg12)
          ∧ r.2.mem ((c.tc : Thread Cert.Reference16Ideal.nD Cert.Reference16Ideal.τ).loc Cert.Reference16Ideal.main_arg13) = m' ((c.tc : Thread Cert.Reference16Ideal.nD Cert.Reference16Ideal.τ).loc Cert.Reference16Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_merge : Cert.Pre_finite_merge.Facts) (hPre_finite_qkv : Cert.Pre_finite_qkv.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_merge (hKernel5Ideal := hKernel5Ideal) (hPre_finite_merge := hPre_finite_merge)
    ∧ quiescent_Reference5Ideal (hReference5Ideal := hReference5Ideal)
    ∧ quiescent_Reference5Ideal_pre_finite_merge (hReference5Ideal := hReference5Ideal) (hPre_finite_merge := hPre_finite_merge)
    ∧ quiescent_Kernel6 (hKernel6 := hKernel6)
    ∧ quiescent_Kernel6Ideal (hKernel6Ideal := hKernel6Ideal)
    ∧ quiescent_Kernel6Ideal_pre_finite_qkv (hKernel6Ideal := hKernel6Ideal) (hPre_finite_qkv := hPre_finite_qkv)
    ∧ quiescent_Reference6Ideal (hReference6Ideal := hReference6Ideal)
    ∧ quiescent_Reference6Ideal_pre_finite_qkv (hReference6Ideal := hReference6Ideal) (hPre_finite_qkv := hPre_finite_qkv)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_merge (hKernel5Ideal := hKernel5Ideal) (hReference5Ideal := hReference5Ideal) (hPre_finite_merge := hPre_finite_merge)
    ∧ preserves_Kernel6_Kernel6Ideal
    ∧ algebraic_Kernel6Ideal_Reference6Ideal_pre_finite_qkv (hKernel6Ideal := hKernel6Ideal) (hReference6Ideal := hReference6Ideal) (hPre_finite_qkv := hPre_finite_qkv)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite_merge.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x1024 .f32) (main_arg5 : FVec F S1024x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg5
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8192x1024 .f32 := Host.absf main_arg6
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite_qkv.lean ====
abbrev S8192x8x192 : Shape := ⟨3, ![8192, 8, 192]⟩
abbrev S8192x8x128 : Shape := ⟨3, ![8192, 8, 128]⟩
abbrev S_ : Shape := ⟨0, ![]⟩

class Facts : Prop where
  bcast_S_S8192x8x192 : S_.BroadcastsInDim S8192x8x192 (![] : Fin 0 → Fin S8192x8x192.rank)
  reducesTo_S8192x8x192_S_d0_1_2 : S8192x8x192.ReducesTo [0, 1, 2] S_
  h_S_ : 0 < S_.numel
  bcast_S_S8192x8x128 : S_.BroadcastsInDim S8192x8x128 (![] : Fin 0 → Fin S8192x8x128.rank)
  reducesTo_S8192x8x128_S_d0_1_2 : S8192x8x128.ReducesTo [0, 1, 2] S_

variable [Facts]

def fn_part1 {F : FTy → Type} [FloatOps F] (main_v13 : IVec S_ 1) (main_v16 : IVec S8192x8x128 1) : IVec S_ 1 :=
  let main_c_5 : IVec S_ 1 := constantI S_ 1 1#1
  let main_v17 : IVec S_ 1 := (fun x v => Host.reduce IntOp.andi x v reducesTo_S8192x8x128_S_d0_1_2 h_S_) main_v16 main_c_5
  let main_v18 : IVec S_ 1 := andi main_v13 main_v17
  main_v18

def fn {F : FTy → Type} [FloatOps F] (main_arg0 : FVec F S8192x8x192 .f32) (main_arg1 : FVec F S8192x8x192 .f32) (main_arg2 : FVec F S8192x8x128 .f32) (main_arg3 : FVec F S8192x8x128 .f32) : IVec S_ 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_c : IVec S_ 1 := constantI S_ 1 1#1
  let main_v3 : IVec S_ 1 := (fun x v => Host.reduce IntOp.andi x v reducesTo_S8192x8x192_S_d0_1_2 h_S_) main_v2 main_c
  let main_v4 : FVec F S8192x8x192 .f32 := Host.absf main_arg1
  let main_cst_0 : FVec F S_ .f32 := constant S_ .f32 0x7F800000#32
  let main_v5 : FVec F S8192x8x192 .f32 := broadcastInDim S8192x8x192 ![] bcast_S_S8192x8x192 main_cst_0
  let main_v6 : IVec S8192x8x192 1 := cmpf .olt main_v4 main_v5
  let main_c_1 : IVec S_ 1 := constantI S_ 1 1#1
  let main_v7 : IVec S_ 1 := (fun x v => Host.reduce IntOp.andi x v reducesTo_S8192x8x192_S_d0_1_2 h_S_) main_v6 main_c_1
  let main_v8 : IVec S_ 1 := andi main_v3 main_v7
  let main_v9 : FVec F S8192x8x128 .f32 := Host.absf main_arg2
  let main_cst_2 : FVec F S_ .f32 := constant S_ .f32 0x7F800000#32
  let main_v10 : FVec F S8192x8x128 .f32 := broadcastInDim S8192x8x128 ![] bcast_S_S8192x8x128 main_cst_2
  let main_v11 : IVec S8192x8x128 1 := cmpf .olt main_v9 main_v10
  let main_c_3 : IVec S_ 1 := constantI S_ 1 1#1
  let main_v12 : IVec S_ 1 := (fun x v => Host.reduce IntOp.andi x v reducesTo_S8192x8x128_S_d0_1_2 h_S_) main_v11 main_c_3
  let main_v13 : IVec S_ 1 := andi main_v8 main_v12
  let main_v14 : FVec F S8192x8x128 .f32 := Host.absf main_arg3
  let main_cst_4 : FVec F S_ .f32 := constant S_ .f32 0x7F800000#32
  let main_v15 : FVec F S8192x8x128 .f32 := broadcastInDim S8192x8x128 ![] bcast_S_S8192x8x128 main_cst_4
  let main_v16 : IVec S8192x8x128 1 := cmpf .olt main_v14 main_v15
  fn_part1 (F := F) main_v13 main_v16
-- ==== Kernel.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 14
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S1024x4096, .bf16⟩
  | .hbm, ⟨6, _⟩ => ⟨S4096x1024, .bf16⟩
  | .hbm, ⟨7, _⟩ => ⟨S8192x1024, .bf16⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .bf16⟩
  | .hbm, ⟨13, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel2.lean ====
abbrev S8192x1024 : Shape := ⟨2, ![8192, 1024]⟩
abbrev S8192x4096 : Shape := ⟨2, ![8192, 4096]⟩
abbrev S1024x4096 : Shape := ⟨2, ![1024, 4096]⟩
abbrev S1024 : Shape := ⟨1, ![1024]⟩
abbrev S1x1024 : Shape := ⟨2, ![1, 1024]⟩
abbrev S16x1x1024 : Shape := ⟨3, ![16, 1, 1024]⟩
abbrev S512x4096 : Shape := ⟨2, ![512, 4096]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S1024x4096, .f32⟩
  | .hbm, ⟨4, _⟩ => ⟨S1024, .f32⟩
  | .hbm, ⟨5, _⟩ => ⟨S8192x4096, .bf16⟩
  | .hbm, ⟨6, _⟩ => ⟨S1024x4096, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S16x1x1024, .f32⟩
  | .hbm, ⟨11, _⟩ => ⟨S_, .f32⟩
  | .hbm, ⟨12, _⟩ => ⟨S1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1x1024, .f32⟩
  | .local _ .vmem, ⟨13, _⟩ => ⟨S1x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_cst : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S8192x1024 : Shape := ⟨2, ![8192, 1024]⟩
abbrev S8192x4096 : Shape := ⟨2, ![8192, 4096]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S1024x4096, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel3.lean ====
abbrev S8192x1024 : Shape := ⟨2, ![8192, 1024]⟩
abbrev S8192x4672 : Shape := ⟨2, ![8192, 4672]⟩
abbrev S1024x4672 : Shape := ⟨2, ![1024, 4672]⟩
abbrev S1024 : Shape := ⟨1, ![1024]⟩
abbrev S1x1024 : Shape := ⟨2, ![1, 1024]⟩
abbrev S8192x2048 : Shape := ⟨2, ![8192, 2048]⟩
abbrev S8192x4096 : Shape := ⟨2, ![8192, 4096]⟩
abbrev S8192x576 : Shape := ⟨2, ![8192, 576]⟩
abbrev S_ : Shape := ⟨0, ![]⟩
abbrev S8192x64 : Shape := ⟨2, ![8192, 64]⟩
abbrev S8192x640 : Shape := ⟨2, ![8192, 640]⟩
abbrev S1024x2048 : Shape := ⟨2, ![1024, 2048]⟩
abbrev S1024x4096 : Shape := ⟨2, ![1024, 4096]⟩
abbrev S1024x576 : Shape := ⟨2, ![1024, 576]⟩
abbrev S1024x64 : Shape := ⟨2, ![1024, 64]⟩
abbrev S1024x640 : Shape := ⟨2, ![1024, 640]⟩
abbrev S16x1x1024 : Shape := ⟨3, ![16, 1, 1024]⟩
abbrev S512x4096 : Shape := ⟨2, ![512, 4096]⟩
abbrev S512x640 : Shape := ⟨2, ![512, 640]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 26
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4672, .f32⟩
  | .hbm, ⟨3, _⟩ => ⟨S1024x4672, .f32⟩
  | .hbm, ⟨4, _⟩ => ⟨S1024, .f32⟩
  | .hbm, ⟨5, _⟩ => ⟨S8192x4672, .bf16⟩
  | .hbm, ⟨6, _⟩ => ⟨S1024x4672, .bf16⟩
  | .hbm, ⟨7, _⟩ => ⟨S1x1024, .f32⟩
  | .hbm, ⟨8, _⟩ => ⟨S8192x2048, .bf16⟩
  | .hbm, ⟨9, _⟩ => ⟨S8192x2048, .bf16⟩
  | .hbm, ⟨10, _⟩ => ⟨S8192x4096, .bf16⟩
  | .hbm, ⟨11, _⟩ => ⟨S8192x576, .bf16⟩
  | .hbm, ⟨12, _⟩ => ⟨S_, .bf16⟩
  | .hbm, ⟨13, _⟩ => ⟨S8192x64, .bf16⟩
  | .hbm, ⟨14, _⟩ => ⟨S8192x640, .bf16⟩
  | .hbm, ⟨15, _⟩ => ⟨S1024x2048, .bf16⟩
  | .hbm, ⟨16, _⟩ => ⟨S1024x2048, .bf16⟩
  | .hbm, ⟨17, _⟩ => ⟨S1024x4096, .bf16⟩
  | .hbm, ⟨18, _⟩ => ⟨S1024x576, .bf16⟩
  | .hbm, ⟨19, _⟩ => ⟨S_, .bf16⟩
  | .hbm, ⟨20, _⟩ => ⟨S1024x64, .bf16⟩
  | .hbm, ⟨21, _⟩ => ⟨S1024x640, .bf16⟩
  | .hbm, ⟨22, _⟩ => ⟨S8192x1024, .f32⟩
  | .hbm, ⟨23, _⟩ => ⟨S16x1x1024, .f32⟩
  | .hbm, ⟨24, _⟩ => ⟨S_, .f32⟩
  | .hbm, ⟨25, _⟩ => ⟨S1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x640, .bf16⟩
  | .local _ .vmem, ⟨4, _⟩ => ⟨S512x640, .bf16⟩
  | .local _ .vmem, ⟨5, _⟩ => ⟨S1024x640, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1x1024, .f32⟩
  | .local _ .vmem, ⟨14, _⟩ => ⟨S1x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_cst_1 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference3Ideal.lean ====
abbrev S8192x1024 : Shape := ⟨2, ![8192, 1024]⟩
abbrev S8192x4672 : Shape := ⟨2, ![8192, 4672]⟩
abbrev S1024x4672 : Shape := ⟨2, ![1024, 4672]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4672, .f32⟩
  | .hbm, ⟨3, _⟩ => ⟨S1024x4672, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4672, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel4.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S16x1x1024 : Shape := ⟨3, ![16, 1, 1024]⟩
abbrev S512x4096 : Shape := ⟨2, ![512, 4096]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S16x1x1 : Shape := ⟨3, ![16, 1, 1]⟩
abbrev S16 : Shape := ⟨1, ![16]⟩
abbrev S_ : Shape := ⟨0, ![]⟩

abbrev nBuf : Space → Nat
  | .hbm => 18
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x4096, .bf16⟩
  | .hbm, ⟨6, _⟩ => ⟨S4096x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S16x1x1024, .f32⟩
  | .hbm, ⟨11, _⟩ => ⟨S16x1x1024, .f32⟩
  | .hbm, ⟨12, _⟩ => ⟨S16x1x1, .f32⟩
  | .hbm, ⟨13, _⟩ => ⟨S16, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference4Ideal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S8192x3072 : Shape := ⟨2, ![8192, 3072]⟩
abbrev S8192x4096 : Shape := ⟨2, ![8192, 4096]⟩
abbrev S8192x128 : Shape := ⟨2, ![8192, 128]⟩
abbrev S512x1024 : Shape := ⟨2, ![512, 1024]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S512x3072 : Shape := ⟨2, ![512, 3072]⟩
abbrev S8192x8 : Shape := ⟨2, ![8192, 8]⟩

abbrev nBuf : Space → Nat
  | .hbm => 18
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .bf16⟩
  | .hbm, ⟨8, _⟩ => ⟨S1024x1024, .bf16⟩
  | .hbm, ⟨9, _⟩ => ⟨S8192x1024, .bf16⟩
  | .hbm, ⟨10, _⟩ => ⟨S8192x3072, .f32⟩
  | .hbm, ⟨11, _⟩ => ⟨S8192x3072, .bf16⟩
  | .hbm, ⟨12, _⟩ => ⟨S8192x1024, .f32⟩
  | .hbm, ⟨13, _⟩ => ⟨S8192x4096, .bf16⟩
  | .hbm, ⟨14, _⟩ => ⟨S8192x1024, .bf16⟩
  | .hbm, ⟨15, _⟩ => ⟨S8192x128, .f32⟩
  | .hbm, ⟨16, _⟩ => ⟨S8192x3072, .bf16⟩
  | .hbm, ⟨17, _⟩ => ⟨S8192x8, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x4096, .bf16⟩
  | .local _ .vmem, ⟨16, _⟩ => ⟨S512x4096, .bf16⟩
  | .local _ .vmem, ⟨17, _⟩ => ⟨S512x1024, .bf16⟩
  | .local _ .vmem, ⟨18, _⟩ => ⟨S512x1024, .bf16⟩
  | .local _ .vmem, ⟨19, _⟩ => ⟨S512x128, .f32⟩
  | .local _ .vmem, ⟨20, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg1.toNat, c2_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]
-- ==== Kernel5Ideal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== Reference5Ideal.lean ====
abbrev S8192x1024 : Shape := ⟨2, ![8192, 1024]⟩
abbrev S1024x1024 : Shape := ⟨2, ![1024, 1024]⟩
abbrev S8192x8x128 : Shape := ⟨3, ![8192, 8, 128]⟩
abbrev S_ : Shape := ⟨0, ![]⟩
abbrev S8192x8 : Shape := ⟨2, ![8192, 8]⟩
abbrev S8192x3072 : Shape := ⟨2, ![8192, 3072]⟩

abbrev nBuf : Space → Nat
  | .hbm => 19
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x8x128, .f32⟩
  | .hbm, ⟨14, _⟩ => ⟨S_, .f32⟩
  | .hbm, ⟨15, _⟩ => ⟨S8192x8, .f32⟩
  | .hbm, ⟨16, _⟩ => ⟨S8192x3072, .f32⟩
  | .hbm, ⟨17, _⟩ => ⟨S8192x3072, .bf16⟩
  | .hbm, ⟨18, _⟩ => ⟨S8192x1024, .bf16⟩
  | .local _ .vmem, ⟨0, _⟩ => ⟨S8192x1024, .f32⟩
  | .local _ .vmem, ⟨1, _⟩ => ⟨S8192x1024, .f32⟩
  | .local _ .vmem, ⟨2, _⟩ => ⟨S8192x1024, .f32⟩
  | .local _ .vmem, ⟨3, _⟩ => ⟨S8192x1024, .f32⟩
  | .local _ .vmem, ⟨4, _⟩ => ⟨S8192x1024, .f32⟩
  | .local _ .vmem, ⟨5, _⟩ => ⟨S1024x1024, .f32⟩
  | .local _ .vmem, ⟨6, _⟩ => ⟨S8192x1024, .f32⟩
  | .local _ .vmem, ⟨7, _⟩ => ⟨S8192x1024, .f32⟩
  | .local _ .vmem, ⟨8, _⟩ => ⟨S8192x1024, .f32⟩
  | .local _ .vmem, ⟨9, _⟩ => ⟨S8192x1024, .f32⟩
  | .local _ .vmem, ⟨10, _⟩ => ⟨S8192x1024, .f32⟩
  | .local _ .vmem, ⟨11, _⟩ => ⟨S8192x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "gelu_c" => some ((8943 / 200000 : ℝ) : EReal)
  | _ => none

abbrev grid0 : Pipeline.Grid := .none

abbrev stage0_0 : Fin 1 → Memref sig .tc .vmem S8192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Kernel6.lean ====
abbrev S8192x8x192 : Shape := ⟨3, ![8192, 8, 192]⟩
abbrev S8192x8x128 : Shape := ⟨3, ![8192, 8, 128]⟩
abbrev S36 : Shape := ⟨1, ![36]⟩
abbrev S_ : Shape := ⟨0, ![]⟩
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x1x8192 : Shape := ⟨3, ![8, 1, 8192]⟩
abbrev S8192x8 : Shape := ⟨2, ![8192, 8]⟩
abbrev S8x8192x192 : Shape := ⟨3, ![8, 8192, 192]⟩
abbrev S8x8192x256 : Shape := ⟨3, ![8, 8192, 256]⟩
abbrev S8x8192x128 : Shape := ⟨3, ![8, 8192, 128]⟩
abbrev S8192x1024 : Shape := ⟨2, ![8192, 1024]⟩
abbrev S1x1024x256 : Shape := ⟨3, ![1, 1024, 256]⟩
abbrev S1 : Shape := ⟨1, ![1]⟩
abbrev S1x1024x128 : Shape := ⟨3, ![1, 1024, 128]⟩
abbrev S1024x128 : Shape := ⟨2, ![1024, 128]⟩
abbrev S1x1x1024 : Shape := ⟨3, ![1, 1, 1024]⟩
abbrev S1x8192x256 : Shape := ⟨3, ![1, 8192, 256]⟩
abbrev S1024x256 : Shape := ⟨2, ![1024, 256]⟩
abbrev S8192x256 : Shape := ⟨2, ![8192, 256]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩
abbrev S512x1024 : Shape := ⟨2, ![512, 1024]⟩
abbrev S1x1024 : Shape := ⟨2, ![1, 1024]⟩
abbrev S512x512 : Shape := ⟨2, ![512, 512]⟩
abbrev S1x512 : Shape := ⟨2, ![1, 512]⟩
abbrev S1024x1024 : Shape := ⟨2, ![1024, 1024]⟩

abbrev nBuf : Space → Nat
  | .hbm => 67
  | .vmem => 21
  | .smem => 2
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x8x128, .f32⟩
  | .hbm, ⟨4, _⟩ => ⟨S_, .f32⟩
  | .hbm, ⟨5, _⟩ => ⟨S8192x8x192, .f32⟩
  | .hbm, ⟨6, _⟩ => ⟨S8192x8x192, .f32⟩
  | .hbm, ⟨7, _⟩ => ⟨S8x8192x8192, .f32⟩
  | .hbm, ⟨8, _⟩ => ⟨S8192, .i32⟩
  | .hbm, ⟨9, _⟩ => ⟨S8192x1, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x128x8192, .f32⟩
  | .hbm, ⟨31, _⟩ => ⟨S8192x8x128, .f32⟩
  | .hbm, ⟨32, _⟩ => ⟨S8x8192x1, .f32⟩
  | .hbm, ⟨33, _⟩ => ⟨S8x8192x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8x8192x1, .f32⟩
  | .hbm, ⟨38, _⟩ => ⟨S8x8192x1, .f32⟩
  | .hbm, ⟨39, _⟩ => ⟨S8x1x8192, .f32⟩
  | .hbm, ⟨40, _⟩ => ⟨S8192x8x128, .f32⟩
  | .hbm, ⟨41, _⟩ => ⟨S_, .f32⟩
  | .hbm, ⟨42, _⟩ => ⟨S8192x8, .f32⟩
  | .hbm, ⟨43, _⟩ => ⟨S8x8192, .f32⟩
  | .hbm, ⟨44, _⟩ => ⟨S8x1x8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192x8x192, .f32⟩
  | .hbm, ⟨49, _⟩ => ⟨S8192x8x192, .f32⟩
  | .hbm, ⟨50, _⟩ => ⟨S8x8192x192, .f32⟩
  | .hbm, ⟨51, _⟩ => ⟨S_, .i32⟩
  | .hbm, ⟨52, _⟩ => ⟨S_, .f32⟩
  | .hbm, ⟨53, _⟩ => ⟨S8x8192x256, .f32⟩
  | .hbm, ⟨54, _⟩ => ⟨S8x8192x256, .bf16⟩
  | .hbm, ⟨55, _⟩ => ⟨S8x8192x192, .f32⟩
  | .hbm, ⟨56, _⟩ => ⟨S_, .i32⟩
  | .hbm, ⟨57, _⟩ => ⟨S_, .f32⟩
  | .hbm, ⟨58, _⟩ => ⟨S8x8192x256, .f32⟩
  | .hbm, ⟨59, _⟩ => ⟨S8x8192x256, .bf16⟩
  | .hbm, ⟨60, _⟩ => ⟨S8x8192x128, .f32⟩
  | .hbm, ⟨61, _⟩ => ⟨S8x8192x128, .bf16⟩
  | .hbm, ⟨62, _⟩ => ⟨S8192x1024, .f32⟩
  | .hbm, ⟨63, _⟩ => ⟨S8192x1024, .bf16⟩
  | .hbm, ⟨64, _⟩ => ⟨S8x8192x256, .bf16⟩
  | .hbm, ⟨65, _⟩ => ⟨S8x8192x256, .bf16⟩
  | .hbm, ⟨66, _⟩ => ⟨S8x8192x128, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x128, .bf16⟩
  | .local _ .vmem, ⟨5, _⟩ => ⟨S1x1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x8192x256, .bf16⟩
  | .local _ .vmem, ⟨13, _⟩ => ⟨S1x8192x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x128, .bf16⟩
  | .local _ .vmem, ⟨17, _⟩ => ⟨S1x1024x128, .bf16⟩
  | .local _ .vmem, ⟨18, _⟩ => ⟨S1024x256, .f32⟩
  | .local _ .vmem, ⟨19, _⟩ => ⟨S1024x128, .f32⟩
  | .local _ .vmem, ⟨20, _⟩ => ⟨S8192x256, .f32⟩
  | .local _ .smem, ⟨0, _⟩ => ⟨S36, .i32⟩
  | .local _ .smem, ⟨1, _⟩ => ⟨S36, .i32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_call1_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_call2_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46_0 : Ref sig .tc := ⟨.hbm, 64, rfl⟩
abbrev main_v46_1 : Ref sig .tc := ⟨.hbm, 65, rfl⟩
abbrev main_v46_2 : Ref sig .tc := ⟨.hbm, 66, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v52 : BitVec 32 := Scalar.muli v1 c1024_i32
  let c0_i32_27 : BitVec 32 := 0#32
  let v53 : BitVec 32 := Scalar.addi v52 c0_i32_27
  v53
def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def k0_off2 (v1 : BitVec 32) : Fin 2 → Nat :=
  let c1024_i32 : BitVec 32 := 1024#32
  let v52 : BitVec 32 := Scalar.muli v1 c1024_i32
  let c0_i32_27 : BitVec 32 := 0#32
  let v53 : BitVec 32 := Scalar.addi v52 c0_i32_27
  let v54 : BitVec 32 := v53
  let v55 : Index := Scalar.indexCast v54
  let c0_28 : Index := 0#32
  ![v55.toNat, 0]
def k0_mult2 (v1 : BitVec 32) : BitVec 32 :=
  let c1024_i32_57 : BitVec 32 := 1024#32
  let v104 : BitVec 32 := Scalar.muli v1 c1024_i32_57
  let c512_i32_58 : BitVec 32 := 512#32
  let v105 : BitVec 32 := Scalar.addi v104 c512_i32_58
  v105
def k0_off3 (v1 : BitVec 32) : Fin 2 → Nat :=
  let c1024_i32_57 : BitVec 32 := 1024#32
  let v104 : BitVec 32 := Scalar.muli v1 c1024_i32_57
  let c512_i32_58 : BitVec 32 := 512#32
  let v105 : BitVec 32 := Scalar.addi v104 c512_i32_58
  let v106 : BitVec 32 := v105
  let v107 : Index := Scalar.indexCast v106
  let c0_59 : Index := 0#32
  ![v107.toNat, 0]
def k0_mult3 (v1 : BitVec 32) : BitVec 32 :=
  let c1024_i32 : BitVec 32 := 1024#32
  let v43 : BitVec 32 := Scalar.muli v1 c1024_i32
  let c0_i32_24 : BitVec 32 := 0#32
  let v44 : BitVec 32 := Scalar.addi v43 c0_i32_24
  v44
def k0_cond3 (v1 : BitVec 32) (v3 : BitVec 32) : BitVec 1 :=
  let v10 : BitVec 1 := Scalar.cmpi .ne v1 v3
  let v11 : BitVec 32 := Scalar.extui v10
  let c0_i32_2 : BitVec 32 := 0#32
  let v12 : BitVec 1 := Scalar.cmpi .ne v11 c0_i32_2
  v12

def k0_off4 (v1 : BitVec 32) : Fin 2 → Nat :=
  let c1024_i32 : BitVec 32 := 1024#32
  let v43 : BitVec 32 := Scalar.muli v1 c1024_i32
  let c0_i32_24 : BitVec 32 := 0#32
  let v44 : BitVec 32 := Scalar.addi v43 c0_i32_24
  let v45 : BitVec 32 := v44
  let v46 : Index := Scalar.indexCast v45
  let c0_25 : Index := 0#32
  ![v46.toNat, 0]

def k0_chk1 (v1 : BitVec 32) (v3 : BitVec 32) : Prop :=
  (∀ (k0_h2 : k0_cond2 v1 v3 = 1#1), 128 ∣ (k0_mult1 v1).toNat) ∧
  (∀ (k0_h2 : k0_cond2 v1 v3 = 1#1), ∀ a, (k0_off2 v1) a + S1024x256.size a ≤ S8192x256.size a) ∧
  (∀ (k0_h2 : k0_cond2 v1 v3 = 1#1), 128 ∣ (k0_mult2 v1).toNat) ∧
  (∀ (k0_h2 : k0_cond2 v1 v3 = 1#1), ∀ a, (k0_off3 v1) a + S512x256.size a ≤ S8192x256.size a) ∧
  (∀ (k0_h3 : k0_cond3 v1 v3 = 1#1), 128 ∣ (k0_mult3 v1).toNat) ∧
  (∀ (k0_h3 : k0_cond3 v1 v3 = 1#1), ∀ a, (k0_off4 v1) a + S1024x256.size a ≤ S8192x256.size a)
theorem k0_mult1_dvd : ∀ (v1 : BitVec 32) (v3 : BitVec 32) (k0_hw1 : k0_chk1 v1 v3), ∀ (k0_h2 : k0_cond2 v1 v3 = 1#1), 128 ∣ (k0_mult1 v1).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ a, (k0_off2 v1) a + S1024x256.size a ≤ S8192x256.size a := fun v1 v3 k0_hw1 k0_h2 => k0_hw1.2.1 k0_h2
theorem k0_mult2_dvd : ∀ (v1 : BitVec 32) (v3 : BitVec 32) (k0_hw1 : k0_chk1 v1 v3), ∀ (k0_h2 : k0_cond2 v1 v3 = 1#1), 128 ∣ (k0_mult2 v1).toNat := fun v1 v3 k0_hw1 k0_h2 => k0_hw1.2.2.1 k0_h2
theorem k0_off3_inb : ∀ (v1 : BitVec 32) (v3 : BitVec 32) (k0_hw1 : k0_chk1 v1 v3), ∀ (k0_h2 : k0_cond2 v1 v3 = 1#1), ∀ a, (k0_off3 v1) a + S512x256.size a ≤ S8192x256.size a := fun v1 v3 k0_hw1 k0_h2 => k0_hw1.2.2.2.1 k0_h2
theorem k0_mult3_dvd : ∀ (v1 : BitVec 32) (v3 : BitVec 32) (k0_hw1 : k0_chk1 v1 v3), ∀ (k0_h3 : k0_cond3 v1 v3 = 1#1), 128 ∣ (k0_mult3 v1).toNat := fun v1 v3 k0_hw1 k0_h3 => k0_hw1.2.2.2.2.1 k0_h3
theorem k0_off4_inb : ∀ (v1 : BitVec 32) (v3 : BitVec 32) (k0_hw1 : k0_chk1 v1 v3), ∀ (k0_h3 : k0_cond3 v1 v3 = 1#1), ∀ a, (k0_off4 v1) a + S1024x256.size a ≤ S8192x256.size a := fun v1 v3 k0_hw1 k0_h3 => k0_hw1.2.2.2.2.2 k0_h3

def k0_cond5 (i : grid0.Coords) : BitVec 1 :=
  let arg1 : BitVec 32 := BitVec.ofNat 32 (i 1).val
  let c35_i32 : BitVec 32 := 35#32
  let v16 : BitVec 1 := Scalar.cmpi .eq arg1 c35_i32
  let v17 : BitVec 32 := Scalar.extui v16
  let c0_i32_4 : BitVec 32 := 0#32
  let v18 : BitVec 1 := Scalar.cmpi .ne v17 c0_i32_4
  v18

def k0_cond4 (v1 : BitVec 32) : BitVec 1 :=
  let c7_i32 : BitVec 32 := 7#32
  let v13 : BitVec 1 := Scalar.cmpi .eq v1 c7_i32
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel6Ideal.lean ====
variable {F : FTy → Type} [FloatOps F] [Named F]
def κ : String → Option EReal := fun
  | "ln2" => some ((Real.log 2 : ℝ) : EReal)
  | "mask" => some ⊥
  | _ => none
-- ==== Reference6Ideal.lean ====
abbrev S8192x8x192 : Shape := ⟨3, ![8192, 8, 192]⟩
abbrev S8192x8x128 : Shape := ⟨3, ![8192, 8, 128]⟩
abbrev S_ : Shape := ⟨0, ![]⟩
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8x8192x256 : Shape := ⟨3, ![8, 8192, 256]⟩
abbrev S8x8192x128 : Shape := ⟨3, ![8, 8192, 128]⟩

abbrev nBuf : Space → Nat
  | .hbm => 98
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x8x128, .f32⟩
  | .hbm, ⟨4, _⟩ => ⟨S_, .f32⟩
  | .hbm, ⟨5, _⟩ => ⟨S8192x8x192, .f32⟩
  | .hbm, ⟨6, _⟩ => ⟨S8192x8x192, .f32⟩
  | .hbm, ⟨7, _⟩ => ⟨S8x8192x8192, .f32⟩
  | .hbm, ⟨8, _⟩ => ⟨S8192, .i32⟩
  | .hbm, ⟨9, _⟩ => ⟨S8192x1, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .i1⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S8x128x8192, .f32⟩
  | .hbm, ⟨60, _⟩ => ⟨S8192x8x128, .f32⟩
  | .hbm, ⟨61, _⟩ => ⟨S8x128x8192, .f32⟩
  | .hbm, ⟨62, _⟩ => ⟨S8x8192x8192, .f32⟩
  | .hbm, ⟨63, _⟩ => ⟨S8x128x8192, .f32⟩
  | .hbm, ⟨64, _⟩ => ⟨S8192x8x128, .f32⟩
  | .hbm, ⟨65, _⟩ => ⟨S8x8192x8192, .f32⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S8x8192, .f32⟩
  | .hbm, ⟨70, _⟩ => ⟨S8x8192x1, .f32⟩
  | .hbm, ⟨71, _⟩ => ⟨S8x8192x1, .f32⟩
  | .hbm, ⟨72, _⟩ => ⟨S8x8192x8192, .f32⟩
  | .hbm, ⟨73, _⟩ => ⟨S8x8192x8192, .f32⟩
  | .hbm, ⟨74, _⟩ => ⟨S_, .f32⟩
  | .hbm, ⟨75, _⟩ => ⟨S8x8192, .f32⟩
  | .hbm, ⟨76, _⟩ => ⟨S8x8192x8192, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192x8192, .f32⟩
  | .hbm, ⟨81, _⟩ => ⟨S8x8192x8192, .f32⟩
  | .hbm, ⟨82, _⟩ => ⟨S8x8192x192, .f32⟩
  | .hbm, ⟨83, _⟩ => ⟨S8192x8x192, .f32⟩
  | .hbm, ⟨84, _⟩ => ⟨S8x8192x192, .f32⟩
  | .hbm, ⟨85, _⟩ => ⟨S8192x8x192, .f32⟩
  | .hbm, ⟨86, _⟩ => ⟨S8x8192x192, .f32⟩
  | .hbm, ⟨87, _⟩ => ⟨S_, .i32⟩
  | .hbm, ⟨88, _⟩ => ⟨S_, .f32⟩
  | .hbm, ⟨89, _⟩ => ⟨S8x8192x256, .f32⟩
  | .hbm, ⟨90, _⟩ => ⟨S8x8192x256, .bf16⟩
  | .hbm, ⟨91, _⟩ => ⟨S8x8192x192, .f32⟩
  | .hbm, ⟨92, _⟩ => ⟨S_, .i32⟩
  | .hbm, ⟨93, _⟩ => ⟨S_, .f32⟩
  | .hbm, ⟨94, _⟩ => ⟨S8x8192x256, .f32⟩
  | .hbm, ⟨95, _⟩ => ⟨S8x8192x256, .bf16⟩
  | .hbm, ⟨96, _⟩ => ⟨S8x8192x128, .f32⟩
  | .hbm, ⟨97, _⟩ => ⟨S8x8192x128, .bf16⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_call2_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_call3_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]
-- ==== Kernel7.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .hbm, ⟨5, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S1024x584 : Shape := ⟨2, ![1024, 584]⟩
abbrev S8x1024x584 : Shape := ⟨3, ![8, 1024, 584]⟩
abbrev S256x584 : Shape := ⟨2, ![256, 584]⟩
abbrev S8x256x584 : Shape := ⟨3, ![8, 256, 584]⟩
abbrev S1x256x584 : Shape := ⟨3, ![1, 256, 584]⟩

abbrev nBuf : Space → Nat
  | .hbm => 9
  | .vmem => 16
  | .smem => 0
  | _ => 0

abbrev bufTy : (tb : Table) → Fin (tcTables nBuf tb) → BufTy
  | .hbm, ⟨0, _⟩ => ⟨S1024x584, .f32⟩
  | .hbm, ⟨1, _⟩ => ⟨S1024x584, .f32⟩
  | .hbm, ⟨2, _⟩ => ⟨S1024x584, .f32⟩
  | .hbm, ⟨3, _⟩ => ⟨S8x1024x584, .f32⟩
  | .hbm, ⟨4, _⟩ => ⟨S8x1024x584, .bf16⟩
  | .hbm, ⟨5, _⟩ => ⟨S1024x584, .f32⟩
  | .hbm, ⟨6, _⟩ => ⟨S1024x584, .f32⟩
  | .hbm, ⟨7, _⟩ => ⟨S1024x584, .f32⟩
  | .hbm, ⟨8, _⟩ => ⟨S1024x584, .f32⟩
  | .local _ .vmem, ⟨0, _⟩ => ⟨S256x584, .f32⟩
  | .local _ .vmem, ⟨1, _⟩ => ⟨S256x584, .f32⟩
  | .local _ .vmem, ⟨2, _⟩ => ⟨S256x584, .f32⟩
  | .local _ .vmem, ⟨3, _⟩ => ⟨S256x584, .f32⟩
  | .local _ .vmem, ⟨4, _⟩ => ⟨S256x584, .f32⟩
  | .local _ .vmem, ⟨5, _⟩ => ⟨S256x584, .f32⟩
  | .local _ .vmem, ⟨6, _⟩ => ⟨S8x256x584, .bf16⟩
  | .local _ .vmem, ⟨7, _⟩ => ⟨S8x256x584, .bf16⟩
  | .local _ .vmem, ⟨8, _⟩ => ⟨S256x584, .f32⟩
  | .local _ .vmem, ⟨9, _⟩ => ⟨S256x584, .f32⟩
  | .local _ .vmem, ⟨10, _⟩ => ⟨S256x584, .f32⟩
  | .local _ .vmem, ⟨11, _⟩ => ⟨S256x584, .f32⟩
  | .local _ .vmem, ⟨12, _⟩ => ⟨S256x584, .f32⟩
  | .local _ .vmem, ⟨13, _⟩ => ⟨S256x584, .f32⟩
  | .local _ .vmem, ⟨14, _⟩ => ⟨S256x584, .f32⟩
  | .local _ .vmem, ⟨15, _⟩ => ⟨S256x584, .f32⟩
  | _, _ => ⟨S1024x584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x584 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S1024x584 : Shape := ⟨2, ![1024, 584]⟩
abbrev S8x1024x584 : Shape := ⟨3, ![8, 1024, 584]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x584, .f32⟩
  | .hbm, ⟨1, _⟩ => ⟨S1024x584, .f32⟩
  | .hbm, ⟨2, _⟩ => ⟨S1024x584, .f32⟩
  | .hbm, ⟨3, _⟩ => ⟨S8x1024x584, .f32⟩
  | .hbm, ⟨4, _⟩ => ⟨S_, .f32⟩
  | .hbm, ⟨5, _⟩ => ⟨S1024x584, .f32⟩
  | .hbm, ⟨6, _⟩ => ⟨S_, .f32⟩
  | .hbm, ⟨7, _⟩ => ⟨S1024x584, .f32⟩
  | .hbm, ⟨8, _⟩ => ⟨S1024x584, .f32⟩
  | .hbm, ⟨9, _⟩ => ⟨S_, .f32⟩
  | .hbm, ⟨10, _⟩ => ⟨S1024x584, .f32⟩
  | .hbm, ⟨11, _⟩ => ⟨S1024x584, .f32⟩
  | .hbm, ⟨12, _⟩ => ⟨S1024x584, .f32⟩
  | .hbm, ⟨13, _⟩ => ⟨S_, .f32⟩
  | .hbm, ⟨14, _⟩ => ⟨S1024x584, .f32⟩
  | .hbm, ⟨15, _⟩ => ⟨S1024x584, .f32⟩
  | .hbm, ⟨16, _⟩ => ⟨S1024x584, .f32⟩
  | .hbm, ⟨17, _⟩ => ⟨S_, .f32⟩
  | .hbm, ⟨18, _⟩ => ⟨S1024x584, .f32⟩
  | .hbm, ⟨19, _⟩ => ⟨S1024x584, .f32⟩
  | .hbm, ⟨20, _⟩ => ⟨S1024x584, .f32⟩
  | .hbm, ⟨21, _⟩ => ⟨S_, .f32⟩
  | .hbm, ⟨22, _⟩ => ⟨S1024x584, .f32⟩
  | .hbm, ⟨23, _⟩ => ⟨S1024x584, .f32⟩
  | .hbm, ⟨24, _⟩ => ⟨S_, .f32⟩
  | .hbm, ⟨25, _⟩ => ⟨S1024x584, .f32⟩
  | .hbm, ⟨26, _⟩ => ⟨S1024x584, .f32⟩
  | .hbm, ⟨27, _⟩ => ⟨S1024x584, .f32⟩
  | .hbm, ⟨28, _⟩ => ⟨S_, .f32⟩
  | .hbm, ⟨29, _⟩ => ⟨S1024x584, .f32⟩
  | .hbm, ⟨30, _⟩ => ⟨S1024x584, .f32⟩
  | .hbm, ⟨31, _⟩ => ⟨S1024x584, .f32⟩
  | .hbm, ⟨32, _⟩ => ⟨S_, .f32⟩
  | .hbm, ⟨33, _⟩ => ⟨S1024x584, .f32⟩
  | .hbm, ⟨34, _⟩ => ⟨S1024x584, .f32⟩
  | .hbm, ⟨35, _⟩ => ⟨S1024x584, .f32⟩
  | .hbm, ⟨36, _⟩ => ⟨S_, .f32⟩
  | .hbm, ⟨37, _⟩ => ⟨S1024x584, .f32⟩
  | .hbm, ⟨38, _⟩ => ⟨S1024x584, .f32⟩
  | _, _ => ⟨S1024x584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S256x192 : Shape := ⟨2, ![256, 192]⟩
abbrev S8x256x192 : Shape := ⟨3, ![8, 256, 192]⟩
abbrev S128x192 : Shape := ⟨2, ![128, 192]⟩
abbrev S8x128x192 : Shape := ⟨3, ![8, 128, 192]⟩
abbrev S1x128x192 : Shape := ⟨3, ![1, 128, 192]⟩

abbrev nBuf : Space → Nat
  | .hbm => 9
  | .vmem => 16
  | .smem => 0
  | _ => 0

abbrev bufTy : (tb : Table) → Fin (tcTables nBuf tb) → BufTy
  | .hbm, ⟨0, _⟩ => ⟨S256x192, .f32⟩
  | .hbm, ⟨1, _⟩ => ⟨S256x192, .f32⟩
  | .hbm, ⟨2, _⟩ => ⟨S256x192, .f32⟩
  | .hbm, ⟨3, _⟩ => ⟨S8x256x192, .f32⟩
  | .hbm, ⟨4, _⟩ => ⟨S8x256x192, .bf16⟩
  | .hbm, ⟨5, _⟩ => ⟨S256x192, .f32⟩
  | .hbm, ⟨6, _⟩ => ⟨S256x192, .f32⟩
  | .hbm, ⟨7, _⟩ => ⟨S256x192, .f32⟩
  | .hbm, ⟨8, _⟩ => ⟨S256x192, .f32⟩
  | .local _ .vmem, ⟨0, _⟩ => ⟨S128x192, .f32⟩
  | .local _ .vmem, ⟨1, _⟩ => ⟨S128x192, .f32⟩
  | .local _ .vmem, ⟨2, _⟩ => ⟨S128x192, .f32⟩
  | .local _ .vmem, ⟨3, _⟩ => ⟨S128x192, .f32⟩
  | .local _ .vmem, ⟨4, _⟩ => ⟨S128x192, .f32⟩
  | .local _ .vmem, ⟨5, _⟩ => ⟨S128x192, .f32⟩
  | .local _ .vmem, ⟨6, _⟩ => ⟨S8x128x192, .bf16⟩
  | .local _ .vmem, ⟨7, _⟩ => ⟨S8x128x192, .bf16⟩
  | .local _ .vmem, ⟨8, _⟩ => ⟨S128x192, .f32⟩
  | .local _ .vmem, ⟨9, _⟩ => ⟨S128x192, .f32⟩
  | .local _ .vmem, ⟨10, _⟩ => ⟨S128x192, .f32⟩
  | .local _ .vmem, ⟨11, _⟩ => ⟨S128x192, .f32⟩
  | .local _ .vmem, ⟨12, _⟩ => ⟨S128x192, .f32⟩
  | .local _ .vmem, ⟨13, _⟩ => ⟨S128x192, .f32⟩
  | .local _ .vmem, ⟨14, _⟩ => ⟨S128x192, .f32⟩
  | .local _ .vmem, ⟨15, _⟩ => ⟨S128x192, .f32⟩
  | _, _ => ⟨S256x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S256x192 : Shape := ⟨2, ![256, 192]⟩
abbrev S8x256x192 : Shape := ⟨3, ![8, 256, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x192, .f32⟩
  | .hbm, ⟨1, _⟩ => ⟨S256x192, .f32⟩
  | .hbm, ⟨2, _⟩ => ⟨S256x192, .f32⟩
  | .hbm, ⟨3, _⟩ => ⟨S8x256x192, .f32⟩
  | .hbm, ⟨4, _⟩ => ⟨S_, .f32⟩
  | .hbm, ⟨5, _⟩ => ⟨S256x192, .f32⟩
  | .hbm, ⟨6, _⟩ => ⟨S_, .f32⟩
  | .hbm, ⟨7, _⟩ => ⟨S256x192, .f32⟩
  | .hbm, ⟨8, _⟩ => ⟨S256x192, .f32⟩
  | .hbm, ⟨9, _⟩ => ⟨S_, .f32⟩
  | .hbm, ⟨10, _⟩ => ⟨S256x192, .f32⟩
  | .hbm, ⟨11, _⟩ => ⟨S256x192, .f32⟩
  | .hbm, ⟨12, _⟩ => ⟨S256x192, .f32⟩
  | .hbm, ⟨13, _⟩ => ⟨S_, .f32⟩
  | .hbm, ⟨14, _⟩ => ⟨S256x192, .f32⟩
  | .hbm, ⟨15, _⟩ => ⟨S256x192, .f32⟩
  | .hbm, ⟨16, _⟩ => ⟨S256x192, .f32⟩
  | .hbm, ⟨17, _⟩ => ⟨S_, .f32⟩
  | .hbm, ⟨18, _⟩ => ⟨S256x192, .f32⟩
  | .hbm, ⟨19, _⟩ => ⟨S256x192, .f32⟩
  | .hbm, ⟨20, _⟩ => ⟨S256x192, .f32⟩
  | .hbm, ⟨21, _⟩ => ⟨S_, .f32⟩
  | .hbm, ⟨22, _⟩ => ⟨S256x192, .f32⟩
  | .hbm, ⟨23, _⟩ => ⟨S256x192, .f32⟩
  | .hbm, ⟨24, _⟩ => ⟨S_, .f32⟩
  | .hbm, ⟨25, _⟩ => ⟨S256x192, .f32⟩
  | .hbm, ⟨26, _⟩ => ⟨S256x192, .f32⟩
  | .hbm, ⟨27, _⟩ => ⟨S256x192, .f32⟩
  | .hbm, ⟨28, _⟩ => ⟨S_, .f32⟩
  | .hbm, ⟨29, _⟩ => ⟨S256x192, .f32⟩
  | .hbm, ⟨30, _⟩ => ⟨S256x192, .f32⟩
  | .hbm, ⟨31, _⟩ => ⟨S256x192, .f32⟩
  | .hbm, ⟨32, _⟩ => ⟨S_, .f32⟩
  | .hbm, ⟨33, _⟩ => ⟨S256x192, .f32⟩
  | .hbm, ⟨34, _⟩ => ⟨S256x192, .f32⟩
  | .hbm, ⟨35, _⟩ => ⟨S256x192, .f32⟩
  | .hbm, ⟨36, _⟩ => ⟨S_, .f32⟩
  | .hbm, ⟨37, _⟩ => ⟨S256x192, .f32⟩
  | .hbm, ⟨38, _⟩ => ⟨S256x192, .f32⟩
  | _, _ => ⟨S256x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel11.lean ====
abbrev S256x256 : Shape := ⟨2, ![256, 256]⟩
abbrev S8x256x256 : Shape := ⟨3, ![8, 256, 256]⟩
abbrev S128x256 : Shape := ⟨2, ![128, 256]⟩
abbrev S8x128x256 : Shape := ⟨3, ![8, 128, 256]⟩
abbrev S1x128x256 : Shape := ⟨3, ![1, 128, 256]⟩

abbrev nBuf : Space → Nat
  | .hbm => 9
  | .vmem => 16
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S8x256x256, .f32⟩
  | .hbm, ⟨4, _⟩ => ⟨S8x256x256, .bf16⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S8x128x256, .bf16⟩
  | .local _ .vmem, ⟨7, _⟩ => ⟨S8x128x256, .bf16⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S256x256 : Shape := ⟨2, ![256, 256]⟩
abbrev S8x256x256 : Shape := ⟨3, ![8, 256, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S8x256x256, .f32⟩
  | .hbm, ⟨4, _⟩ => ⟨S_, .f32⟩
  | .hbm, ⟨5, _⟩ => ⟨S256x256, .f32⟩
  | .hbm, ⟨6, _⟩ => ⟨S_, .f32⟩
  | .hbm, ⟨7, _⟩ => ⟨S256x256, .f32⟩
  | .hbm, ⟨8, _⟩ => ⟨S256x256, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel12.lean ====
abbrev S128x1024 : Shape := ⟨2, ![128, 1024]⟩
abbrev S8x128x1024 : Shape := ⟨3, ![8, 128, 1024]⟩
abbrev S64x1024 : Shape := ⟨2, ![64, 1024]⟩
abbrev S8x64x1024 : Shape := ⟨3, ![8, 64, 1024]⟩
abbrev S1x64x1024 : Shape := ⟨3, ![1, 64, 1024]⟩

abbrev nBuf : Space → Nat
  | .hbm => 9
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .f32⟩
  | .hbm, ⟨4, _⟩ => ⟨S8x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S8x64x1024, .bf16⟩
  | .local _ .vmem, ⟨7, _⟩ => ⟨S8x64x1024, .bf16⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel13.lean ====
abbrev S1024x512 : Shape := ⟨2, ![1024, 512]⟩
abbrev S8x1024x512 : Shape := ⟨3, ![8, 1024, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 9
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S8x1024x512, .f32⟩
  | .hbm, ⟨4, _⟩ => ⟨S8x1024x512, .bf16⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x256x512, .bf16⟩
  | .local _ .vmem, ⟨7, _⟩ => ⟨S8x256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S1024x512 : Shape := ⟨2, ![1024, 512]⟩
abbrev S8x1024x512 : Shape := ⟨3, ![8, 1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S8x1024x512, .f32⟩
  | .hbm, ⟨4, _⟩ => ⟨S_, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel14.lean ====
abbrev S512x1024 : Shape := ⟨2, ![512, 1024]⟩
abbrev S8x512x1024 : Shape := ⟨3, ![8, 512, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .f32⟩
  | .hbm, ⟨4, _⟩ => ⟨S8x512x1024, .bf16⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .f32⟩
  | .hbm, ⟨4, _⟩ => ⟨S_, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel15.lean ====
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S1x8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S1x8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S8x128 : Shape := ⟨2, ![8, 128]⟩
abbrev S1x8x128 : Shape := ⟨3, ![1, 8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S1x8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel16.lean ====
abbrev S8x128 : Shape := ⟨2, ![8, 128]⟩
abbrev S1024x128 : Shape := ⟨2, ![1024, 128]⟩
abbrev S2x128 : Shape := ⟨2, ![2, 128]⟩
abbrev S8x8x128 : Shape := ⟨3, ![8, 8, 128]⟩
abbrev S8x1024x128 : Shape := ⟨3, ![8, 1024, 128]⟩
abbrev S8x64x128 : Shape := ⟨3, ![8, 64, 128]⟩
abbrev S64x128 : Shape := ⟨2, ![64, 128]⟩
abbrev S1x8x128 : Shape := ⟨3, ![1, 8, 128]⟩
abbrev S1x1024x128 : Shape := ⟨3, ![1, 1024, 128]⟩
abbrev S1x2x128 : Shape := ⟨3, ![1, 2, 128]⟩
abbrev S1x64x128 : Shape := ⟨3, ![1, 64, 128]⟩

abbrev nBuf : Space → Nat
  | .hbm => 29
  | .vmem => 28
  | .smem => 0
  | _ => 0

abbrev bufTy : (tb : Table) → Fin (tcTables nBuf tb) → BufTy
  | .hbm, ⟨0, _⟩ => ⟨S8x128, .f32⟩
  | .hbm, ⟨1, _⟩ => ⟨S1024x128, .f32⟩
  | .hbm, ⟨2, _⟩ => ⟨S2x128, .f32⟩
  | .hbm, ⟨3, _⟩ => ⟨S8x128, .f32⟩
  | .hbm, ⟨4, _⟩ => ⟨S1024x128, .f32⟩
  | .hbm, ⟨5, _⟩ => ⟨S2x128, .f32⟩
  | .hbm, ⟨6, _⟩ => ⟨S8x128, .f32⟩
  | .hbm, ⟨7, _⟩ => ⟨S1024x128, .f32⟩
  | .hbm, ⟨8, _⟩ => ⟨S2x128, .f32⟩
  | .hbm, ⟨9, _⟩ => ⟨S8x8x128, .f32⟩
  | .hbm, ⟨10, _⟩ => ⟨S8x1024x128, .f32⟩
  | .hbm, ⟨11, _⟩ => ⟨S8x8x128, .f32⟩
  | .hbm, ⟨12, _⟩ => ⟨S8x64x128, .f32⟩
  | .hbm, ⟨13, _⟩ => ⟨S8x8x128, .f32⟩
  | .hbm, ⟨14, _⟩ => ⟨S8x1024x128, .bf16⟩
  | .hbm, ⟨15, _⟩ => ⟨S8x128, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S2x128, .f32⟩
  | .hbm, ⟨27, _⟩ => ⟨S64x128, .f32⟩
  | .hbm, ⟨28, _⟩ => ⟨S8x128, .f32⟩
  | .local _ .vmem, ⟨0, _⟩ => ⟨S8x128, .f32⟩
  | .local _ .vmem, ⟨1, _⟩ => ⟨S1024x128, .f32⟩
  | .local _ .vmem, ⟨2, _⟩ => ⟨S2x128, .f32⟩
  | .local _ .vmem, ⟨3, _⟩ => ⟨S8x128, .f32⟩
  | .local _ .vmem, ⟨4, _⟩ => ⟨S1024x128, .f32⟩
  | .local _ .vmem, ⟨5, _⟩ => ⟨S2x128, .f32⟩
  | .local _ .vmem, ⟨6, _⟩ => ⟨S8x128, .f32⟩
  | .local _ .vmem, ⟨7, _⟩ => ⟨S1024x128, .f32⟩
  | .local _ .vmem, ⟨8, _⟩ => ⟨S2x128, .f32⟩
  | .local _ .vmem, ⟨9, _⟩ => ⟨S8x8x128, .f32⟩
  | .local _ .vmem, ⟨10, _⟩ => ⟨S8x1024x128, .bf16⟩
  | .local _ .vmem, ⟨11, _⟩ => ⟨S8x8x128, .f32⟩
  | .local _ .vmem, ⟨12, _⟩ => ⟨S8x64x128, .f32⟩
  | .local _ .vmem, ⟨13, _⟩ => ⟨S8x8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S2x128, .f32⟩
  | .local _ .vmem, ⟨23, _⟩ => ⟨S2x128, .f32⟩
  | .local _ .vmem, ⟨24, _⟩ => ⟨S2x128, .f32⟩
  | .local _ .vmem, ⟨25, _⟩ => ⟨S2x128, .f32⟩
  | .local _ .vmem, ⟨26, _⟩ => ⟨S64x128, .f32⟩
  | .local _ .vmem, ⟨27, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1_0 : Ref sig .tc := ⟨.hbm, 15, rfl⟩
abbrev main_v1_1 : Ref sig .tc := ⟨.hbm, 16, rfl⟩
abbrev main_v1_2 : Ref sig .tc := ⟨.hbm, 17, rfl⟩
abbrev main_v1_3 : Ref sig .tc := ⟨.hbm, 18, rfl⟩
abbrev main_v1_4 : Ref sig .tc := ⟨.hbm, 19, rfl⟩
abbrev main_v1_5 : Ref sig .tc := ⟨.hbm, 20, rfl⟩
abbrev main_v1_6 : Ref sig .tc := ⟨.hbm, 21, rfl⟩
abbrev main_v1_7 : Ref sig .tc := ⟨.hbm, 22, rfl⟩
abbrev main_v1_8 : Ref sig .tc := ⟨.hbm, 23, rfl⟩
abbrev main_v1_9 : Ref sig .tc := ⟨.hbm, 24, rfl⟩
abbrev main_v1_10 : Ref sig .tc := ⟨.hbm, 25, rfl⟩
abbrev main_v1_11 : Ref sig .tc := ⟨.hbm, 26, rfl⟩
abbrev main_v1_12 : Ref sig .tc := ⟨.hbm, 27, rfl⟩
abbrev main_v1_13 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1024x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1024x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1024x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S64x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S8x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference16Ideal.lean ====
abbrev S8x128 : Shape := ⟨2, ![8, 128]⟩
abbrev S1024x128 : Shape := ⟨2, ![1024, 128]⟩
abbrev S2x128 : Shape := ⟨2, ![2, 128]⟩
abbrev S8x8x128 : Shape := ⟨3, ![8, 8, 128]⟩
abbrev S8x1024x128 : Shape := ⟨3, ![8, 1024, 128]⟩
abbrev S8x64x128 : Shape := ⟨3, ![8, 64, 128]⟩
abbrev S_ : Shape := ⟨0, ![]⟩
abbrev S8x2x128 : Shape := ⟨3, ![8, 2, 128]⟩
abbrev S64x128 : Shape := ⟨2, ![64, 128]⟩

abbrev nBuf : Space → Nat
  | .hbm => 124
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S1024x128, .f32⟩
  | .hbm, ⟨2, _⟩ => ⟨S2x128, .f32⟩
  | .hbm, ⟨3, _⟩ => ⟨S8x128, .f32⟩
  | .hbm, ⟨4, _⟩ => ⟨S1024x128, .f32⟩
  | .hbm, ⟨5, _⟩ => ⟨S2x128, .f32⟩
  | .hbm, ⟨6, _⟩ => ⟨S8x128, .f32⟩
  | .hbm, ⟨7, _⟩ => ⟨S1024x128, .f32⟩
  | .hbm, ⟨8, _⟩ => ⟨S2x128, .f32⟩
  | .hbm, ⟨9, _⟩ => ⟨S8x8x128, .f32⟩
  | .hbm, ⟨10, _⟩ => ⟨S8x1024x128, .f32⟩
  | .hbm, ⟨11, _⟩ => ⟨S8x8x128, .f32⟩
  | .hbm, ⟨12, _⟩ => ⟨S8x64x128, .f32⟩
  | .hbm, ⟨13, _⟩ => ⟨S8x8x128, .f32⟩
  | .hbm, ⟨14, _⟩ => ⟨S_, .f32⟩
  | .hbm, ⟨15, _⟩ => ⟨S8x128, .f32⟩
  | .hbm, ⟨16, _⟩ => ⟨S_, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S8x128, .f32⟩
  | .hbm, ⟨23, _⟩ => ⟨S_, .f32⟩
  | .hbm, ⟨24, _⟩ => ⟨S8x128, .f32⟩
  | .hbm, ⟨25, _⟩ => ⟨S8x128, .f32⟩
  | .hbm, ⟨26, _⟩ => ⟨S8x128, .f32⟩
  | .hbm, ⟨27, _⟩ => ⟨S_, .f32⟩
  | .hbm, ⟨28, _⟩ => ⟨S8x128, .f32⟩
  | .hbm, ⟨29, _⟩ => ⟨S8x128, .f32⟩
  | .hbm, ⟨30, _⟩ => ⟨S8x128, .f32⟩
  | .hbm, ⟨31, _⟩ => ⟨S_, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | .hbm, ⟨37, _⟩ => ⟨S8x128, .f32⟩
  | .hbm, ⟨38, _⟩ => ⟨S_, .f32⟩
  | .hbm, ⟨39, _⟩ => ⟨S8x128, .f32⟩
  | .hbm, ⟨40, _⟩ => ⟨S8x128, .f32⟩
  | .hbm, ⟨41, _⟩ => ⟨S8x128, .f32⟩
  | .hbm, ⟨42, _⟩ => ⟨S_, .f32⟩
  | .hbm, ⟨43, _⟩ => ⟨S8x128, .f32⟩
  | .hbm, ⟨44, _⟩ => ⟨S8x128, .f32⟩
  | .hbm, ⟨45, _⟩ => ⟨S8x128, .f32⟩
  | .hbm, ⟨46, _⟩ => ⟨S_, .f32⟩
  | .hbm, ⟨47, _⟩ => ⟨S8x128, .f32⟩
  | .hbm, ⟨48, _⟩ => ⟨S8x128, .f32⟩
  | .hbm, ⟨49, _⟩ => ⟨S_, .f32⟩
  | .hbm, ⟨50, _⟩ => ⟨S1024x128, .f32⟩
  | .hbm, ⟨51, _⟩ => ⟨S_, .f32⟩
  | .hbm, ⟨52, _⟩ => ⟨S1024x128, .f32⟩
  | .hbm, ⟨53, _⟩ => ⟨S1024x128, .f32⟩
  | .hbm, ⟨54, _⟩ => ⟨S_, .f32⟩
  | .hbm, ⟨55, _⟩ => ⟨S1024x128, .f32⟩
  | .hbm, ⟨56, _⟩ => ⟨S1024x128, .f32⟩
  | .hbm, ⟨57, _⟩ => ⟨S1024x128, .f32⟩
  | .hbm, ⟨58, _⟩ => ⟨S_, .f32⟩
  | .hbm, ⟨59, _⟩ => ⟨S1024x128, .f32⟩
  | .hbm, ⟨60, _⟩ => ⟨S1024x128, .f32⟩
  | .hbm, ⟨61, _⟩ => ⟨S1024x128, .f32⟩
  | .hbm, ⟨62, _⟩ => ⟨S_, .f32⟩
  | .hbm, ⟨63, _⟩ => ⟨S1024x128, .f32⟩
  | .hbm, ⟨64, _⟩ => ⟨S1024x128, .f32⟩
  | .hbm, ⟨65, _⟩ => ⟨S1024x128, .f32⟩
  | .hbm, ⟨66, _⟩ => ⟨S_, .f32⟩
  | .hbm, ⟨67, _⟩ => ⟨S1024x128, .f32⟩
  | .hbm, ⟨68, _⟩ => ⟨S1024x128, .f32⟩
  | .hbm, ⟨69, _⟩ => ⟨S_, .f32⟩
  | .hbm, ⟨70, _⟩ => ⟨S1024x128, .f32⟩
  | .hbm, ⟨71, _⟩ => ⟨S1024x128, .f32⟩
  | .hbm, ⟨72, _⟩ => ⟨S1024x128, .f32⟩
  | .hbm, ⟨73, _⟩ => ⟨S_, .f32⟩
  | .hbm, ⟨74, _⟩ => ⟨S1024x128, .f32⟩
  | .hbm, ⟨75, _⟩ => ⟨S1024x128, .f32⟩
  | .hbm, ⟨76, _⟩ => ⟨S1024x128, .f32⟩
  | .hbm, ⟨77, _⟩ => ⟨S_, .f32⟩
  | .hbm, ⟨78, _⟩ => ⟨S1024x128, .f32⟩
  | .hbm, ⟨79, _⟩ => ⟨S1024x128, .f32⟩
  | .hbm, ⟨80, _⟩ => ⟨S1024x128, .f32⟩
  | .hbm, ⟨81, _⟩ => ⟨S_, .f32⟩
  | .hbm, ⟨82, _⟩ => ⟨S1024x128, .f32⟩
  | .hbm, ⟨83, _⟩ => ⟨S1024x128, .f32⟩
  | .hbm, ⟨84, _⟩ => ⟨S8x2x128, .f32⟩
  | .hbm, ⟨85, _⟩ => ⟨S_, .f32⟩
  | .hbm, ⟨86, _⟩ => ⟨S2x128, .f32⟩
  | .hbm, ⟨87, _⟩ => ⟨S_, .f32⟩
  | .hbm, ⟨88, _⟩ => ⟨S2x128, .f32⟩
  | .hbm, ⟨89, _⟩ => ⟨S2x128, .f32⟩
  | .hbm, ⟨90, _⟩ => ⟨S_, .f32⟩
  | .hbm, ⟨91, _⟩ => ⟨S2x128, .f32⟩
  | .hbm, ⟨92, _⟩ => ⟨S2x128, .f32⟩
  | .hbm, ⟨93, _⟩ => ⟨S2x128, .f32⟩
  | .hbm, ⟨94, _⟩ => ⟨S_, .f32⟩
  | .hbm, ⟨95, _⟩ => ⟨S2x128, .f32⟩
  | .hbm, ⟨96, _⟩ => ⟨S2x128, .f32⟩
  | .hbm, ⟨97, _⟩ => ⟨S2x128, .f32⟩
  | .hbm, ⟨98, _⟩ => ⟨S_, .f32⟩
  | .hbm, ⟨99, _⟩ => ⟨S2x128, .f32⟩
  | .hbm, ⟨100, _⟩ => ⟨S2x128, .f32⟩
  | .hbm, ⟨101, _⟩ => ⟨S2x128, .f32⟩
  | .hbm, ⟨102, _⟩ => ⟨S_, .f32⟩
  | .hbm, ⟨103, _⟩ => ⟨S2x128, .f32⟩
  | .hbm, ⟨104, _⟩ => ⟨S2x128, .f32⟩
  | .hbm, ⟨105, _⟩ => ⟨S_, .f32⟩
  | .hbm, ⟨106, _⟩ => ⟨S2x128, .f32⟩
  | .hbm, ⟨107, _⟩ => ⟨S2x128, .f32⟩
  | .hbm, ⟨108, _⟩ => ⟨S2x128, .f32⟩
  | .hbm, ⟨109, _⟩ => ⟨S_, .f32⟩
  | .hbm, ⟨110, _⟩ => ⟨S2x128, .f32⟩
  | .hbm, ⟨111, _⟩ => ⟨S2x128, .f32⟩
  | .hbm, ⟨112, _⟩ => ⟨S2x128, .f32⟩
  | .hbm, ⟨113, _⟩ => ⟨S_, .f32⟩
  | .hbm, ⟨114, _⟩ => ⟨S2x128, .f32⟩
  | .hbm, ⟨115, _⟩ => ⟨S2x128, .f32⟩
  | .hbm, ⟨116, _⟩ => ⟨S2x128, .f32⟩
  | .hbm, ⟨117, _⟩ => ⟨S_, .f32⟩
  | .hbm, ⟨118, _⟩ => ⟨S2x128, .f32⟩
  | .hbm, ⟨119, _⟩ => ⟨S2x128, .f32⟩
  | .hbm, ⟨120, _⟩ => ⟨S_, .f32⟩
  | .hbm, ⟨121, _⟩ => ⟨S64x128, .f32⟩
  | .hbm, ⟨122, _⟩ => ⟨S_, .f32⟩
  | .hbm, ⟨123, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_cst_1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_v12 : Ref sig .tc := ⟨.hbm, 32, rfl⟩
abbrev main_v13 : Ref sig .tc := ⟨.hbm, 33, rfl⟩
abbrev main_cst_5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_6 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_7 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_8 : Ref sig .tc := ⟨.hbm, 46, rfl⟩
abbrev main_v23 : Ref sig .tc := ⟨.hbm, 47, rfl⟩
abbrev main_v24 : Ref sig .tc := ⟨.hbm, 48, rfl⟩
abbrev main_cst_9 : Ref sig .tc := ⟨.hbm, 49, rfl⟩
abbrev main_v25 : Ref sig .tc := ⟨.hbm, 50, rfl⟩
abbrev main_cst_10 : Ref sig .tc := ⟨.hbm, 51, rfl⟩
abbrev main_v26 : Ref sig .tc := ⟨.hbm, 52, rfl⟩
abbrev main_v27 : Ref sig .tc := ⟨.hbm, 53, rfl⟩
abbrev main_cst_11 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_12 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_13 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_14 : Ref sig .tc := ⟨.hbm, 66, rfl⟩
abbrev main_v37 : Ref sig .tc := ⟨.hbm, 67, rfl⟩
abbrev main_v38 : Ref sig .tc := ⟨.hbm, 68, rfl⟩
abbrev main_cst_15 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_16 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_17 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_18 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_19 : Ref sig .tc := ⟨.hbm, 85, rfl⟩
abbrev main_v51 : Ref sig .tc := ⟨.hbm, 86, rfl⟩
abbrev main_cst_20 : Ref sig .tc := ⟨.hbm, 87, rfl⟩
abbrev main_v52 : Ref sig .tc := ⟨.hbm, 88, rfl⟩
abbrev main_v53 : Ref sig .tc := ⟨.hbm, 89, rfl⟩
abbrev main_cst_21 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_22 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_23 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_24 : Ref sig .tc := ⟨.hbm, 102, rfl⟩
abbrev main_v63 : Ref sig .tc := ⟨.hbm, 103, rfl⟩
abbrev main_v64 : Ref sig .tc := ⟨.hbm, 104, rfl⟩
abbrev main_cst_25 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_26 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_27 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_28 : Ref sig .tc := ⟨.hbm, 117, rfl⟩
abbrev main_v74 : Ref sig .tc := ⟨.hbm, 118, rfl⟩
abbrev main_v75 : Ref sig .tc := ⟨.hbm, 119, rfl⟩
abbrev main_cst_29 : Ref sig .tc := ⟨.hbm, 120, rfl⟩
abbrev main_v76 : Ref sig .tc := ⟨.hbm, 121, rfl⟩
abbrev main_cst_30 : Ref sig .tc := ⟨.hbm, 122, rfl⟩
abbrev main_v77 : Ref sig .tc := ⟨.hbm, 123, rfl⟩

abbrev nD : Nat := 1
abbrev τ : Topo := Topo.v7x

variable {F : FTy → Type} [FloatOps F]
-- ==== Proof.DAct.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.KernelIdeal.DAct

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The blocks of the four windows at each grid point. -/
theorem idx : ∀ t : Fin cfg0.N, win0_0.index t = ![t.val % 8, 0] ∧ win0_1.index t = ![t.val / 8, 0]
    ∧ win0_2.index t = ![t.val % 8, t.val / 8] ∧ win0_3.index t = ![t.val % 8, t.val / 8] :=
  (by decide +kernel : ∀ t : Fin grid0.N, _)

open Cert.ReferenceIdeal.Read in
/-- Where the up projection is not positive the reference selects zero, and there its own factor
    `2 * max u 0` is zero too: the selection changes nothing. -/
theorem ref_eq (n2 : FVec Ideal S8192x1024 .f32) (wu : FVec Ideal S1024x4096 .f32) (wd : FVec Ideal S4096x1024 .f32)
    (dh : FVec Ideal S8192x1024 .f32) (i) :
    val_main_v13 (F := Ideal) n2 wu wd dh i = val_main_v10 (F := Ideal) n2 wu wd dh i := by
  rw [val_main_v13_apply, val_main_v12_apply, val_main_v3_apply, val_main_v11_apply, val_main_v2_apply, val_main_v10_apply,
    val_main_v7_apply, val_main_v1_apply, val_main_call0_v0_apply]
  generalize val_main_v0 (F := Ideal) n2 wu i = u
  pointwise [val_main_cst, val_main_cst_2, val_main_call0_cst]
  split
  · rfl
  · rename_i h
    rw [max_eq_right (not_lt.mp h), mul_zero, mul_zero]

open Cert.ReferenceIdeal.Read in
/-- One grid point writes the reference's product at its block. -/
theorem point (c : Dev nD) (t : Fin cfg0.N) (y) : k0_pay1 (iblk m c 0 t) (iblk m c 1 t) (iblk m c 2 t) y
    = val_main_v10 (F := Ideal) (m ((c : Thread nD τ).loc main_arg0)) (m ((c : Thread nD τ).loc main_arg1))
      (m ((c : Thread nD τ).loc main_arg2)) (m ((c : Thread nD τ).loc main_arg3)) (((cfg0.win 3).blk t).view.emb y) := by
  pointwise [k0_pay1, val_main_v10, val_main_v9, val_main_v7, val_main_v6, val_main_cst_1, val_main_v1, val_main_v0, val_main_call0_v0, val_main_call0_cst]
  blk_point [iblk, V, idx t]
  congr 1
  entry_read
  pointwise
  blk_point [idx t]

/-- The call's result array is the reference's. -/
theorem final (c : Dev nD) : (dats m 0 c).arrAt 3 (cfgs 0).N
    = Cert.ReferenceIdeal.Read.val_main_v13 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 3 _ (by decide +kernel) fun t _ y => ?_
  blk_simp
  rw [after0_3]; frame_out
  exact (point m c t y).trans (ref_eq _ _ _ _ _).symm

end Cert.KernelIdeal.DAct

end
-- ==== Proof.Rms.lean ====
module

public import Idealize.ShloMosaic.Lib.Pointwise

@[expose] public section

noncomputable section

/-! The gradient of the root-mean-square norm along one row of extended reals. -/

namespace Cert.Rms

open Idealize.ShloMosaic

variable {n : ℕ}

/-- A nonnegative real factor distributes over a sum of two extended reals. -/
theorem add_mul_coe {r : ℝ} (hr : 0 ≤ r) (x y : EReal) : (x + y) * (r : EReal) = x * r + y * r :=
  EReal.right_distrib_of_nonneg_of_ne_top (by exact_mod_cast hr) (EReal.coe_ne_top r) x y

/-- A nonnegative real factor distributes over a sum of two extended reals, from the left. -/
theorem coe_mul_add {r : ℝ} (hr : 0 ≤ r) (x y : EReal) : (r : EReal) * (x + y) = r * x + r * y := by
  rw [mul_comm, add_mul_coe hr, mul_comm x, mul_comm y]

/-- A nonnegative real factor distributes over a finite sum of extended reals. -/
theorem sum_mul_coe {ι : Type*} (s : Finset ι) {r : ℝ} (hr : 0 ≤ r) (f : ι → EReal) :
    (∑ k ∈ s, f k) * (r : EReal) = ∑ k ∈ s, f k * r := by
  classical
  induction s using Finset.induction_on with
  | empty => simp
  | insert a s ha ih => rw [Finset.sum_insert ha, Finset.sum_insert ha, add_mul_coe hr, ih]

/-- A square is not negative. -/
theorem mul_self_nonneg' (x : EReal) : 0 ≤ x * x := by
  induction x with
  | bot => simp
  | top => simp
  | coe r => exact_mod_cast mul_self_nonneg r

/-- The mean square of a row, with the constant that keeps it from zero. -/
def var (N e : EReal) (x : Fin n → EReal) : EReal := Ideal.div (∑ k, x k * x k) N + e

/-- The norm's gradient along a row as the kernels write it out: `dv` is the cotangent times the scale. -/
def grad (N e : EReal) (x dv : Fin n → EReal) (j : Fin n) : EReal :=
  Ideal.rsqrt (var N e x) * (dv j - x j * Ideal.rsqrt (var N e x)
    * Ideal.div (∑ k, dv k * (x k * Ideal.rsqrt (var N e x))) N)

/-- The common factor of the terms through the mean square in the derivative of the norm. -/
def slope (N e h : EReal) (x dv : Fin n → EReal) : EReal :=
  Ideal.div ((∑ k, x k * dv k) * (h * Ideal.div (Ideal.rsqrt (var N e x)) (var N e x))) N

/-- The inverse square root of the mean square is zero with zero quotient, or a positive real whose cube is the quotient. -/
theorem rsqrt_var {N ε : ℝ} (hN : 0 < N) (hε : 0 < ε) (x : Fin n → EReal) :
    (Ideal.rsqrt (var N ε x) = 0 ∧ Ideal.div (Ideal.rsqrt (var N ε x)) (var N ε x) = 0)
    ∨ ∃ r : ℝ, 0 < r ∧ Ideal.rsqrt (var N ε x) = r ∧ Ideal.div (Ideal.rsqrt (var N ε x)) (var N ε x) = (r * r * r : ℝ) := by
  have hS : 0 ≤ ∑ k, x k * x k := Finset.sum_nonneg fun k _ => mul_self_nonneg' (x k)
  unfold var
  rw [Ideal.div_coe hN.ne']
  generalize (∑ k, x k * x k) = S at hS
  induction S with
  | bot => simp at hS
  | top =>
    left
    rw [EReal.top_mul_coe_of_pos (by positivity), EReal.top_add_coe]
    refine ⟨rfl, ?_⟩
    simp [Ideal.div, Ideal.rsqrt]
  | coe s =>
    have hs : 0 ≤ s := by exact_mod_cast hS
    right
    have hv : 0 < s * (1 / N) + ε := by positivity
    rw [show (s : EReal) * ((1 / N : ℝ) : EReal) + ε = ((s * (1 / N) + ε : ℝ) : EReal) by push_cast; rfl]
    generalize s * (1 / N) + ε = v at hv
    have e : Ideal.rsqrt (v : EReal) = ((Real.sqrt v)⁻¹ : ℝ) := by
      show (if v < 0 then _ else if v = 0 then _ else _) = _
      rw [if_neg (not_lt.mpr hv.le), if_neg hv.ne']
    refine ⟨(Real.sqrt v)⁻¹, by positivity, e, ?_⟩
    rw [e, Ideal.div_coe hv.ne', ← EReal.coe_mul]
    congr 1
    rw [mul_assoc, ← mul_inv, Real.mul_self_sqrt hv.le, one_div]

/-- The gradient written out is the derivative: the direct term and the mean square's two equal terms. -/
theorem grad_eq {N ε : ℝ} (hN : 0 < N) (hε : 0 < ε) (x dv : Fin n → EReal) (j : Fin n) :
    grad N ε x dv j = dv j * Ideal.rsqrt (var N ε x) + x j * slope N ε ((-(1 / 2) : ℝ) : EReal) x dv
      + slope N ε ((-(1 / 2) : ℝ) : EReal) x dv * x j := by
  unfold grad slope
  rw [Ideal.div_coe hN.ne', Ideal.div_coe hN.ne']
  rcases rsqrt_var hN hε x with ⟨h1, h2⟩ | ⟨r, hr, h1, h2⟩
  · rw [h2, h1]; simp
  rw [h2, h1]
  have hsum : ∑ k, dv k * (x k * (r : EReal)) = (∑ k, x k * dv k) * r := by
    rw [sum_mul_coe _ hr.le]
    exact Finset.sum_congr rfl fun k _ => by ac_rfl
  rw [hsum]
  generalize (∑ k, x k * dv k) = S
  rw [sub_eq_add_neg, coe_mul_add hr.le, add_assoc, mul_comm (r : EReal) (dv j)]
  congr 1
  have e1 : S * (((-(1 / 2) : ℝ) : EReal) * ((r * r * r : ℝ) : EReal)) * ((1 / N : ℝ) : EReal)
      = -(S * ((1 / 2 * (r * r * r) * (1 / N) : ℝ) : EReal)) := by
    rw [mul_assoc, ← EReal.coe_mul, ← EReal.coe_mul, ← mul_neg, ← EReal.coe_neg]
    congr 2
    ring
  have e2 : (r : EReal) * -(x j * r * (S * r * ((1 / N : ℝ) : EReal)))
      = -(x j * S * ((r * r * r * (1 / N) : ℝ) : EReal)) := by
    rw [mul_neg]
    congr 1
    push_cast
    ac_rfl
  rw [e1, e2, mul_comm (-(S * _)) (x j), mul_neg, ← mul_assoc]
  generalize x j * S = Z
  have hp : 0 < r * r * r * (1 / N) := by positivity
  rw [show (1 / 2 * (r * r * r) * (1 / N) : ℝ) = r * r * r * (1 / N) / 2 by ring]
  generalize r * r * r * (1 / N) = p at hp
  induction Z with
  | bot => rw [EReal.bot_mul_coe_of_pos hp, EReal.bot_mul_coe_of_pos (by positivity)]; simp
  | top => rw [EReal.top_mul_coe_of_pos hp, EReal.top_mul_coe_of_pos (by positivity)]; simp
  | coe z =>
    rw [← EReal.coe_mul, ← EReal.coe_mul, ← EReal.coe_neg, ← EReal.coe_neg, ← EReal.coe_add]
    congr 1
    ring

/-- The host's sum of the partial rows: over the blocks, column by column. -/
@[pointwise] theorem hostReduceAdd_partials {n w : ℕ} (h : (⟨3, ![n, 1, w]⟩ : Shape).ReducesTo [0, 1] ⟨1, ![w]⟩)
    (v : (⟨3, ![n, 1, w]⟩ : Shape).Idx → EReal) (init : EReal) (j : (⟨1, ![w]⟩ : Shape).Idx) :
    Ideal.hostReduceAdd h v init j = init + ∑ b : Fin n, v (ix3 b 0 (j 0)) := by
  have hd : ∀ i, (h.drop i 0 : Nat) = i 2 := fun i => Shape.ReducesTo.drop_apply_val h i 0
  unfold Ideal.hostReduceAdd
  congr 1
  refine Finset.sum_nbij' (fun i => i 0) (fun b => ix3 b 0 (j 0)) (fun i _ => Finset.mem_univ _) (fun b _ => ?_)
    (fun i hi => ?_) (fun b _ => rfl) (fun i hi => ?_)
  · refine Finset.mem_filter.mpr ⟨Finset.mem_univ _, ?_⟩
    funext a
    obtain rfl : a = 0 := Subsingleton.elim _ _
    exact Fin.ext (hd _)
  all_goals
    have e : ix3 (i 0) 0 (j 0) = i := by
      have h2 := hd i
      rw [(Finset.mem_filter.mp hi).2] at h2
      funext a
      match a with
      | 0 => rfl
      | 1 => exact Subsingleton.elim (α := Fin 1) _ _
      | 2 => exact Fin.ext h2
  · exact e
  · exact congrArg v e.symm

/-- The float words of the norms: the width, the constant under the root, and the derivative's factor. -/
theorem word_1024 : Ideal.ofBits .f32 0x44800000#32 = ((1024 : ℝ) : EReal) := by
  simp [Ideal.ofBits, Ideal.ieee, -EReal.coe_mul]; norm_num
theorem word_eps : Ideal.ofBits .f32 0x358637BD#32 = ((8796093 / 8796093022208 : ℝ) : EReal) := by
  simp [Ideal.ofBits, Ideal.ieee, -EReal.coe_mul]; norm_num
theorem word_half : Ideal.ofBits .f32 0xBF000000#32 = ((-(1 / 2) : ℝ) : EReal) := by
  simp [Ideal.ofBits, Ideal.ieee, -EReal.coe_mul]; norm_num

end Cert.Rms

end
-- ==== Proof.DN2.lean ====
module

public import proofs.«01_k».proof.Defs
public import proofs.«01_k».proof.Proof.Gen.Kernel2Ideal.Frame
public import proofs.«01_k».proof.Proof.Gen.Reference2Ideal.Read
public import Idealize.ShloMosaic.Lib.Pipeline.ValueKit
public import Idealize.ShloMosaic.Lib.Pointwise
public import Idealize.ShloMosaic.Lib.Claim
public import proofs.«01_k».proof.Proof.Rms

@[expose] public section

set_option maxRecDepth 16384

noncomputable section

namespace Cert.Kernel2Ideal.DN2

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The blocks of the windows at each grid point. -/
theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![t.val, 0, 0] :=
  (by decide +kernel : ∀ t : Fin grid0.N, _)

/-- The cotangent of the normed rows: the up projection's cotangent times the transposed weight, times the scale. -/
def ct (du : FVec Ideal S8192x4096 .f32) (w : FVec Ideal S1024x4096 .f32) (g : FVec Ideal S1024 .f32) (r : Fin 8192) (k : Fin 1024) : EReal :=
  (∑ q, du (ix2 r q) * w (ix2 k q)) * g (ix1 k)

/-- The residual stream's gradient at one place: the cotangent that passes the norm by plus the norm's own gradient. -/
def dh1 (h1 dh2 : FVec Ideal S8192x1024 .f32) (du : FVec Ideal S8192x4096 .f32) (w : FVec Ideal S1024x4096 .f32)
    (g : FVec Ideal S1024 .f32) (r : Fin 8192) (j : Fin 1024) : EReal :=
  dh2 (ix2 r j) + Rms.grad (Ideal.ofBits .f32 0x44800000#32) (Ideal.ofBits .f32 0x358637BD#32) (fun k => h1 (ix2 r k))
    (ct du w g r) j

/-- The scale's gradient at one row and column: the product's cotangent times the normed row. -/
def dgRow (h1 : FVec Ideal S8192x1024 .f32) (du : FVec Ideal S8192x4096 .f32) (w : FVec Ideal S1024x4096 .f32)
    (r : Fin 8192) (k : Fin 1024) : EReal :=
  (∑ q, du (ix2 r q) * w (ix2 k q)) * (h1 (ix2 r k) * Ideal.rsqrt (Rms.var (Ideal.ofBits .f32 0x44800000#32) (Ideal.ofBits .f32 0x358637BD#32) (fun k => h1 (ix2 r k))))

/-- The scale's gradient summed over the 512 rows of a block. -/
def dgSum (h1 : FVec Ideal S8192x1024 .f32) (du : FVec Ideal S8192x4096 .f32) (w : FVec Ideal S1024x4096 .f32) (b : Fin 16) (k : Fin 1024) :
    EReal := ∑ q : Fin 512, dgRow h1 du w ⟨b.val * 512 + q.val, by omega⟩ k

/-- The blocks' sums as the call's array. -/
def dgBlock (h1 : FVec Ideal S8192x1024 .f32) (du : FVec Ideal S8192x4096 .f32) (w : FVec Ideal S1024x4096 .f32) :
    FVec Ideal S16x1x1024 .f32 := fun i => dgSum h1 du w (i 0) (i 2)

open Cert.Reference2Ideal.Read in
/-- The reference's first result is the gradient written out. -/
theorem ref_dh1 (h1 dh2 : FVec Ideal S8192x1024 .f32) (du : FVec Ideal S8192x4096 .f32) (w : FVec Ideal S1024x4096 .f32)
    (g : FVec Ideal S1024 .f32) (r : Fin 8192) (j : Fin 1024) :
    val_main_v38 (F := Ideal) h1 dh2 du w g (ix2 r j) = dh1 h1 dh2 du w g r j := by
  rw [dh1, Rms.word_1024, Rms.word_eps, Rms.grad_eq (by norm_num) (by norm_num), ← Rms.word_1024, ← Rms.word_eps, ← Rms.word_half]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39]
  simp only [Finset.sum_const, Finset.card_univ, Fintype.card_fin, one_smul, add_assoc]
  rfl

/-- One grid point writes the gradient at its block of rows. -/
theorem point5 (c : Dev nD) (t : Fin cfg0.N) (y) : k0_pay5 (iblk m c 0 t) (iblk m c 1 t) (iblk m c 2 t) (iblk m c 3 t) (iblk m c 4 t) y
    = dh1 (m ((c : Thread nD τ).loc main_arg0)) (m ((c : Thread nD τ).loc main_arg1))
      (m ((c : Thread nD τ).loc main_arg2)) (m ((c : Thread nD τ).loc main_arg3)) (m ((c : Thread nD τ).loc main_arg4)) (((cfg0.win 5).blk t).view.emb y 0) (((cfg0.win 5).blk t).view.emb y 1) := by
  pointwise [k0_pay5, k0_pay4, k0_pay3, k0_pay2, dh1, Rms.grad, Rms.var, ct]
  blk_point [iblk, V, idx t] <;>
  · show StableHlo.after hostOps0 _ _ _ = _
    unfold hostOps0
    after_results
    pointwise
    blk_point [idx t]

/-- One grid point writes the sum over its rows of the scale's gradient. -/
theorem point7 (c : Dev nD) (t : Fin cfg0.N) (y) : k0_pay1 (k0_pay6 (iblk m c 0 t) (iblk m c 1 t) (iblk m c 2 t)) y
    = dgBlock (m ((c : Thread nD τ).loc main_arg0)) (m ((c : Thread nD τ).loc main_arg2)) (m ((c : Thread nD τ).loc main_arg3))
      (((cfg0.win 7).blk t).view.emb y) := by
  pointwise [k0_pay1, k0_pay6, k0_pay4, k0_pay3, k0_pay2, dgBlock, dgSum, dgRow, Rms.var]
  blk_point [iblk, V, idx t]

open Cert.Reference2Ideal.Read in
/-- The reference's first result, as an array, is the call's. -/
theorem final5 (c : Dev nD) : (dats m 0 c).arrAt 5 (cfgs 0).N
    = val_main_v38 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  refine (point5 m c t y).trans ((ref_dh1 _ _ _ _ _ _ _).symm.trans (congrArg _ (ix2_eta _)))

open Cert.Reference2Ideal.Read in
/-- The second result is the first one cast. -/
theorem final6 (c : Dev nD) : (dats m 0 c).arrAt 6 (cfgs 0).N
    = val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact (point5 m c t y).trans ((ref_dh1 _ _ _ _ _ _ _).symm.trans (congrArg (val_main_v38 (F := Ideal) _ _ _ _ _) (ix2_eta _)))

/-- The partial sums, one row of columns for each block of rows. -/
theorem final7 (c : Dev nD) : (dats m 0 c).arrAt 7 (cfgs 0).N
    = dgBlock (m ((c : Thread nD τ).loc main_arg0)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point7 m c t y

open Cert.Reference2Ideal.Read in
/-- The partial sums add up to the reference's gradient of the scale. -/
theorem ref_dg (h1 : FVec Ideal S8192x1024 .f32) (du : FVec Ideal S8192x4096 .f32) (w : FVec Ideal S1024x4096 .f32) (i : S1024.Idx) :
    ∑ b : Fin 16, dgBlock h1 du w (ix3 b 0 (i 0)) = val_main_v23 (F := Ideal) h1 du w i := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39, dgBlock, dgSum, dgRow, Rms.var]
  simp only [Finset.sum_const, Finset.card_univ, Fintype.card_fin, one_smul]
  exact Fin.sum_mul_add_congr fun b q hl => mul_comm _ _

/-- What the host's sum after the call leaves. -/
theorem tail (c : Dev nD) : Pipeline.afterTail₀ cfgs (dats m) 0 (V0 m) [hostOps1] c main_v4
    = Host.reduceAdd (dgBlock (m ((c : Thread nD τ).loc main_arg0)) (m ((c : Thread nD τ).loc main_arg2)) (m ((c : Thread nD τ).loc main_arg3)))
      (constant S_ .f32 0x00000000#32) reducesTo_S16x1x1024_S1024_d0_1 h_S_ := by
  rw [← final7 m c]
  unfold Pipeline.afterTail₀
  show StableHlo.after hostOps1 _ _ = _
  unfold hostOps1
  after_results
  exact congrArg (Host.reduceAdd · (constant S_ .f32 0x00000000#32) reducesTo_S16x1x1024_S1024_d0_1 h_S_)
    (Pipeline.withArrays_arr spec0 launch0.win.arr_inj c _ (fun w => (dats m 0 c).arrAt w (cfgs 0).N) 7)

open Cert.Reference2Ideal.Read in
/-- The third result is the reference's gradient of the scale. -/
theorem final_dg (c : Dev nD) : Pipeline.afterTail₀ cfgs (dats m) 0 (V0 m) [hostOps1] c main_v4
    = val_main_v23 (F := Ideal) (m ((c : Thread nD τ).loc main_arg0)) (m ((c : Thread nD τ).loc main_arg2))
      (m ((c : Thread nD τ).loc main_arg3)) := by
  rw [tail]
  funext i
  refine Eq.trans ?_ (ref_dg _ _ _ i)
  pointwise

/-- `d_n2`: from the same arguments the call and the derivative of the norm before the channel mixer end with equal results. -/
theorem claim : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
    · exact W_main_arg2 m (dats m) c
    · exact W_main_arg3 m (dats m) c
    · exact W_main_arg4 m (dats m) c
  · run_from Cert.Reference2Ideal.Value.run m' g'
    all_goals obtain ⟨a0, a1, a2, a3, a4⟩ := hagree c
    · rw [Cert.Reference2Ideal.Read.val_main_v38_eq, a0, a1, a2, a3, a4]
      exact (final5 m c).symm
    · rw [Cert.Reference2Ideal.Read.val_main_v39_eq, a0, a1, a2, a3, a4]
      exact (final6 m c).symm
    · exact (final_dg m c).symm

end Cert.Kernel2Ideal.DN2

end
-- ==== Proof.Dx.lean ====
module

public import proofs.«01_k».proof.Defs
public import proofs.«01_k».proof.Proof.Gen.Kernel3Ideal.Frame
public import proofs.«01_k».proof.Proof.Gen.Reference3Ideal.Read
public import Idealize.ShloMosaic.Lib.Pipeline.ValueKit
public import Idealize.ShloMosaic.Lib.Pointwise
public import Idealize.ShloMosaic.Lib.Claim
public import proofs.«01_k».proof.Proof.Rms

@[expose] public section

set_option maxRecDepth 16384

noncomputable section

namespace Cert.Kernel3Ideal.Dx

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The blocks of the windows at each grid point. -/
theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0] ∧ win0_6.index t = ![0, 0]
    ∧ win0_7.index t = ![t.val, 0] ∧ win0_8.index t = ![t.val, 0, 0] :=
  (by decide +kernel : ∀ t : Fin grid0.N, _)

/-- The column of the whole projection that lies at column `q` of the two outer pieces put side by side. -/
def col (q : Fin 4096) : Fin 4672 := ⟨if q.val < 2048 then q.val else q.val + 576, by have := q.isLt; split <;> omega⟩

/-- A product over all columns is the one over the outer pieces plus the one over the middle piece filled with zeros. -/
theorem sum_split (f : Fin 4672 → EReal) :
    ∑ q : Fin 4096, f (col q) + ∑ q : Fin 640, (if h : q.val < 576 then f ⟨2048 + q.val, by omega⟩ else 0) = ∑ q, f q := by
  let F : ℕ → EReal := fun n => if h : n < 4672 then f ⟨n, h⟩ else 0
  have e0 : ∑ q, f q = ∑ n ∈ Finset.range 4672, F n := by
    rw [← Fin.sum_univ_eq_sum_range]
    exact Finset.sum_congr rfl fun q _ => by simp [F]
  have e1 : ∑ q : Fin 4096, f (col q) = ∑ n ∈ Finset.range (2048 + 2048), F (if n < 2048 then n else n + 576) := by
    rw [← Fin.sum_univ_eq_sum_range]
    refine Finset.sum_congr rfl fun q _ => ?_
    show f (col q) = F (col q).val
    simp [F]
  have e2 : ∑ q : Fin 640, (if h : q.val < 576 then f ⟨2048 + q.val, by omega⟩ else 0)
      = ∑ n ∈ Finset.range (576 + 64), (if n < 576 then F (2048 + n) else 0) := by
    rw [← Fin.sum_univ_eq_sum_range]
    refine Finset.sum_congr rfl fun q _ => ?_
    split
    · show _ = dite _ _ _
      rw [dif_pos (by omega)]
    · rfl
  rw [e0, e1, e2, show 4672 = 2048 + (576 + 2048) by norm_num, Finset.sum_range_add, Finset.sum_range_add, Finset.sum_range_add,
    Finset.sum_range_add]
  have h1 : ∑ n ∈ Finset.range 2048, F (if n < 2048 then n else n + 576) = ∑ n ∈ Finset.range 2048, F n :=
    Finset.sum_congr rfl fun n hn => by rw [if_pos (Finset.mem_range.mp hn)]
  have h2 : ∑ n ∈ Finset.range 2048, F (if 2048 + n < 2048 then 2048 + n else 2048 + n + 576) = ∑ n ∈ Finset.range 2048, F (2048 + (576 + n)) :=
    Finset.sum_congr rfl fun n hn => by rw [if_neg (by omega)]; congr 1; omega
  have h3 : ∑ n ∈ Finset.range 576, (if n < 576 then F (2048 + n) else 0) = ∑ n ∈ Finset.range 576, F (2048 + n) :=
    Finset.sum_congr rfl fun n hn => by rw [if_pos (Finset.mem_range.mp hn)]
  have h4 : ∑ n ∈ Finset.range 64, (if 576 + n < 576 then F (2048 + (576 + n)) else 0) = 0 :=
    Finset.sum_eq_zero fun n hn => by rw [if_neg (by omega)]
  rw [h1, h2, h3, h4, add_zero, add_assoc, add_comm (∑ n ∈ Finset.range 2048, F (2048 + (576 + n)))]

/-- The call's operands: the outer columns of the cotangent. -/
theorem entry5 (c : Dev nD) (r : Fin 8192) (q : Fin 4096) : V m c main_v5 (ix2 r q) = m ((c : Thread nD τ).loc main_arg2) (ix2 r (col q)) := by
  show StableHlo.after hostOps0 _ _ _ = _
  unfold hostOps0
  after_results
  pointwise
  unfold col
  split
  · rename_i h; exact congrArg (fun k => m ((c : Thread nD τ).loc main_arg2) (ix2 r k)) (Fin.ext (by simp only [if_pos h]))
  · rename_i h; exact congrArg (fun k => m ((c : Thread nD τ).loc main_arg2) (ix2 r k)) (Fin.ext (by simp only [if_neg h]; omega))

/-- The outer columns of the weight. -/
theorem entry11 (c : Dev nD) (r : Fin 1024) (q : Fin 4096) : V m c main_v11 (ix2 r q) = m ((c : Thread nD τ).loc main_arg3) (ix2 r (col q)) := by
  show StableHlo.after hostOps0 _ _ _ = _
  unfold hostOps0
  after_results
  pointwise
  unfold col
  split
  · rename_i h; exact congrArg (fun k => m ((c : Thread nD τ).loc main_arg3) (ix2 r k)) (Fin.ext (by simp only [if_pos h]))
  · rename_i h; exact congrArg (fun k => m ((c : Thread nD τ).loc main_arg3) (ix2 r k)) (Fin.ext (by simp only [if_neg h]; omega))

/-- The middle columns of the cotangent, filled with zeros. -/
theorem entry8 (c : Dev nD) (r : Fin 8192) (q : Fin 640) : V m c main_v8 (ix2 r q)
    = (if h : q.val < 576 then m ((c : Thread nD τ).loc main_arg2) (ix2 r ⟨2048 + q.val, by omega⟩) else (0 : EReal)) := by
  show StableHlo.after hostOps0 _ _ _ = _
  unfold hostOps0
  after_results
  pointwise

/-- The middle columns of the weight, filled with zeros. -/
theorem entry14 (c : Dev nD) (r : Fin 1024) (q : Fin 640) : V m c main_v14 (ix2 r q)
    = (if h : q.val < 576 then m ((c : Thread nD τ).loc main_arg3) (ix2 r ⟨2048 + q.val, by omega⟩) else (0 : EReal)) := by
  show StableHlo.after hostOps0 _ _ _ = _
  unfold hostOps0
  after_results
  pointwise

/-- The product's cotangent as the call computes it: the outer columns and the filled middle ones apart. -/
def prodK (zm : FVec Ideal S8192x4096 .bf16) (wm : FVec Ideal S1024x4096 .bf16) (zc : FVec Ideal S8192x640 .bf16) (wc : FVec Ideal S1024x640 .bf16)
    (r : Fin 8192) (k : Fin 1024) : EReal :=
  ∑ q, zm (ix2 r q) * wm (ix2 k q) + ∑ q, zc (ix2 r q) * wc (ix2 k q)

/-- The product's cotangent over all columns. -/
def prod (dz : FVec Ideal S8192x4672 .f32) (w : FVec Ideal S1024x4672 .f32) (r : Fin 8192) (k : Fin 1024) : EReal :=
  ∑ q, dz (ix2 r q) * w (ix2 k q)

/-- Both products are one. -/
theorem prod_eq (c : Dev nD) : prodK (V m c main_v5) (V m c main_v11) (V m c main_v8) (V m c main_v14) = prod (m ((c : Thread nD τ).loc main_arg2)) (m ((c : Thread nD τ).loc main_arg3)) := by
  funext r k
  rw [prod, ← sum_split, prodK]
  congr 1
  · exact Finset.sum_congr rfl fun q _ => by rw [entry5, entry11]
  · refine Finset.sum_congr rfl fun q _ => ?_
    rw [entry8, entry14]
    split
    · rfl
    · exact zero_mul _

/-- The first input's gradient at one place: the cotangent that passes the norm by plus the norm's own gradient. -/
def dx (x dh1 : FVec Ideal S8192x1024 .f32) (pr : Fin 8192 → Fin 1024 → EReal) (g : FVec Ideal S1024 .f32) (r : Fin 8192) (j : Fin 1024) : EReal :=
  dh1 (ix2 r j) + Rms.grad (Ideal.ofBits .f32 0x44800000#32) (Ideal.ofBits .f32 0x358637BD#32) (fun k => x (ix2 r k)) (fun k => pr r k * g (ix1 k)) j

/-- The scale's gradient at one row and column: the product's cotangent times the normed row. -/
def dgRow (x : FVec Ideal S8192x1024 .f32) (pr : Fin 8192 → Fin 1024 → EReal) (r : Fin 8192) (k : Fin 1024) : EReal :=
  pr r k * (x (ix2 r k) * Ideal.rsqrt (Rms.var (Ideal.ofBits .f32 0x44800000#32) (Ideal.ofBits .f32 0x358637BD#32) (fun k => x (ix2 r k))))

/-- The scale's gradient summed over the 512 rows of a block. -/
def dgSum (x : FVec Ideal S8192x1024 .f32) (pr : Fin 8192 → Fin 1024 → EReal) (b : Fin 16) (k : Fin 1024) : EReal :=
  ∑ q : Fin 512, dgRow x pr ⟨b.val * 512 + q.val, by omega⟩ k

/-- The blocks' sums as the call's array. -/
def dgBlock (x : FVec Ideal S8192x1024 .f32) (pr : Fin 8192 → Fin 1024 → EReal) : FVec Ideal S16x1x1024 .f32 := fun i => dgSum x pr (i 0) (i 2)

open Cert.Reference3Ideal.Read in
/-- The reference's first result is the gradient written out. -/
theorem ref_dx (x dh1 : FVec Ideal S8192x1024 .f32) (dz : FVec Ideal S8192x4672 .f32) (w : FVec Ideal S1024x4672 .f32)
    (g : FVec Ideal S1024 .f32) (r : Fin 8192) (j : Fin 1024) :
    val_main_v38 (F := Ideal) x dh1 dz w g (ix2 r j) = dx x dh1 (prod dz w) g r j := by
  rw [dx, Rms.word_1024, Rms.word_eps, Rms.grad_eq (by norm_num) (by norm_num), ← Rms.word_1024, ← Rms.word_eps, ← Rms.word_half]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38]
  simp only [Finset.sum_const, Finset.card_univ, Fintype.card_fin, one_smul, add_assoc]
  rfl

/-- One grid point writes the gradient at its block of rows. -/
theorem point7 (c : Dev nD) (t : Fin cfg0.N) (y) :
    k0_pay1 (iblk m c 5 t) (k0_pay6 (iblk m c 0 t) (iblk m c 1 t) (iblk m c 2 t) (iblk m c 3 t) (iblk m c 4 t) (iblk m c 6 t)) (k0_pay7 (iblk m c 4 t)) y
    = dx (m ((c : Thread nD τ).loc main_arg0)) (m ((c : Thread nD τ).loc main_arg1)) (prodK (V m c main_v5) (V m c main_v11) (V m c main_v8) (V m c main_v14)) (m ((c : Thread nD τ).loc main_arg4))
      (((cfg0.win 7).blk t).view.emb y 0) (((cfg0.win 7).blk t).view.emb y 1) := by
  pointwise [k0_pay1, k0_pay7, k0_pay6, k0_pay5, k0_pay4, k0_pay3, dx, Rms.grad, Rms.var, prodK]
  blk_point [iblk, V, idx t] <;>
  · show StableHlo.after hostOps0 _ _ _ = _
    unfold hostOps0
    after_results
    pointwise
    blk_point [idx t]

/-- One grid point writes the sum over its rows of the scale's gradient. -/
theorem point8 (c : Dev nD) (t : Fin cfg0.N) (y) :
    k0_pay2 (k0_pay3 (iblk m c 0 t) (iblk m c 1 t) (iblk m c 2 t) (iblk m c 3 t)) (k0_pay5 (iblk m c 4 t)) y
    = dgBlock (m ((c : Thread nD τ).loc main_arg0)) (prodK (V m c main_v5) (V m c main_v11) (V m c main_v8) (V m c main_v14)) (((cfg0.win 8).blk t).view.emb y) := by
  pointwise [k0_pay2, k0_pay5, k0_pay4, k0_pay3, dgBlock, dgSum, dgRow, Rms.var, prodK]
  blk_point [iblk, V, idx t]

open Cert.Reference3Ideal.Read in
/-- The reference's first result, as an array, is the call's. -/
theorem final7 (c : Dev nD) : (dats m 0 c).arrAt 7 (cfgs 0).N
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  refine (point7 m c t y).trans ?_
  rw [prod_eq]
  exact (ref_dx _ _ _ _ _ _ _).symm.trans (congrArg _ (ix2_eta _))

/-- The partial sums, one row of columns for each block of rows. -/
theorem final8 (c : Dev nD) : (dats m 0 c).arrAt 8 (cfgs 0).N = dgBlock (m ((c : Thread nD τ).loc main_arg0)) (prod (m ((c : Thread nD τ).loc main_arg2)) (m ((c : Thread nD τ).loc main_arg3))) := by
  refine (dats m 0 c).arrAt_eq_of_covers 8 _ (by decide +kernel) fun t _ y => ?_
  blk_simp
  rw [after0_8]; frame_out
  refine (point8 m c t y).trans ?_
  rw [prod_eq]

open Cert.Reference3Ideal.Read in
/-- The partial sums add up to the reference's gradient of the scale. -/
theorem ref_dg (x : FVec Ideal S8192x1024 .f32) (dz : FVec Ideal S8192x4672 .f32) (w : FVec Ideal S1024x4672 .f32) (i : S1024.Idx) :
    ∑ b : Fin 16, dgBlock x (prod dz w) (ix3 b 0 (i 0)) = val_main_v23 (F := Ideal) x dz w i := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, dgBlock, dgSum, dgRow, Rms.var, prod]
  simp only [Finset.sum_const, Finset.card_univ, Fintype.card_fin, one_smul]
  exact Fin.sum_mul_add_congr fun b q hl => mul_comm _ _

/-- What the host's sum after the call leaves. -/
theorem tail (c : Dev nD) : Pipeline.afterTail₀ cfgs (dats m) 0 (V0 m) [hostOps1] c main_v16
    = Host.reduceAdd (dgBlock (m ((c : Thread nD τ).loc main_arg0)) (prod (m ((c : Thread nD τ).loc main_arg2)) (m ((c : Thread nD τ).loc main_arg3))))
      (constant S_ .f32 0x00000000#32) reducesTo_S16x1x1024_S1024_d0_1 h_S_ := by
  rw [← final8 m c]
  unfold Pipeline.afterTail₀
  show StableHlo.after hostOps1 _ _ = _
  unfold hostOps1
  after_results
  exact congrArg (Host.reduceAdd · (constant S_ .f32 0x00000000#32) reducesTo_S16x1x1024_S1024_d0_1 h_S_)
    (Pipeline.withArrays_arr spec0 launch0.win.arr_inj c _ (fun w => (dats m 0 c).arrAt w (cfgs 0).N) 8)

open Cert.Reference3Ideal.Read in
/-- The second result is the reference's gradient of the scale. -/
theorem final_dg (c : Dev nD) : Pipeline.afterTail₀ cfgs (dats m) 0 (V0 m) [hostOps1] c main_v16
    = val_main_v23 (F := Ideal) (m ((c : Thread nD τ).loc main_arg0)) (m ((c : Thread nD τ).loc main_arg2)) (m ((c : Thread nD τ).loc main_arg3)) := by
  rw [tail]
  funext i
  refine Eq.trans ?_ (ref_dg _ _ _ i)
  pointwise

/-- `dx`: from the same arguments the call and the derivative of the first norm end with equal results. -/
theorem claim : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
    · exact W_main_arg2 m (dats m) c
    · exact W_main_arg3 m (dats m) c
    · exact W_main_arg4 m (dats m) c
  · run_from Cert.Reference3Ideal.Value.run m' g'
    all_goals obtain ⟨a0, a1, a2, a3, a4⟩ := hagree c
    · rw [Cert.Reference3Ideal.Read.val_main_v38_eq, a0, a1, a2, a3, a4]
      exact (final7 m c).symm
    · exact (final_dg m c).symm

end Cert.Kernel3Ideal.Dx

end
-- ==== Proof.DownLoss.lean ====
module

public import proofs.«01_k».proof.Defs
public import proofs.«01_k».proof.Proof.Gen.Kernel4Ideal.Frame
public import proofs.«01_k».proof.Proof.Gen.Reference4Ideal.Read
public import Idealize.ShloMosaic.Lib.Pipeline.ValueKit
public import Idealize.ShloMosaic.Lib.Pointwise
public import Idealize.ShloMosaic.Lib.Claim
public import proofs.«01_k».proof.Proof.Rms

@[expose] public section

set_option maxRecDepth 16384

noncomputable section

namespace Cert.Kernel4Ideal.DownLoss

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The blocks of the windows at each grid point. -/
theorem idx : ∀ t : Fin cfg0.N, win0_0.index t = ![t.val, 0] ∧ win0_1.index t = ![0, 0]
    ∧ win0_2.index t = ![t.val, 0] ∧ win0_3.index t = ![t.val, 0] ∧ win0_4.index t = ![0, 0] ∧ win0_5.index t = ![t.val, 0]
    ∧ win0_6.index t = ![t.val, 0] ∧ win0_7.index t = ![t.val, 0, 0] ∧ win0_8.index t = ![t.val, 0, 0] :=
  (by decide +kernel : ∀ t : Fin grid0.N, _)

/-- The stream after the channel mixer: the down projection plus the stream before it. -/
def h2 (act : FVec Ideal S8192x4096 .f32) (w : FVec Ideal S4096x1024 .f32) (h1 : FVec Ideal S8192x1024 .f32) (r : Fin 8192) (k : Fin 1024) : EReal :=
  ∑ q, act (ix2 r q) * w (ix2 q k) + h1 (ix2 r k)

/-- One over the deviation of a row. -/
def rs (act : FVec Ideal S8192x4096 .f32) (w : FVec Ideal S4096x1024 .f32) (h1 : FVec Ideal S8192x1024 .f32) (r : Fin 8192) : EReal :=
  Ideal.rsqrt (Rms.var (Ideal.ofBits .f32 0x44800000#32) (Ideal.ofBits .f32 0x358637BD#32) (h2 act w h1 r))

/-- The error at one place: the normed and scaled row minus the target. -/
def err (act : FVec Ideal S8192x4096 .f32) (w : FVec Ideal S4096x1024 .f32) (h1 target : FVec Ideal S8192x1024 .f32)
    (g : FVec Ideal S1024 .f32) (r : Fin 8192) (k : Fin 1024) : EReal :=
  h2 act w h1 r k * rs act w h1 r * g (ix1 k) - target (ix2 r k)

/-- The cotangent of the norm's result: the error over the width. -/
def dy (act : FVec Ideal S8192x4096 .f32) (w : FVec Ideal S4096x1024 .f32) (h1 target : FVec Ideal S8192x1024 .f32)
    (g : FVec Ideal S1024 .f32) (r : Fin 8192) (k : Fin 1024) : EReal :=
  err act w h1 target g r k * Ideal.ofBits .f32 0x3A800000#32

/-- The stream's gradient at one place. -/
def dh2 (act : FVec Ideal S8192x4096 .f32) (w : FVec Ideal S4096x1024 .f32) (h1 target : FVec Ideal S8192x1024 .f32)
    (g : FVec Ideal S1024 .f32) (r : Fin 8192) (j : Fin 1024) : EReal :=
  Rms.grad (Ideal.ofBits .f32 0x44800000#32) (Ideal.ofBits .f32 0x358637BD#32) (h2 act w h1 r) (fun k => dy act w h1 target g r k * g (ix1 k)) j

/-- The scale's gradient summed over the 512 rows of a block. -/
def dgSum (act : FVec Ideal S8192x4096 .f32) (w : FVec Ideal S4096x1024 .f32) (h1 target : FVec Ideal S8192x1024 .f32)
    (g : FVec Ideal S1024 .f32) (b : Fin 16) (k : Fin 1024) : EReal :=
  ∑ q : Fin 512, dy act w h1 target g ⟨b.val * 512 + q.val, by omega⟩ k * (h2 act w h1 ⟨b.val * 512 + q.val, by omega⟩ k * rs act w h1 ⟨b.val * 512 + q.val, by omega⟩)

/-- The blocks' sums of the scale's gradient, as the call's array. -/
def dgBlock (act : FVec Ideal S8192x4096 .f32) (w : FVec Ideal S4096x1024 .f32) (h1 target : FVec Ideal S8192x1024 .f32)
    (g : FVec Ideal S1024 .f32) : FVec Ideal S16x1x1024 .f32 := fun i => dgSum act w h1 target g (i 0) (i 2)

/-- The loss summed over the 512 rows of a block. -/
def lossSum (act : FVec Ideal S8192x4096 .f32) (w : FVec Ideal S4096x1024 .f32) (h1 target : FVec Ideal S8192x1024 .f32)
    (g : FVec Ideal S1024 .f32) (b : Fin 16) : EReal :=
  ∑ q : Fin 512, Ideal.ofBits .f32 0x3F000000#32 * Ideal.div (∑ k, err act w h1 target g ⟨b.val * 512 + q.val, by omega⟩ k
    * err act w h1 target g ⟨b.val * 512 + q.val, by omega⟩ k) (Ideal.ofBits .f32 0x44800000#32)

/-- The blocks' losses, the same in every lane, as the call's array. -/
def lossBlock (act : FVec Ideal S8192x4096 .f32) (w : FVec Ideal S4096x1024 .f32) (h1 target : FVec Ideal S8192x1024 .f32)
    (g : FVec Ideal S1024 .f32) : FVec Ideal S16x1x1024 .f32 := fun i => lossSum act w h1 target g (i 0)

section reference
open Cert.Reference4Ideal.Read

/-- The reference's stream. -/
theorem ref_h2 (act : FVec Ideal S8192x4096 .f32) (w : FVec Ideal S4096x1024 .f32) (h1 : FVec Ideal S8192x1024 .f32) (r : Fin 8192) (k : Fin 1024) :
    val_main_v1 (F := Ideal) act w h1 (ix2 r k) = h2 act w h1 r k := by
  pointwise [val_main_v0, val_main_v1, h2]
  exact add_comm _ _

/-- The reference's error. -/
theorem ref_err (act : FVec Ideal S8192x4096 .f32) (w : FVec Ideal S4096x1024 .f32) (h1 target : FVec Ideal S8192x1024 .f32)
    (g : FVec Ideal S1024 .f32) (r : Fin 8192) (k : Fin 1024) :
    val_main_v18 (F := Ideal) act w h1 target g (ix2 r k) = err act w h1 target g r k := by
  pointwise [val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_v19, val_main_cst_3, val_main_v20, val_main_v21, val_main_cst_4, val_main_v22, val_main_cst_5, val_main_v23, val_main_v24, val_main_cst_6, val_main_v25, val_main_cst_7, val_main_v26, val_main_cst_8, val_main_cst_9, val_main_v27, val_main_v28, val_main_cst_10, val_main_v29, val_main_v30, val_main_v31, val_main_v32, val_main_v33, val_main_cst_11, val_main_v34, val_main_v35, val_main_v36, val_main_v37, val_main_cst_12, val_main_v38, val_main_v39, val_main_cst_13, val_main_v40, val_main_v41, val_main_v42, val_main_v43, val_main_v44, val_main_cst_14, val_main_v45, val_main_v46, val_main_cst_15, val_main_v47, val_main_v48, val_main_v49, val_main_v50, val_main_v51, val_main_v52, val_main_v53, err, rs, Rms.var]
  simp only [ref_h2]
  try rfl

/-- The reference's cotangent of the norm's result: half of twice the error over the width. -/
theorem ref_dy (act : FVec Ideal S8192x4096 .f32) (w : FVec Ideal S4096x1024 .f32) (h1 target : FVec Ideal S8192x1024 .f32)
    (g : FVec Ideal S1024 .f32) (r : Fin 8192) (k : Fin 1024) :
    val_main_v32 (F := Ideal) act w h1 target g (ix2 r k) = dy act w h1 target g r k := by
  pointwise [val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v19, val_main_cst_3, val_main_v20, val_main_v21, val_main_cst_4, val_main_v22, val_main_cst_5, val_main_v23, val_main_v24, val_main_cst_6, val_main_v25, val_main_cst_7, val_main_v26, val_main_cst_8, val_main_cst_9, val_main_v27, val_main_v28, val_main_cst_10, val_main_v29, val_main_v30, val_main_v31, val_main_v32, val_main_v33, val_main_cst_11, val_main_v34, val_main_v35, val_main_v36, val_main_v37, val_main_cst_12, val_main_v38, val_main_v39, val_main_cst_13, val_main_v40, val_main_v41, val_main_v42, val_main_v43, val_main_v44, val_main_cst_14, val_main_v45, val_main_v46, val_main_cst_15, val_main_v47, val_main_v48, val_main_v49, val_main_v50, val_main_v51, val_main_v52, val_main_v53, dy]
  simp only [ref_err]
  have e : Ideal.div (Ideal.ofBits .f32 0x3F000000#32) (Ideal.ofBits .f32 0x44800000#32)
      * Ideal.ofBits .f32 0x40000000#32 = Ideal.ofBits .f32 0x3A800000#32 := by
    have c1 : Ideal.ofBits .f32 0x3F000000#32 = ((1 / 2 : ℝ) : EReal) := by simp [Ideal.ofBits, Ideal.ieee, -EReal.coe_mul]; norm_num
    have c3 : Ideal.ofBits .f32 0x40000000#32 = ((2 : ℝ) : EReal) := by simp [Ideal.ofBits, Ideal.ieee, -EReal.coe_mul]; norm_num
    have c4 : Ideal.ofBits .f32 0x3A800000#32 = ((1 / 1024 : ℝ) : EReal) := by simp [Ideal.ofBits, Ideal.ieee, -EReal.coe_mul]; norm_num
    rw [c1, c3, c4, Rms.word_1024, Ideal.div_coe (by norm_num)]
    norm_cast
    norm_num
  rw [← e]
  generalize err act w h1 target g r k = x
  rw [mul_comm x, mul_assoc]

/-- The reference's first result is the gradient written out. -/
theorem ref_dh2 (act : FVec Ideal S8192x4096 .f32) (w : FVec Ideal S4096x1024 .f32) (h1 target : FVec Ideal S8192x1024 .f32)
    (g : FVec Ideal S1024 .f32) (r : Fin 8192) (j : Fin 1024) :
    val_main_v52 (F := Ideal) act w h1 target g (ix2 r j) = dh2 act w h1 target g r j := by
  rw [dh2, Rms.word_1024, Rms.word_eps, Rms.grad_eq (by norm_num) (by norm_num), ← Rms.word_1024, ← Rms.word_eps, ← Rms.word_half]
  pointwise [val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_v19, val_main_cst_3, val_main_v20, val_main_v21, val_main_cst_4, val_main_v22, val_main_cst_5, val_main_v23, val_main_v24, val_main_cst_6, val_main_v25, val_main_cst_7, val_main_v26, val_main_cst_8, val_main_cst_9, val_main_v27, val_main_v28, val_main_cst_10, val_main_v29, val_main_v30, val_main_v31, val_main_v33, val_main_cst_11, val_main_v34, val_main_v35, val_main_v36, val_main_v37, val_main_cst_12, val_main_v38, val_main_v39, val_main_cst_13, val_main_v40, val_main_v41, val_main_v42, val_main_v43, val_main_v44, val_main_cst_14, val_main_v45, val_main_v46, val_main_cst_15, val_main_v47, val_main_v48, val_main_v49, val_main_v50, val_main_v51, val_main_v52, val_main_v53]
  simp only [ref_h2, ref_dy, Finset.sum_const, Finset.card_univ, Fintype.card_fin, one_smul, add_assoc]
  rfl

/-- The partial sums add up to the reference's gradient of the scale. -/
theorem ref_dg (act : FVec Ideal S8192x4096 .f32) (w : FVec Ideal S4096x1024 .f32) (h1 target : FVec Ideal S8192x1024 .f32)
    (g : FVec Ideal S1024 .f32) (i : S1024.Idx) :
    ∑ b : Fin 16, dgBlock act w h1 target g (ix3 b 0 (i 0)) = val_main_v38 (F := Ideal) act w h1 target g i := by
  pointwise [val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_v19, val_main_cst_3, val_main_v20, val_main_v21, val_main_cst_4, val_main_v22, val_main_cst_5, val_main_v23, val_main_v24, val_main_cst_6, val_main_v25, val_main_cst_7, val_main_v26, val_main_cst_8, val_main_cst_9, val_main_v27, val_main_v28, val_main_cst_10, val_main_v29, val_main_v30, val_main_v31, val_main_v33, val_main_cst_11, val_main_v34, val_main_v35, val_main_v36, val_main_v37, val_main_cst_12, val_main_v38, val_main_v39, val_main_cst_13, val_main_v40, val_main_v41, val_main_v42, val_main_v43, val_main_v44, val_main_cst_14, val_main_v45, val_main_v46, val_main_cst_15, val_main_v47, val_main_v48, val_main_v49, val_main_v50, val_main_v51, val_main_v52, val_main_v53, dgBlock, dgSum, rs, Rms.var]
  simp only [ref_h2, ref_dy, Finset.sum_const, Finset.card_univ, Fintype.card_fin, one_smul]
  refine Fin.sum_mul_add_congr fun b q hl => ?_
  exact (mul_comm _ _).trans (congrArg₂ (· * ·) (congrArg (· * _) (ref_h2 act w h1 _ _).symm) (ref_dy act w h1 target g _ _).symm)

/-- The blocks' losses add up to the reference's loss. -/
theorem ref_loss (act : FVec Ideal S8192x4096 .f32) (w : FVec Ideal S4096x1024 .f32) (h1 target : FVec Ideal S8192x1024 .f32)
    (g : FVec Ideal S1024 .f32) (i : S_.Idx) :
    ∑ b : Fin 16, lossBlock act w h1 target g (ix3 b 0 0) = val_main_v26 (F := Ideal) act w h1 target g i := by
  pointwise [val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v19, val_main_cst_3, val_main_v20, val_main_v21, val_main_cst_4, val_main_v22, val_main_cst_5, val_main_v23, val_main_v24, val_main_cst_6, val_main_v25, val_main_cst_7, val_main_v26, val_main_cst_8, val_main_cst_9, val_main_v27, val_main_v28, val_main_cst_10, val_main_v29, val_main_v30, val_main_v31, val_main_v32, val_main_v33, val_main_cst_11, val_main_v34, val_main_v35, val_main_v36, val_main_v37, val_main_cst_12, val_main_v38, val_main_v39, val_main_cst_13, val_main_v40, val_main_v41, val_main_v42, val_main_v43, val_main_v44, val_main_cst_14, val_main_v45, val_main_v46, val_main_cst_15, val_main_v47, val_main_v48, val_main_v49, val_main_v50, val_main_v51, val_main_v52, val_main_v53, lossBlock, lossSum]
  simp only [ref_err]
  rw [show Ideal.ofBits .f32 0x3F000000#32 = ((1 / 2 : ℝ) : EReal) by simp [Ideal.ofBits, Ideal.ieee, -EReal.coe_mul]; norm_num]
  rw [mul_comm, Rms.sum_mul_coe _ (by norm_num)]
  exact Fin.sum_mul_add_congr fun b q hl => mul_comm _ _

end reference

/-- One grid point writes the gradient at its block of rows. -/
theorem point5 (c : Dev nD) (t : Fin cfg0.N) (y) :
    k0_pay3 (k0_pay7 (iblk m c 4 t)) (k0_pay8 (iblk m c 0 t) (iblk m c 1 t) (iblk m c 2 t)) (k0_pay11 (iblk m c 0 t) (iblk m c 1 t) (iblk m c 2 t) (iblk m c 3 t) (iblk m c 4 t)) (k0_pay12 (iblk m c 0 t) (iblk m c 1 t) (iblk m c 2 t)) y
    = dh2 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y 0) (((cfg0.win 5).blk t).view.emb y 1) := by
  pointwise [k0_pay3, k0_pay2, k0_pay1, k0_pay7, k0_pay8, k0_pay9, k0_pay11, k0_pay12, dh2, dy, err, rs, h2, Rms.grad, Rms.var]
  blk_point [iblk, V, idx t] <;>
  · show StableHlo.after hostOps0 _ _ _ = _
    unfold hostOps0
    after_results
    pointwise
    blk_point [idx t]

/-- One grid point writes the sum over its rows of the scale's gradient. -/
theorem point7 (c : Dev nD) (t : Fin cfg0.N) (y) :
    k0_pay5 (k0_pay8 (iblk m c 0 t) (iblk m c 1 t) (iblk m c 2 t)) (k0_pay11 (iblk m c 0 t) (iblk m c 1 t) (iblk m c 2 t) (iblk m c 3 t) (iblk m c 4 t)) (k0_pay12 (iblk m c 0 t) (iblk m c 1 t) (iblk m c 2 t)) y
    = dgBlock (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay5, k0_pay2, k0_pay1, k0_pay7, k0_pay8, k0_pay9, k0_pay11, k0_pay12, dgBlock, dgSum, dy, err, rs, h2, Rms.var]
  blk_point [iblk, V, idx t] <;>
  · show StableHlo.after hostOps0 _ _ _ = _
    unfold hostOps0
    after_results
    pointwise
    blk_point [idx t]

/-- One grid point writes the sum over its rows of the loss. -/
theorem point8 (c : Dev nD) (t : Fin cfg0.N) (y) :
    k0_pay6 (k0_pay10 (iblk m c 0 t) (iblk m c 1 t) (iblk m c 2 t) (iblk m c 3 t) (iblk m c 4 t)) y = lossBlock (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y) := by
  pointwise [k0_pay6, k0_pay7, k0_pay8, k0_pay9, k0_pay10, lossBlock, lossSum, err, rs, h2, Rms.var]
  blk_point [iblk, V, idx t] <;>
  · show StableHlo.after hostOps0 _ _ _ = _
    unfold hostOps0
    after_results
    pointwise
    blk_point [idx t]

open Cert.Reference4Ideal.Read in
/-- The reference's first result, as an array, is the call's. -/
theorem final5 (c : Dev nD) : (dats m 0 c).arrAt 5 (cfgs 0).N = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; unfold_out out0_5; frame_out
  exact (point5 m c t y).trans ((ref_dh2 _ _ _ _ _ _ _).symm.trans (congrArg _ (ix2_eta _)))

open Cert.Reference4Ideal.Read in
/-- The second result is the first one cast. -/
theorem final6 (c : Dev nD) : (dats m 0 c).arrAt 6 (cfgs 0).N = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; unfold_out out0_6; frame_out
  exact (point5 m c t y).trans ((ref_dh2 _ _ _ _ _ _ _).symm.trans (congrArg (val_main_v52 (F := Ideal) _ _ _ _ _) (ix2_eta _)))

/-- The scale's partial sums, one row of columns for each block of rows. -/
theorem final7 (c : Dev nD) : (dats m 0 c).arrAt 7 (cfgs 0).N = dgBlock (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; unfold_out out0_7; frame_out
  exact point7 m c t y

/-- The loss's partial sums. -/
theorem final8 (c : Dev nD) : (dats m 0 c).arrAt 8 (cfgs 0).N = lossBlock (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; frame_out
  exact point8 m c t y

/-- What the host's sum of the scale's partial sums leaves. -/
theorem tail7 (c : Dev nD) : Pipeline.afterTail₀ cfgs (dats m) 0 (V0 m) [hostOps1] c main_v7
    = Host.reduceAdd (dgBlock (m ((c : Thread nD τ).loc main_arg0)) (m ((c : Thread nD τ).loc main_arg1)) (m ((c : Thread nD τ).loc main_arg2)) (m ((c : Thread nD τ).loc main_arg3)) (m ((c : Thread nD τ).loc main_arg4))) (constant S_ .f32 0x00000000#32) reducesTo_S16x1x1024_S1024_d0_1 h_S_ := by
  rw [← final7 m c]
  unfold Pipeline.afterTail₀
  show StableHlo.after hostOps1 _ _ = _
  unfold hostOps1
  after_results
  exact congrArg (Host.reduceAdd · (constant S_ .f32 0x00000000#32) reducesTo_S16x1x1024_S1024_d0_1 h_S_)
    (Pipeline.withArrays_arr spec0 launch0.win.arr_inj c _ (fun w => (dats m 0 c).arrAt w (cfgs 0).N) 7)

/-- What the host's sum of the losses' first lanes leaves. -/
theorem tail6 (c : Dev nD) : Pipeline.afterTail₀ cfgs (dats m) 0 (V0 m) [hostOps1] c main_v6
    = Host.reduceAdd (shapeCast S16 (extractStridedSlice S16x1x1 ![0, 0, 0] (lossBlock (m ((c : Thread nD τ).loc main_arg0)) (m ((c : Thread nD τ).loc main_arg1)) (m ((c : Thread nD τ).loc main_arg2)) (m ((c : Thread nD τ).loc main_arg3)) (m ((c : Thread nD τ).loc main_arg4))) slices_S16x1x1024_S16x1x1_0_0_0) shapeCasts_S16x1x1_S16)
      (constant S_ .f32 0x00000000#32) reducesTo_S16_S_d0 h_S_ := by
  rw [← final8 m c]
  unfold Pipeline.afterTail₀
  show StableHlo.after hostOps1 _ _ = _
  unfold hostOps1
  after_results
  have e : Pipeline.withArrays (cfgs 0).spec c (V0 m c) (fun w => (dats m 0 c).arrAt w (cfgs 0).N) (Proc.tc.devRef main_v3_3)
      = (dats m 0 c).arrAt 8 (cfgs 0).N := Pipeline.withArrays_arr spec0 launch0.win.arr_inj c _ (fun w => (dats m 0 c).arrAt w (cfgs 0).N) 8
  rw [e]
  rfl

open Cert.Reference4Ideal.Read in
/-- The third result is the reference's gradient of the scale. -/
theorem final_dg (c : Dev nD) : Pipeline.afterTail₀ cfgs (dats m) 0 (V0 m) [hostOps1] c main_v7 = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [tail7]
  funext i
  refine Eq.trans ?_ (ref_dg _ _ _ _ _ i)
  pointwise

open Cert.Reference4Ideal.Read in
/-- The fourth result is the reference's loss. -/
theorem final_loss (c : Dev nD) : Pipeline.afterTail₀ cfgs (dats m) 0 (V0 m) [hostOps1] c main_v6 = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [tail6]
  funext i
  refine Eq.trans ?_ (ref_loss _ _ _ _ _ i)
  pointwise
  try rfl

/-- `down_loss`: from the same arguments the call and the derivative of the loss through the last norm end with equal results. -/
theorem claim : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
    · exact W_main_arg0 m (dats m) c
    · exact W_main_arg1 m (dats m) c
    · exact W_main_arg4 m (dats m) c
  · run_from Cert.Reference4Ideal.Value.run m' g'
    all_goals obtain ⟨a0, a1, a2, a3, a4⟩ := hagree c
    · rw [Cert.Reference4Ideal.Read.val_main_v52_eq, a0, a1, a2, a3, a4]
      exact (final5 m c).symm
    · rw [Cert.Reference4Ideal.Read.val_main_v53_eq, a0, a1, a2, a3, a4]
      exact (final6 m c).symm
    · exact (final_dg m c).symm
    · exact (final_loss m c).symm

end Cert.Kernel4Ideal.DownLoss

end
-- ==== Proof.TailRun.lean ====
module

public import Idealize.ShloMosaic.Lib.Pipeline.FrameSuffix
public import Idealize.ShloMosaic.Lib.Pipeline.ArrRel
public import Idealize.ShloMosaic.Lib.Pipeline.DatRel

@[expose] public section

/-!
A run of a program with one region and host lines after it, where the region's proof data are relational: the region leaves
its arrays at contents of which only a property is known, and the host lines compute from those contents.  The statement kept
here is that, on each core, the buffers written after the region hold what the lines compute from SOME contents `A` that the
region may leave.
-/

noncomputable section

namespace Cert.TailRun

open Idealize.ShloMosaic Idealize.ShloMosaic.TcCoe Idealize.ShloMosaic.Pipeline Idealize.ShloMosaic.Rounds
open Idealize.SL Idealize.SL.RA
open Idealize.SL.BI (sProp bigSep)
open scoped Idealize.SL.BI
open Idealize.SL.BI.BIBase Idealize.SL.BI.Laws Idealize.SL.ProofMode Idealize.SL.Sem

variable {nD : Nat} {τ : Topo} {sig : RefSig} {Val : EltTy → Type} [∀ e, Nonempty (Val e)]
variable {Λ₀ : Labels} {P : Type} [Fintype P] [DecidableEq P]

local notation "𝕄" => MT nD τ sig Unit Val ℕ (UR sig nD τ) ℕ

/-- What holds at the end: the arrays at contents the data allow, and every other buffer at what the lines `ops` after the
    region compute from allowed contents. -/
def Post (cfg : Cfg sig Λ₀) (rd : (c : Dev nD) → RDat τ Val Unit ℕ (UR sig nD τ) ℕ cfg c) (V₀ : Dev nD → Valuation τ sig Val)
    (ops : List (HloOp τ sig Val)) (r : PUnit × MemSt nD τ sig Val) : Prop :=
  ∀ c : Dev nD, (∀ w, (rd c).ArrAt w cfg.N (r.2.mem ((cfg.spec w).arr.view.loc (c.tc : Thread nD τ))))
    ∧ ∃ A, (∀ w, (rd c).ArrAt w cfg.N (A w)) ∧ ∀ b ∈ restRefs sig cfg.spec,
        r.2.mem ((c.tc : Thread nD τ).loc b) = StableHlo.after ops (withArrays cfg.spec c (V₀ c) A) (Proc.devRef .tc b)

variable (cfgs : P → Cfg sig Λ₀) (p : P) (defs₀ : Defs nD τ sig Val Λ₀) (𝒱₀ : Variants)

/-- The run, with every semaphore counter of the machine back at zero. -/
theorem run (kit : LaunchFacts₀ (nD := nD) (τ := τ) cfgs p)
    (rd : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rd c).BodyObligation defs₀ 𝒱₀ () Set.univ)
    (hq : ∀ c w, ((cfgs p).spec w).isOut = false → (rd c).q w = shareOf (cfgs p).spec w) (howed : ∀ c t, (rd c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rd c).A w = V₀ c (Proc.devRef .tc (arrRef (cfgs p).spec w)))
    (hin : ∀ c, ΦA (cfgs p).spec c ⊢ (rd c).Φ 0) (hout : ∀ c, (rd c).Φ (Fin.last (cfgs p).N) ⊢ ΦA (cfgs p).spec c) :
    θ_run (Pipeline.defs (fun q => (cfgs q).toPCfg (Val := Val)) defs₀) (onTc main) (s₀ m g)
      (fun r => Post (cfgs p) rd V₀ opss.flatten r ∧ r.2.sem = fun _ => 0) := by
  classical
  have kitP := kit.toP (Val := Val)
  have hF : ∀ c, RDat.familyOf (fun q => (cfgs q).toPCfg (Val := Val)) (fun q => (cfgs q).toPCfg_adm (Val := Val)) p rd p c = rd c := fun c => RDat.familyOf_self _ _ _ _ _
  -- the arrays after every write-back: some allowed contents
  have hopen : ∀ c, ((rd c).arraysAt (cfgs p).N : sProp 𝕄)
      ⊢ iprop(∃ A, ⌜∀ w, (rd c).ArrAt w (cfgs p).N (A w)⌝ ∗ (rd c).arrays A) := fun c => by
    unfold RDat.arraysAt
    iintro Ha
    ihave Hb := (BI.bigSep_exists_pi Finset.univ (fun w F => iprop(⌜(rd c).ArrAt w (cfgs p).N F⌝
        ∗ (((cfgs p).win w).arr.view.loc (c.tc : Thread nD τ) ↦[((cfgs p).win w).arr.view.set]{(rd c).share w} F)))) $$ Ha
    icases Hb with ⟨%A, Hb⟩
    ihave Hc := (BI.bigSep_pure_sep Finset.univ (fun w => (rd c).ArrAt w (cfgs p).N (A w))
        (fun w => ((cfgs p).win w).arr.view.loc (c.tc : Thread nD τ) ↦[((cfgs p).win w).arr.view.set]{(rd c).share w} A w)) $$ Hb
    icases Hc with ⟨%h, Hc⟩
    iexists A; isplitr
    · ipureintro; exact fun w => h w (Finset.mem_univ w)
    · unfold RDat.arrays; iexact Hc
  have hclose : ∀ c A, (∀ w, (rd c).ArrAt w (cfgs p).N (A w)) → ((rd c).arrays A : sProp 𝕄) ⊢ (rd c).arraysAt (cfgs p).N :=
    fun c A h => by
      unfold RDat.arraysAt RDat.arrays
      refine BI.bigSep_mono fun w _ => ?_
      show (((cfgs p).win w).arr.view.loc (c.tc : Thread nD τ) ↦[((cfgs p).win w).arr.view.set]{(rd c).share w} A w : sProp 𝕄)
        ⊢ iprop(∃ F, ⌜(rd c).ArrAt w (cfgs p).N F⌝
          ∗ (((cfgs p).win w).arr.view.loc (c.tc : Thread nD τ) ↦[((cfgs p).win w).arr.view.set]{(rd c).share w} F))
      iintro H; iexists (A w); isplitr
      · ipureintro; exact h w
      · iexact H
  let rest := restRefsP sig (Prefetch.none (sig := sig)) (cfgs p).spec
  let out : (c : Dev nD) → ((w : Fin (cfgs p).W) → Buf Val (((cfgs p).spec w).arr.view.loc (c.tc : Thread nD τ))) → (b : Ref sig .tc) → Buf Val ((c.tc : Thread nD τ).loc b) :=
    fun c A b => StableHlo.after opss.flatten (withArrays (cfgs p).spec c (V₀ c) A) (Proc.devRef .tc b)
  exact RDat.θ_run_region_pf_tail_quiescent (fun q => (cfgs q).toPCfg (Val := Val)) (fun q => (cfgs q).toPCfg_adm (Val := Val)) (RDat.familyOf (fun q => (cfgs q).toPCfg (Val := Val)) (fun q => (cfgs q).toPCfg_adm (Val := Val)) p rd) () (kitP.cellOf_inj (fun q => (cfgs q).toPCfg_adm (Val := Val))) p kitP.win
    (OwnSemFacts.none (cfgs p).spec) kitP.pre emb₁ defs₀ 𝒱₀ m g main (fun _ => chain (opss.map StableHlo.seq))
    (fun c => by rw [hF]; exact hbody c) kitP.block_pos kitP.arr_whole kitP.stage_whole (fun c t => by rw [hF]; exact howed c t)
    (G := fun _ => iprop(emp)) (u₀ := initOf (cells (pin (fun q => (cfgs q).toPCfg (Val := Val)) (fun q => (cfgs q).toPCfg_adm (Val := Val))) (kitP.cellOf_inj (fun q => (cfgs q).toPCfg_adm (Val := Val)))) (launchToks (pin (fun q => (cfgs q).toPCfg (Val := Val)) (fun q => (cfgs q).toPCfg_adm (Val := Val))) (kitP.cellOf_inj (fun q => (cfgs q).toPCfg_adm (Val := Val)))))
    (hu₀ := by
      iintro Hu; imodintro
      isplitl [Hu]
      · iapply (show (ownU _ : sProp 𝕄) ⊢ BI.own (emb₁ (initOf (cells (pin (fun q => (cfgs q).toPCfg (Val := Val)) (fun q => (cfgs q).toPCfg_adm (Val := Val))) (kitP.cellOf_inj (fun q => (cfgs q).toPCfg_adm (Val := Val)))) (launchToks (pin (fun q => (cfgs q).toPCfg (Val := Val)) (fun q => (cfgs q).toPCfg_adm (Val := Val))) (kitP.cellOf_inj (fun q => (cfgs q).toPCfg_adm (Val := Val)))))) from .rfl)
        iexact Hu
      · iapply (show (BI.emp : sProp 𝕄) ⊢ bigSep Finset.univ (fun _ : Dev nD => (BI.emp : sProp 𝕄)) from by rw [BI.bigSep_emp_const])
        iempintro)
    (V := fun c b => V₀ c (Proc.devRef .tc b)) (hmain := hmain)
    (hsplit := fun c => by rw [hF]; exact (rd c).arrays_split_shared kitP.sharedIn kitP.arr_whole (hq c) _ _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (fun b => V₀ c (Proc.devRef .tc b)))
    (Z' := fun c => iprop(∃ A, ⌜∀ w, (rd c).ArrAt w (cfgs p).N (A w)⌝
      ∗ unscopedRestP (Ix := Unit) (Name := ℕ) (U := UR sig nD τ) (Lvl := ℕ) Prefetch.none (cfgs p).spec c (out c A)))
    (hX := fun c => by
      iintro ⟨HU, -, -, Hp, -⟩; imodintro
      isplitl [Hp]
      · iexists _; iexact Hp
      · iexact HU)
    (hin := fun c => by
      rw [hF]
      exact (show _ ⊢ ΦA (cfgs p).spec c by
        unfold ΦA; iintro ⟨Hp, -, Hr⟩
        isplitl [Hr] <;> iassumption).trans (hin c))
    (hout := fun c => by
      rw [hF]
      exact (hout c).trans (by
        rw [ownSems0_none]; unfold ΦA
        iintro ⟨Hr, Hp⟩
        isplitl [Hp]
        · iexact Hp
        · isplitr
          · iempintro
          · iexact Hr))
    (htail := fun c Q => by
      iintro ⟨Hk, Hb, Ha, HZ⟩
      rw [hF]
      ihave Ha := (hopen c) $$ Ha
      icases Ha with ⟨%A, %hAr, Ha⟩
      have hB : (rd c).arrays A = arrBufs (cfgs p).spec c (fun b => withArrays (cfgs p).spec c (V₀ c) A (Proc.devRef .tc b)) :=
        ((rd c).arrBufs_eq_arrays kitP.sharedIn kitP.arr_whole (hq c) _ A fun w =>
          (withArrays_arr_shared (cfgs p).spec c (V₀ c) A ((rd c).ArrAt_sharedIn kitP.sharedIn (V₀ c) (hA c) (cfgs p).N A hAr) w).symm).symm
      iapply (tail_seqs_bufs_b (fun q => (cfgs q).toPCfg (Val := Val)) defs₀ 𝒱₀ Prefetch.none (cfgs p).spec c (V₀ c) A opss hsub hfresh hkeep Q)
      isplitl [Hk]
      · iintro ⟨Hb, Ha, Hu⟩
        iapply Hk
        isplitl [Hb]
        · iexact Hb
        isplitl [Ha]
        · iapply (hclose c A hAr); iapply (Entails.of_eq hB.symm); iexact Ha
        iexists A; isplitr
        · ipureintro; exact hAr
        · iexact Hu
      · isplitl [Hb]
        · iexact Hb
        isplitl [Ha]
        · iapply (Entails.of_eq hB); iexact Ha
        · iexact HZ)
    (QY := fun c s => ∃ A, (∀ w, (rd c).ArrAt w (cfgs p).N (A w)) ∧ ∀ b ∈ rest, s.mem ((c.tc : Thread nD τ).loc b) = out c A b)
    (hY := fun c s' => by
      iintro ⟨-, HZ, HSI⟩
      icases HZ with ⟨%A, %hAr, HZ⟩
      unfold unscopedRestP
      ihave HZ := (pointsTo_read_all rest (fun b => (c.tc : Thread nD τ).loc b) (out c A) s') $$ [HZ HSI]
      · isplitl [HZ] <;> iassumption
      icases HZ with ⟨%hZ, HSI⟩
      imodintro
      isplitr
      · ipureintro; exact ⟨A, hAr, hZ⟩
      · iexact HSI)
    (hQ := fun s h hz => ⟨fun c => ⟨fun w => by simpa only [hF] using (h c).1 w,
      (h c).2.2.imp fun A hAr => ⟨hAr.1, fun b hb => hAr.2 b (Finset.mem_sdiff.mpr ⟨hb, fun h => by
        obtain ⟨k, -, -⟩ := Finset.mem_image.mp h; exact k.elim0⟩)⟩⟩, hz⟩)

end Cert.TailRun

end
-- ==== Proof.DMergeRun.lean ====
module

public import proofs.«01_k».proof.Proof.Gen.Kernel5Ideal.Frame
public import proofs.«01_k».proof.Proof.TailRun

@[expose] public section

set_option maxRecDepth 16384

noncomputable section

namespace Cert.Kernel5Ideal.DMerge

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F] [Named F]

local notation "𝕄" => MT nD τ sig Unit (Elt F) ℕ (UR sig nD τ) ℕ

/-! ## What the body stores -/

/-- A vector of one float constant. -/
def lit (b : BitVec 32) : FVec F S512x1024 .f32 := broadcast S512x1024 (Scalar.ofBits .f32 b)

/-- A 16-bit block read as single floats. -/
def wide (x : Vec F S512x1024 .bf16) : FVec F S512x1024 .f32 :=
  extf .f32 (shapeCast S512x1024 x shapeCasts_S512x1024_S512x1024) bitsLt_bf16_f32

/-- The gradient of the merged activations: the cotangent times the transposed output projection. -/
def dm (x0 : Vec F S512x1024 .bf16) (x1 : Vec F S1024x1024 .bf16) : FVec F S512x1024 .f32 :=
  matmul dot_S512x1024_S1024x1024_S512x1024_1_1_0_0_n_n none (shapeCast S512x1024 x0 shapeCasts_S512x1024_S512x1024)
    (shapeCast S1024x1024 x1 shapeCasts_S1024x1024_S1024x1024) (constant S512x1024 .f32 0x00000000#32)

/-- The hyperbolic tangent inside the GELU. -/
def th (z : FVec F S512x1024 .f32) : FVec F S512x1024 .f32 :=
  tanh (mulf (lit 0x3F4C422A#32) (addf z (mulf (mulf (mulf (broadcast S512x1024 (Named.named κ "gelu_c" 0x3D372713#32)) z) z) z)))

/-- The GELU. -/
def ge (z : FVec F S512x1024 .f32) : FVec F S512x1024 .f32 :=
  mulf (mulf (lit 0x3F000000#32) z) (addf (lit 0x3F800000#32) (th z))

/-- The derivative of the GELU. -/
def dge (z : FVec F S512x1024 .f32) : FVec F S512x1024 .f32 :=
  addf (mulf (lit 0x3F000000#32) (addf (lit 0x3F800000#32) (th z)))
    (mulf (mulf (mulf (mulf (lit 0x3F000000#32) z) (subf (lit 0x3F800000#32) (mulf (th z) (th z)))) (lit 0x3F4C422A#32))
      (addf (lit 0x3F800000#32) (mulf (mulf (broadcast S512x1024 (Named.named κ "gelu_3c" 0x3E095D4F#32)) z) z)))

/-- The logistic function. -/
def sg (z : FVec F S512x1024 .f32) : FVec F S512x1024 .f32 :=
  divf (lit 0x3F800000#32) (addf (lit 0x3F800000#32) (exp (subf (lit 0x00000000#32) z)))

/-- The gradient of the recurrence's output. -/
def payH (d : FVec F S512x1024 .f32) (rg ga : FVec F S512x1024 .f32) : FVec F S512x1024 .f32 := mulf (mulf d (sg ga)) (ge rg)

/-- The gradient of the recurrence's gate. -/
def payR (d h rg ga : FVec F S512x1024 .f32) : FVec F S512x1024 .f32 := mulf (mulf (mulf d (sg ga)) h) (dge rg)

/-- The gradient of the first gate. -/
def payA (d h rg ga : FVec F S512x1024 .f32) : FVec F S512x1024 .f32 :=
  mulf (mulf (mulf d (mulf h (ge rg))) (sg ga)) (subf (lit 0x3F800000#32) (sg ga))

/-- The gradient of the second gate. -/
def payB (d gb : FVec F S512x1024 .f32) (o : Vec F S512x1024 .f32) : FVec F S512x1024 .f32 :=
  mulf (mulf (mulf d o) (sg gb)) (subf (lit 0x3F800000#32) (sg gb))

/-- The gradient of the attention's output. -/
def payO (d gb : FVec F S512x1024 .f32) : FVec F S512x1024 .f32 := mulf d (sg gb)

/-- One lane of the row sums: lane `k` takes the sum of one head's columns of `q`, every other lane keeps `prev`. -/
def lane (k : BitVec 32) (off : Fin 2 → Nat) (hs : S512x1024.Slices off S512x128) (q : FVec F S512x1024 .f32)
    (prev : FVec F S512x128 .f32) : FVec F S512x128 .f32 :=
  select (cmpi .eq (iota .tc S512x128 32 [1] iota_S512x128_d1_w32) (broadcast S512x128 k))
    (broadcastTo S512x128 (shapeCast S512x1 (shapeCast S512x1
      (multiReduction .add [1] S512 (extractStridedSlice S512x128 off q hs) 0x00000000#32 reduces_S512x128_S512 (.inl rfl) rfl)
      shapeCasts_S512_S512x1) shapeCasts_S512x1_S512x1) broadcasts_S512x1_S512x128) prev

/-- The eight heads' row sums of `q`, a lane each. -/
def payD (q : FVec F S512x1024 .f32) : FVec F S512x128 .f32 :=
  lane 7#32 ![0, 896] slices_S512x1024_o0_896_S512x128 q (lane 6#32 ![0, 768] slices_S512x1024_o0_768_S512x128 q (lane 5#32 ![0, 640] slices_S512x1024_o0_640_S512x128 q (lane 4#32 ![0, 512] slices_S512x1024_o0_512_S512x128 q (lane 3#32 ![0, 384] slices_S512x1024_o0_384_S512x128 q (lane 2#32 ![0, 256] slices_S512x1024_o0_256_S512x128 q (lane 1#32 ![0, 128] slices_S512x1024_o0_128_S512x128 q (lane 0#32 ![0, 0] slices_S512x1024_o0_0_S512x128 q (broadcast S512x128 (Scalar.ofBits .f32 0x00000000#32)))))))))

/-- The three gates' gradients side by side. -/
def payZ (a b c : FVec F S512x1024 .f32) : FVec F S512x3072 .bf16 :=
  truncf .bf16 (concatenate S512x3072 1 [⟨S512x1024, a⟩, ⟨S512x1024, b⟩, ⟨S512x1024, c⟩] concatenates_S512x1024_S512x1024_S512x1024_S512x3072_d1) bitsLt_bf16_f32

/-- A block rounded to 16 bits. -/
def narrow (x : FVec F S512x1024 .f32) : FVec F S512x1024 .bf16 := truncf .bf16 x bitsLt_bf16_f32

/-- The whole of a 512 × 1024 block. -/
abbrev rW : Rect S512x1024 := Rect.unit (s := S512x1024) ![0, 0] S512x1024.size inb_S512x1024_S512x1024_0_0
/-- The whole of the weight. -/
abbrev rU : Rect S1024x1024 := Rect.unit (s := S1024x1024) ![0, 0] S1024x1024.size inb_S1024x1024_S1024x1024_0_0
/-- The last 3072 columns of a 512 × 4096 block. -/
abbrev rZ : Rect S512x4096 := Rect.unit (s := S512x4096) ![0, 1024] S512x3072.size inb_S512x4096_S512x3072_0_1024
/-- The whole of a 512 × 128 block. -/
abbrev rD : Rect S512x128 := Rect.unit (s := S512x128) ![0, 0] S512x128.size inb_S512x128_S512x128_0_0

variable (x0 : Vec F S512x1024 .bf16) (x1 : Vec F S1024x1024 .bf16) (x2 x3 x4 x5 : Vec F S512x1024 .bf16) (x6 : Vec F S512x1024 .f32)

/-- Window 7's block after the body. -/
def out7 : Vec F S512x1024 .f32 :=
  View.canon [⟨rW, payH (dm (View.ld x0 rW) (View.ld x1 rU)) (wide (View.ld x3 rW)) (wide (View.ld x4 rW))⟩]

/-- Window 8's block after the body, on its last 3072 columns. -/
def out8 : Vec F S512x4096 .bf16 :=
  View.canon [⟨rZ, payZ (payR (dm (View.ld x0 rW) (View.ld x1 rU)) (wide (View.ld x2 rW)) (wide (View.ld x3 rW)) (wide (View.ld x4 rW)))
    (payA (dm (View.ld x0 rW) (View.ld x1 rU)) (wide (View.ld x2 rW)) (wide (View.ld x3 rW)) (wide (View.ld x4 rW)))
    (payB (dm (View.ld x0 rW) (View.ld x1 rU)) (wide (View.ld x5 rW)) (View.ld x6 rW))⟩]

/-- Window 9's block after the body. -/
def out9 : Vec F S512x1024 .bf16 := View.canon [⟨rW, narrow (payO (dm (View.ld x0 rW) (View.ld x1 rU)) (wide (View.ld x5 rW)))⟩]

/-- Window 10's block after the body. -/
def out10 : Vec F S512x128 .f32 :=
  View.canon [⟨rD, payD (mulf (payO (dm (View.ld x0 rW) (View.ld x1 rU)) (wide (View.ld x5 rW))) (View.ld x6 rW))⟩]

/-- The rectangle is the whole block. -/
theorem cover_rW {e : EltTy} (p : Vec F S512x1024 e) (y : S512x1024.Idx) : ∃ pc ∈ ([⟨rW, p⟩] : List (View.Piece (Elt F) S512x1024 e)), y ∈ pc.1.set :=
  View.cover_of_tiled [⟨rW, p⟩] S512x1024.size (by rfl) y
/-- The rectangle is the whole block. -/
theorem cover_rD (p : Vec F S512x128 .f32) (y : S512x128.Idx) : ∃ pc ∈ ([⟨rD, p⟩] : List (View.Piece (Elt F) S512x128 .f32)), y ∈ pc.1.set :=
  View.cover_of_tiled [⟨rD, p⟩] S512x128.size (by rfl) y

/-- Equal on the columns that the body writes. -/
def ZRel (Y X : Vec F S512x4096 .bf16) : Prop := ∀ y : S512x4096.Idx, y ∈ rZ.set → X y = Y y

set_option maxHeartbeats 4000000 in
/-- The body at whole staging buffers: the inputs are kept, three outputs are written whole, and the gates' output on its last
    3072 columns. -/
theorem sound_kernel (c : Dev nD) (E : Set ℕ) (i : grid0.Coords) (arg3 : Memref sig .tc .vmem S512x1024 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x4096 .bf16) (harg11 : arg11.IsWhole) (arg12 : Memref sig .tc .vmem S512x1024 .bf16) (harg12 : arg12.IsWhole) (arg13 : Memref sig .tc .vmem S512x128 .f32) (harg13 : arg13.IsWhole) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out7 x0 x1 x3 x4) ∗ (∃ X, ⌜ZRel (out8 x0 x1 x2 x3 x4 x5 x6) X⌝ ∗ owns (c : Thread nD τ) arg11 fullShare X) ∗ owns (c : Thread nD τ) arg12 fullShare (out9 x0 x1 x5) ∗ owns (c : Thread nD τ) arg13 fullShare (out10 x0 x1 x5 x6)) -∗ K ⟨⟩))
      ⊢ wp frame (wpE (defs₀ (F := F)) Variants.none c none) E (cc0_d_merge i arg3 harg3 arg4 harg4 arg5 harg5 arg6 harg6 arg7 harg7 arg8 harg8 arg9 harg9 arg10 harg10 arg11 harg11 arg12 harg12 arg13 harg13) K := by
  unfold cc0_d_merge k0_part1 k0_part2 k0_part3
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists _; isplitr
    swap
    · iexact H7
    ipureintro
    exact View.read_writes_eq_canon _ _ _ (cover_rW _)
  isplitl [H8]
  · iexists _; isplitr
    swap
    · iexists _; isplitr
      swap
      · iexact H8
      ipureintro; rfl
    ipureintro
    exact fun y hy => View.read_writes_apply_eq_canon _ _ y _ ⟨_, List.mem_singleton_self _, hy⟩
  isplitl [H9]
  · iexists _; isplitr
    swap
    · iexact H9
    ipureintro
    exact View.read_writes_eq_canon _ _ _ (cover_rW _)
  iexists _; isplitr
  swap
  · iexact H10
  ipureintro
  exact View.read_writes_eq_canon _ _ _ (cover_rD _)

/-! ## The proof data -/

variable (m : (ℓ : Loc nD τ sig) → Buf (Elt F) ℓ) (ρ : Dev nD → PrngReg)

/-- What each staging buffer holds after the body at point `t`; window 8's is what `ZRel` compares with. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 3 t) (iblk m c 4 t)
    | ⟨8, _⟩ => out8 (iblk m c 0 t) (iblk m c 1 t) (iblk m c 2 t) (iblk m c 3 t) (iblk m c 4 t) (iblk m c 5 t) (iblk m c 6 t)
    | ⟨9, _⟩ => out9 (iblk m c 0 t) (iblk m c 1 t) (iblk m c 5 t)
    | ⟨10, _⟩ => out10 (iblk m c 0 t) (iblk m c 1 t) (iblk m c 5 t) (iblk m c 6 t)
  Φ _ := Pipeline.ΦA spec0 c
  q w := Pipeline.shareOf spec0 w
  owed _ := 0

/-- Window 8 is the one held to a property only. -/
def part (w : Fin cfg0.W) : Bool := w == 8

/-- The property: window 8's block agrees with `out8` on the columns written. -/
def Rl (c : Dev nD) (w : Fin cfg0.W) (t : Fin cfg0.N) (X : (cfg0.win w).block.Idx → Elt F (cfg0.win w).elt) : Prop :=
  match w, X with
  | ⟨8, _⟩, X => ZRel (out8 (iblk m c 0 t) (iblk m c 1 t) (iblk m c 2 t) (iblk m c 3 t) (iblk m c 4 t) (iblk m c 5 t) (iblk m c 6 t)) X
  | _, _ => True

/-- The relational data of one core. -/
abbrev rdat (c : Dev nD) : RDat τ (Elt F) Unit ℕ (UR sig nD τ) ℕ cfg0 c := (dats m 0 c).toRRel part (Rl m c)

/-- The arrays are as the region finds them. -/
theorem A_eq (c : Dev nD) (w : Fin cfg0.W) : (dats m 0 c).A w = V m c (Pipeline.arrRef spec0 w) := by
  dsimp only [dats]

/-- Input window 0 holds its block at every point. -/
theorem before0_0 (c : Dev nD) (t : Fin cfg0.N) (d) : (dats m 0 c).before 0 t d = iblk m c 0 t :=
  before0_0_of m (dats m 0 c) (A_eq m c 0) (fun t => by dsimp only [dats]) t d

/-- Input window 1 holds its block at every point. -/
theorem before0_1 (c : Dev nD) (t : Fin cfg0.N) (d) : (dats m 0 c).before 1 t d = iblk m c 1 t :=
  before0_1_of m (dats m 0 c) (A_eq m c 1) (fun t => by dsimp only [dats]) t d

/-- Input window 2 holds its block at every point. -/
theorem before0_2 (c : Dev nD) (t : Fin cfg0.N) (d) : (dats m 0 c).before 2 t d = iblk m c 2 t :=
  before0_2_of m (dats m 0 c) (A_eq m c 2) (fun t => by dsimp only [dats]) t d

/-- Input window 3 holds its block at every point. -/
theorem before0_3 (c : Dev nD) (t : Fin cfg0.N) (d) : (dats m 0 c).before 3 t d = iblk m c 3 t :=
  before0_3_of m (dats m 0 c) (A_eq m c 3) (fun t => by dsimp only [dats]) t d

/-- Input window 4 holds its block at every point. -/
theorem before0_4 (c : Dev nD) (t : Fin cfg0.N) (d) : (dats m 0 c).before 4 t d = iblk m c 4 t :=
  before0_4_of m (dats m 0 c) (A_eq m c 4) (fun t => by dsimp only [dats]) t d

/-- Input window 5 holds its block at every point. -/
theorem before0_5 (c : Dev nD) (t : Fin cfg0.N) (d) : (dats m 0 c).before 5 t d = iblk m c 5 t :=
  before0_5_of m (dats m 0 c) (A_eq m c 5) (fun t => by dsimp only [dats]) t d

/-- Input window 6 holds its block at every point. -/
theorem before0_6 (c : Dev nD) (t : Fin cfg0.N) (d) : (dats m 0 c).before 6 t d = iblk m c 6 t :=
  before0_6_of m (dats m 0 c) (A_eq m c 6) (fun t => by dsimp only [dats]) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ Y, ⌜(rdat m c).Finds 8 t Y⌝ ∗ owns (c : Thread nD τ) (st0_8 t) fullShare Y)
    ∗ (∃ d, owns (c : Thread nD τ) (st0_9 t) fullShare ((dats m 0 c).before 9 t d))
    ∗ (∃ d, owns (c : Thread nD τ) (st0_10 t) fullShare ((dats m 0 c).before 10 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, ⌜Rl m c 8 t X⌝ ∗ owns (c : Thread nD τ) (st0_8 t) fullShare X)
    ∗ owns (c : Thread nD τ) (st0_9 t) fullShare ((dats m 0 c).after 9 t)
    ∗ owns (c : Thread nD τ) (st0_10 t) fullShare ((dats m 0 c).after 10 t))
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 (iblk m c 0 t) (iblk m c 1 t) (iblk m c 3 t) (iblk m c 4 t) := by dsimp only [dats]
theorem after0_9 (c : Dev nD) (t : Fin cfg0.N) : (dats m 0 c).after 9 t = out9 (iblk m c 0 t) (iblk m c 1 t) (iblk m c 5 t) := by dsimp only [dats]
theorem after0_10 (c : Dev nD) (t : Fin cfg0.N) : (dats m 0 c).after 10 t = out10 (iblk m c 0 t) (iblk m c 1 t) (iblk m c 5 t) (iblk m c 6 t) := by dsimp only [dats]

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_9, after0_10]
  unfold Rl
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩, ⟨%d9, H9⟩, ⟨%d10, H10⟩⟩
  iapply (sound_kernel (iblk m c 0 t) (iblk m c 1 t) (iblk m c 2 t) (iblk m c 3 t) (iblk m c 4 t) (iblk m c 5 t) (iblk m c 6 t) c Set.univ (grid0.coords t) _ _ _ _ _ _ _ _ _ _ _ _ _ _ _ _ _ _ _ _ _ _ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexists _; iexact H7
  isplitl [H8]
  · iexists _; iexact H8
  isplitl [H9]
  · iexists _; iexact H9
  isplitl [H10]
  · iexists _; iexact H10
  iintro ⟨H0, H1, H2, H3, H4, H5, H6, H7, H8, H9, H10⟩
  isplitl [HΦ]
  · iexact HΦ
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  iexact H10

/-- The body table's row at a point is the body on that point's buffers. -/
theorem defs₀_row (t : Fin cfg0.N) : defs₀ (F := F) .tc cfg0.body (cfg0.bodyArgs t (cfg0.slots t)) = bodyAt0 t := by
  unfold defs₀; rw [Defs.onTc_tc]

/-- The body obligation, window 8 held to its property. -/
theorem body_obligation (c : Dev nD) : BodyObligationRel (dats (F := F) m 0 c) (defs₀ (F := F)) Variants.none () Set.univ part (Rl m c) := fun t => by
  rw [bigSep_W0, bigSep_W0, defs₀_row]
  exact triple_restated (sound_body m c t) rfl .rfl fun _ => .rfl

set_option backward.isDefEq.respectTransparency.types false in
set_option maxHeartbeats 800000 in
/-- The run: the arrays and the buffers written after the region as `TailRun.Post` has them, every counter back at zero. -/
theorem run : θ_run defs (onTc (τ := τ) (main (F := F))) (s₀ m ρ)
    (fun r => TailRun.Post cfg0 (rdat m) (V0 m) [hostOps1].flatten r ∧ r.2.sem = fun _ => 0) :=
  TailRun.run cfgs (0 : Fin 1) defs₀ Variants.none launch₀0 (rdat m) m ρ main (fun c => (body_obligation m c).toRRel)
    (fun _ _ _ => rfl) (fun _ _ => rfl) (V0 m) [hostOps1] sfx_sub sfx_fresh sfx_keeps (hmain m Variants.none) (A_eq m)
    (fun _ => .rfl) (fun _ => .rfl)

/-- The lines after the region write the two sliced results only. -/
theorem tail_writes (b : Ref sig .tc) (h6 : b ≠ main_v6) (h7 : b ≠ main_v7) :
    ∀ op ∈ (hostOps1 : List (HloOp τ sig (Elt F))), Proc.devRef .tc b ∉ op.writes :=
  List.forall_iff_forall_mem.mp (by
    simp only [hostOps1, List.Forall, StableHlo.unary_writes, Finset.mem_singleton]
    exact ⟨StableHlo.devRef_ne_of_ne h6, StableHlo.devRef_ne_of_ne h7⟩)

/-- A buffer that is no array of the pipeline and that the lines after the region do not write ends as the region found it. -/
theorem rest_kept {r : PUnit × MemSt nD τ sig (Elt F)} (h : TailRun.Post cfg0 (rdat m) (V0 m) [hostOps1].flatten r) (c : Dev nD)
    (b : Ref sig .tc) (hb : b ∈ Pipeline.restRefs sig spec0) (hw : ∀ op ∈ (hostOps1 : List (HloOp τ sig (Elt F))), Proc.devRef .tc b ∉ op.writes)
    (hn : ∀ w, Pipeline.arrRef spec0 w ≠ b) : r.2.mem ((c.tc : Thread nD τ).loc b) = V m c b := by
  obtain ⟨A, -, hA⟩ := (h c).2
  rw [hA b hb, StableHlo.after_of_forall_not_mem _ _ fun op hop => hw op (by simpa using hop),
    Pipeline.withArrays_of_ne spec0 c _ A b hn]

/-- The arguments end as they were launched. -/
theorem args_kept {r : PUnit × MemSt nD τ sig (Elt F)} (h : TailRun.Post cfg0 (rdat m) (V0 m) [hostOps1].flatten r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have keep : ∀ b : Ref sig .tc, b ∈ Pipeline.restRefs sig spec0 → (∀ op ∈ (hostOps1 : List (HloOp τ sig (Elt F))), Proc.devRef .tc b ∉ op.writes) →
      (∀ w, Pipeline.arrRef spec0 w ≠ b) → r.2.mem ((c.tc : Thread nD τ).loc b) = V m c b := fun b hb hw hn => rest_kept m h c b hb hw hn
  have h4 : r.2.mem ((c.tc : Thread nD τ).loc main_arg4) = V m c main_arg4 := by
    have e := (h c).1 6
    rw [RDat.ArrAt_in (rdat m c) 6 rfl] at e
    exact e.trans (A_eq m c 6)
  exact ⟨(keep main_arg0 (Pipeline.mem_restRefs_of main_arg0 (by decide) (by decide)) (tail_writes main_arg0 (by decide) (by decide)) (by decide)).trans (V_main_arg0 m c),
    (keep main_arg1 (Pipeline.mem_restRefs_of main_arg1 (by decide) (by decide)) (tail_writes main_arg1 (by decide) (by decide)) (by decide)).trans (V_main_arg1 m c),
    (keep main_arg2 (Pipeline.mem_restRefs_of main_arg2 (by decide) (by decide)) (tail_writes main_arg2 (by decide) (by decide)) (by decide)).trans (V_main_arg2 m c),
    (keep main_arg3 (Pipeline.mem_restRefs_of main_arg3 (by decide) (by decide)) (tail_writes main_arg3 (by decide) (by decide)) (by decide)).trans (V_main_arg3 m c),
    h4.trans (V_main_arg4 m c),
    (keep main_arg5 (Pipeline.mem_restRefs_of main_arg5 (by decide) (by decide)) (tail_writes main_arg5 (by decide) (by decide)) (by decide)).trans (V_main_arg5 m c),
    (keep main_arg6 (Pipeline.mem_restRefs_of main_arg6 (by decide) (by decide)) (tail_writes main_arg6 (by decide) (by decide)) (by decide)).trans (V_main_arg6 m c)⟩

/-- The frame: the arguments are unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_kept m h.1, h.2⟩) (run m ρ)

end Cert.Kernel5Ideal.DMerge

end
-- ==== Proof.DMergeForms.lean ====
module

public import proofs.«01_k».proof.Kernel5Ideal
public import Idealize.ShloMosaic.Lib.Pipeline.ValueKit
public import Idealize.ShloMosaic.Lib.Pointwise

@[expose] public section

set_option maxRecDepth 16384

noncomputable section

namespace Cert.Kernel5Ideal.DMerge

open Cert.Kernel5Ideal Idealize.ShloMosaic Idealize.ShloMosaic.TcCoe Idealize.SL.Sem

/-- The hyperbolic tangent inside the GELU. -/
def thF (z : EReal) : EReal := Ideal.tanh (Ideal.ofBits .f32 0x3F4C422A#32 * (z + ((8943 / 200000 : ℝ) : EReal) * z * z * z))
/-- The GELU. -/
def geF (z : EReal) : EReal := Ideal.ofBits .f32 0x3F000000#32 * z * (1 + thF z)
/-- The derivative of the GELU. -/
def dgeF (z : EReal) : EReal := Ideal.ofBits .f32 0x3F000000#32 * (1 + thF z)
  + Ideal.ofBits .f32 0x3F000000#32 * z * (1 - thF z * thF z) * Ideal.ofBits .f32 0x3F4C422A#32 * (1 + ((26829 / 200000 : ℝ) : EReal) * z * z)
/-- The logistic function. -/
def sgF (z : EReal) : EReal := Ideal.logistic z

/-- The logistic function as the kernel writes it. -/
theorem sgF_eq (z : EReal) : Ideal.div 1 (1 + Ideal.exp (0 - z)) = sgF z := by rw [sgF, Ideal.logistic, zero_sub]

/-- The logistic function's values are real. -/
theorem sgF_real (z : EReal) : ∃ s : ℝ, sgF z = s := by
  induction z using EReal.rec with
  | bot => exact ⟨0, by simp [sgF]⟩
  | top => exact ⟨1, by simp [sgF]⟩
  | coe x =>
    refine ⟨1 / (1 + Real.exp (-x)), ?_⟩
    rw [sgF, Ideal.logistic, ← EReal.coe_neg, Ideal.exp_coe, ← EReal.coe_one, ← EReal.coe_add, Ideal.div_coe (by positivity), ← EReal.coe_mul, one_mul]

theorem one_add_neg_one : (1 : EReal) + -1 = 0 := by
  rw [← EReal.coe_one, ← EReal.coe_neg, ← EReal.coe_add, add_neg_cancel, EReal.coe_zero]
theorem one_sub_one : (1 : EReal) - 1 = 0 := by
  rw [← EReal.coe_one, ← EReal.coe_sub, sub_self, EReal.coe_zero]
theorem word_half : Ideal.ofBits .f32 0x3F000000#32 = ((1 / 2 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_k : ∃ k : ℝ, 0 < k ∧ Ideal.ofBits .f32 0x3F4C422A#32 = (k : EReal) := by
  refine ⟨_, ?_, by simp [Ideal.ofBits, Ideal.ieee, -EReal.coe_mul]; rfl⟩
  norm_num

/-- The derivative of the GELU times a real number is the sum of the terms that the chain rule gives. -/
theorem dge_mul (p : ℝ) (z : EReal) :
    (p : EReal) * (Ideal.ofBits .f32 0x3F000000#32 * (1 + thF z))
        + Ideal.ofBits .f32 0x3F4C422A#32 * (Ideal.ofBits .f32 0x3F000000#32 * (z * p) * ((1 + thF z) * (1 - thF z)))
        + ((8943 / 200000 : ℝ) : EReal) * (Ideal.ofBits .f32 0x3F4C422A#32 * (Ideal.ofBits .f32 0x3F000000#32 * (z * p) * ((1 + thF z) * (1 - thF z))))
          * (Ideal.ofBits .f32 0x40400000#32 * (z * z))
      = p * dgeF z := by
  obtain ⟨k, hk, ek⟩ := word_k
  rw [dgeF, word_half, word_three, ek]
  induction z using EReal.rec with
  | bot =>
    have e : thF ⊥ = -1 := by
      rw [thF, ek]
      simp [EReal.coe_mul_bot_of_pos, EReal.coe_mul_bot_of_pos hk]
    rw [e, one_add_neg_one, show (1 : EReal) - -1 * -1 = 0 by rw [neg_mul_neg, one_mul, one_sub_one]]
    simp
  | top =>
    have e : thF ⊤ = 1 := by
      rw [thF, ek]
      simp [EReal.coe_mul_top_of_pos, EReal.coe_mul_top_of_pos hk]
    rw [e, one_sub_one, show (1 : EReal) - 1 * 1 = 0 by rw [one_mul, one_sub_one]]
    simp
  | coe x =>
    have e : thF x = ((Real.tanh (k * (x + 8943 / 200000 * x * x * x)) : ℝ) : EReal) := by
      rw [thF, ek, ← EReal.coe_mul, ← EReal.coe_mul, ← EReal.coe_mul, ← EReal.coe_add, ← EReal.coe_mul, Ideal.tanh_coe]
    rw [e]
    generalize Real.tanh _ = t
    norm_cast
    ring

/-- The constant of the GELU. -/
theorem named_c : Named.named (F := Ideal) κ "gelu_c" (φ := .f32) 0x3D372713#32 = ((8943 / 200000 : ℝ) : EReal) :=
  IdealRules.named_const.ideal_named_scalar _ _ _ _ rfl
/-- Three times the constant of the GELU. -/
theorem named_3c : Named.named (F := Ideal) κ "gelu_3c" (φ := .f32) 0x3E095D4F#32 = ((26829 / 200000 : ℝ) : EReal) :=
  IdealRules.named_const.ideal_named_scalar _ _ _ _ rfl

section forms

variable (h rg ga gb o : FVec Ideal S8192x1024 .f32) (w : FVec Ideal S1024x1024 .f32) (ct : FVec Ideal S8192x1024 .f32)

/-- The cotangent of the merged activations. -/
def dmF (r : Fin 8192) (j : Fin 1024) : EReal := ∑ k, ct (ix2 r k) * w (ix2 j k)
/-- The gradient of the recurrence's output. -/
def dhF (r : Fin 8192) (j : Fin 1024) : EReal := dmF w ct r j * sgF (ga (ix2 r j)) * geF (rg (ix2 r j))
/-- The gradient of the recurrence's gate. -/
def drgF (r : Fin 8192) (j : Fin 1024) : EReal := dmF w ct r j * sgF (ga (ix2 r j)) * h (ix2 r j) * dgeF (rg (ix2 r j))
/-- The gradient of the first gate. -/
def dgaF (r : Fin 8192) (j : Fin 1024) : EReal :=
  dmF w ct r j * (h (ix2 r j) * geF (rg (ix2 r j))) * sgF (ga (ix2 r j)) * (1 - sgF (ga (ix2 r j)))
/-- The gradient of the second gate. -/
def dgbF (r : Fin 8192) (j : Fin 1024) : EReal := dmF w ct r j * o (ix2 r j) * sgF (gb (ix2 r j)) * (1 - sgF (gb (ix2 r j)))
/-- The gradient of the attention's output. -/
def doF (r : Fin 8192) (j : Fin 1024) : EReal := dmF w ct r j * sgF (gb (ix2 r j))
/-- The three gates' gradients side by side. -/
def zF (r : Fin 8192) (q : Fin 3072) : EReal :=
  if h0 : q.val < 1024 then drgF h rg ga w ct r ⟨q.val, h0⟩ else if h1 : q.val - 1024 < 1024 then dgaF h rg ga w ct r ⟨q.val - 1024, by omega⟩
    else dgbF gb o w ct r ⟨q.val - 1024 - 1024, by omega⟩
/-- The row sums of one head's columns of the product of the attention's output and its gradient. -/
def deltaF (r : Fin 8192) (n : Fin 8) : EReal :=
  ∑ q : Fin 128, doF gb w ct r ⟨n.val * 128 + q.val, by omega⟩ * o (ix2 r ⟨n.val * 128 + q.val, by omega⟩)

end forms

section refs

variable (h rg ga gb o : FVec Ideal S8192x1024 .f32) (w : FVec Ideal S1024x1024 .f32) (ct : FVec Ideal S8192x1024 .f32) (r : Fin 8192) (j : Fin 1024)

/-- The reference's GELU. -/
def geR (z : EReal) : EReal := z * (Ideal.ofBits .f32 0x3F000000#32
  * (1 + Ideal.tanh (Ideal.ofBits .f32 0x3F4C422A#32 * (z + ((8943 / 200000 : ℝ) : EReal) * (z * (z * z))))))

/-- The hyperbolic tangent as the reference writes it. -/
theorem thR (z : EReal) : Ideal.tanh (Ideal.ofBits .f32 0x3F4C422A#32 * (z + ((8943 / 200000 : ℝ) : EReal) * (z * (z * z)))) = thF z := by
  rw [thF, mul_assoc, mul_assoc]
/-- The reference's GELU is the kernel's. -/
theorem geR_eq (z : EReal) : geR z = geF z := by
  rw [geR, thR, geF, mul_comm (Ideal.ofBits .f32 0x3F000000#32) z, mul_assoc]

/-- Every element of an array is real. -/
def IsReal {S : Shape} (x : FVec Ideal S .f32) : Prop := ∀ i, ∃ y : ℝ, x i = y

/-- A sum of products of real numbers is real. -/
theorem dmF_real (hw : IsReal w) (hc : IsReal ct) : ∃ x : ℝ, dmF w ct r j = x := by
  choose u hu using hw
  choose v hv using hc
  refine ⟨∑ k, v (ix2 r k) * u (ix2 j k), ?_⟩
  simp only [dmF, hu, hv, ← EReal.coe_mul]
  exact (map_sum (⟨⟨Real.toEReal, EReal.coe_zero⟩, EReal.coe_add⟩ : ℝ →+ EReal) _ _).symm

/-- The reference's gradient of the recurrence's gate. -/
def drgR : EReal :=
  h (ix2 r j) * (sgF (ga (ix2 r j)) * dmF w ct r j) * (Ideal.ofBits .f32 0x3F000000#32 * (1 + Ideal.tanh (Ideal.ofBits .f32 0x3F4C422A#32
      * (rg (ix2 r j) + ((8943 / 200000 : ℝ) : EReal) * (rg (ix2 r j) * (rg (ix2 r j) * rg (ix2 r j)))))))
    + Ideal.ofBits .f32 0x3F4C422A#32 * (Ideal.ofBits .f32 0x3F000000#32 * (rg (ix2 r j) * (h (ix2 r j) * (sgF (ga (ix2 r j)) * dmF w ct r j)))
      * ((1 + Ideal.tanh (Ideal.ofBits .f32 0x3F4C422A#32 * (rg (ix2 r j) + ((8943 / 200000 : ℝ) : EReal) * (rg (ix2 r j) * (rg (ix2 r j) * rg (ix2 r j))))))
        * (1 - Ideal.tanh (Ideal.ofBits .f32 0x3F4C422A#32 * (rg (ix2 r j) + ((8943 / 200000 : ℝ) : EReal) * (rg (ix2 r j) * (rg (ix2 r j) * rg (ix2 r j))))))))
    + ((8943 / 200000 : ℝ) : EReal) * (Ideal.ofBits .f32 0x3F4C422A#32 * (Ideal.ofBits .f32 0x3F000000#32 * (rg (ix2 r j) * (h (ix2 r j) * (sgF (ga (ix2 r j)) * dmF w ct r j)))
      * ((1 + Ideal.tanh (Ideal.ofBits .f32 0x3F4C422A#32 * (rg (ix2 r j) + ((8943 / 200000 : ℝ) : EReal) * (rg (ix2 r j) * (rg (ix2 r j) * rg (ix2 r j))))))
        * (1 - Ideal.tanh (Ideal.ofBits .f32 0x3F4C422A#32 * (rg (ix2 r j) + ((8943 / 200000 : ℝ) : EReal) * (rg (ix2 r j) * (rg (ix2 r j) * rg (ix2 r j)))))))))
      * (Ideal.ofBits .f32 0x40400000#32 * (rg (ix2 r j) * rg (ix2 r j)))

/-- It is the kernel's, the products being real. -/
theorem drgR_eq (hh : IsReal h) (hw : IsReal w) (hc : IsReal ct) :
    drgR h rg ga w ct r j = drgF h rg ga w ct r j := by
  obtain ⟨d, hd⟩ := dmF_real w ct r j hw hc
  obtain ⟨s, hs⟩ := sgF_real (ga (ix2 r j))
  obtain ⟨x, hx⟩ := hh (ix2 r j)
  rw [drgR, drgF, thR, hd, hs, hx, ← EReal.coe_mul, ← EReal.coe_mul, ← EReal.coe_mul, ← EReal.coe_mul, dge_mul]
  congr 2
  ring

/-- The reference's gradient of the recurrence's output is the kernel's. -/
theorem dhR_eq : sgF (ga (ix2 r j)) * dmF w ct r j * geR (rg (ix2 r j)) = dhF rg ga w ct r j := by
  rw [geR_eq, dhF, mul_comm (sgF _)]
/-- The reference's gradient of the first gate is the kernel's. -/
theorem dgaR_eq : dmF w ct r j * (h (ix2 r j) * geR (rg (ix2 r j))) * (sgF (ga (ix2 r j)) * (1 - sgF (ga (ix2 r j)))) = dgaF h rg ga w ct r j := by
  rw [geR_eq, dgaF, ← mul_assoc]
/-- The reference's gradient of the second gate is the kernel's. -/
theorem dgbR_eq : dmF w ct r j * o (ix2 r j) * (sgF (gb (ix2 r j)) * (1 - sgF (gb (ix2 r j)))) = dgbF gb o w ct r j := by
  rw [dgbF, ← mul_assoc]
/-- The reference's gradient of the attention's output is the kernel's. -/
theorem doR_eq : sgF (gb (ix2 r j)) * dmF w ct r j = doF gb w ct r j := mul_comm _ _

end refs

end Cert.Kernel5Ideal.DMerge

end
-- ==== Proof.DMergeRef.lean ====
module

public import proofs.«01_k».proof.Proof.DMergeForms
public import proofs.«01_k».proof.Proof.Gen.Reference5Ideal.Frame
public import Idealize.ShloMosaic.Lib.StableHlo.RunClose

@[expose] public section

set_option maxRecDepth 16384

noncomputable section

namespace Cert.Reference5Ideal.DMerge

open Cert.Reference5Ideal Cert.Reference5Ideal.Gen Idealize.ShloMosaic Idealize.ShloMosaic.TcCoe Idealize.SL.Sem
open Idealize.ShloMosaic.Pipeline (Dat)
open Cert.Kernel5Ideal.DMerge (thF geF dgeF sgF dmF dhF drgF dgaF dgbF doF zF deltaF IsReal geR drgR drgR_eq dhR_eq dgaR_eq dgbR_eq doR_eq)

variable (m : (ℓ : Loc nD τ sig) → Buf (Elt Ideal) ℓ)

/-- The constant of the GELU. -/
theorem named_c : Named.named (F := Ideal) κ "gelu_c" (φ := .f32) 0x3D372713#32 = ((8943 / 200000 : ℝ) : EReal) :=
  IdealRules.named_const.ideal_named_scalar _ _ _ _ rfl

theorem idx : ∀ t : Fin cfg0.N, win0_0.index t = ![0, 0] ∧ win0_1.index t = ![0, 0] ∧ win0_2.index t = ![0, 0] ∧ win0_3.index t = ![0, 0]
  ∧ win0_4.index t = ![0, 0] ∧ win0_5.index t = ![0, 0] ∧ win0_6.index t = ![0, 0] ∧ win0_7.index t = ![0, 0] ∧ win0_8.index t = ![0, 0]
  ∧ win0_9.index t = ![0, 0] ∧ win0_10.index t = ![0, 0] ∧ win0_11.index t = ![0, 0] := by decide +kernel

/-- The reference's gradient of the recurrence's output. -/
theorem final7 (c : Dev nD) : (dats m 0 c).arrAt 7 (cfgs 0).N
    = fun i => dhF (m ((c : Thread nD τ).loc main_arg1)) (m ((c : Thread nD τ).loc main_arg2)) (m ((c : Thread nD τ).loc main_arg5)) (m ((c : Thread nD τ).loc main_arg6)) (i 0) (i 1) := by
  refine (dats m 0 c).arrAt_eq_of_covers 7 _ (by decide +kernel) fun t _ y => ?_
  blk_simp
  rw [after0_7]
  unfold_out out0_7
  frame_out
  refine Eq.trans ?_ (dhR_eq (m ((c : Thread nD τ).loc main_arg1)) (m ((c : Thread nD τ).loc main_arg2)) (m ((c : Thread nD τ).loc main_arg5)) (m ((c : Thread nD τ).loc main_arg6)) _ _)
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, drgR, geR, sgF, dmF, named_c]
  blk_point [iblk, V, idx t]

/-- The reference's gradient of the recurrence's gate. -/
theorem final8 (c : Dev nD) (h0 : IsReal (S := S8192x1024) (m ((c : Thread nD τ).loc main_arg0))) (h5 : IsReal (S := S1024x1024) (m ((c : Thread nD τ).loc main_arg5))) (h6 : IsReal (S := S8192x1024) (m ((c : Thread nD τ).loc main_arg6))) : (dats m 0 c).arrAt 8 (cfgs 0).N
    = fun i => drgF (m ((c : Thread nD τ).loc main_arg0)) (m ((c : Thread nD τ).loc main_arg1)) (m ((c : Thread nD τ).loc main_arg2)) (m ((c : Thread nD τ).loc main_arg5)) (m ((c : Thread nD τ).loc main_arg6)) (i 0) (i 1) := by
  refine (dats m 0 c).arrAt_eq_of_covers 8 _ (by decide +kernel) fun t _ y => ?_
  blk_simp
  rw [after0_8]
  unfold_out out0_8
  frame_out
  refine Eq.trans ?_ (drgR_eq (m ((c : Thread nD τ).loc main_arg0)) (m ((c : Thread nD τ).loc main_arg1)) (m ((c : Thread nD τ).loc main_arg2)) (m ((c : Thread nD τ).loc main_arg5)) (m ((c : Thread nD τ).loc main_arg6)) _ _ h0 h5 h6)
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, drgR, geR, sgF, dmF, named_c]
  blk_point [iblk, V, idx t]

/-- The reference's gradient of the first gate. -/
theorem final9 (c : Dev nD) : (dats m 0 c).arrAt 9 (cfgs 0).N
    = fun i => dgaF (m ((c : Thread nD τ).loc main_arg0)) (m ((c : Thread nD τ).loc main_arg1)) (m ((c : Thread nD τ).loc main_arg2)) (m ((c : Thread nD τ).loc main_arg5)) (m ((c : Thread nD τ).loc main_arg6)) (i 0) (i 1) := by
  refine (dats m 0 c).arrAt_eq_of_covers 9 _ (by decide +kernel) fun t _ y => ?_
  blk_simp
  rw [after0_9]
  unfold_out out0_9
  frame_out
  refine Eq.trans ?_ (dgaR_eq (m ((c : Thread nD τ).loc main_arg0)) (m ((c : Thread nD τ).loc main_arg1)) (m ((c : Thread nD τ).loc main_arg2)) (m ((c : Thread nD τ).loc main_arg5)) (m ((c : Thread nD τ).loc main_arg6)) _ _)
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, drgR, geR, sgF, dmF, named_c]
  blk_point [iblk, V, idx t]

/-- The reference's gradient of the second gate. -/
theorem final10 (c : Dev nD) : (dats m 0 c).arrAt 10 (cfgs 0).N
    = fun i => dgbF (m ((c : Thread nD τ).loc main_arg3)) (m ((c : Thread nD τ).loc main_arg4)) (m ((c : Thread nD τ).loc main_arg5)) (m ((c : Thread nD τ).loc main_arg6)) (i 0) (i 1) := by
  refine (dats m 0 c).arrAt_eq_of_covers 10 _ (by decide +kernel) fun t _ y => ?_
  blk_simp
  rw [after0_10]
  unfold_out out0_10
  frame_out
  refine Eq.trans ?_ (dgbR_eq (m ((c : Thread nD τ).loc main_arg3)) (m ((c : Thread nD τ).loc main_arg4)) (m ((c : Thread nD τ).loc main_arg5)) (m ((c : Thread nD τ).loc main_arg6)) _ _)
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, drgR, geR, sgF, dmF, named_c]
  blk_point [iblk, V, idx t]

/-- The reference's gradient of the attention's output. -/
theorem final11 (c : Dev nD) : (dats m 0 c).arrAt 11 (cfgs 0).N
    = fun i => doF (m ((c : Thread nD τ).loc main_arg3)) (m ((c : Thread nD τ).loc main_arg5)) (m ((c : Thread nD τ).loc main_arg6)) (i 0) (i 1) := by
  refine (dats m 0 c).arrAt_eq_of_covers 11 _ (by decide +kernel) fun t _ y => ?_
  blk_simp
  rw [after0_11]
  unfold_out out0_11
  frame_out
  refine Eq.trans ?_ (doR_eq (m ((c : Thread nD τ).loc main_arg3)) (m ((c : Thread nD τ).loc main_arg5)) (m ((c : Thread nD τ).loc main_arg6)) _ _)
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, drgR, geR, sgF, dmF, named_c]
  blk_point [iblk, V, idx t]

/-- The arrays after the call, read at one of them. -/
theorem arr (c : Dev nD) (w : Fin cfg0.W) : Pipeline.withArrays spec0 c (V0 m c) (fun w => (dats m 0 c).arrAt w (cfgs 0).N) (Proc.devRef .tc (Pipeline.arrRef spec0 w))
    = (dats m 0 c).arrAt w (cfgs 0).N := Pipeline.withArrays_arr spec0 launch0.win.arr_inj c _ _ w

/-- The gates' gradients, side by side. -/
theorem tail5 (c : Dev nD) (h0 : IsReal (S := S8192x1024) (m ((c : Thread nD τ).loc main_arg0))) (h5 : IsReal (S := S1024x1024) (m ((c : Thread nD τ).loc main_arg5))) (h6 : IsReal (S := S8192x1024) (m ((c : Thread nD τ).loc main_arg6))) : Pipeline.afterTail₀ cfgs (dats m) 0 (V0 m) [hostOps1] c main_v5
    = fun i : S8192x3072.Idx => zF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) := by
  have e8 := (arr m c 8).trans (final8 m c h0 h5 h6)
  have e9 := (arr m c 9).trans (final9 m c)
  have e10 := (arr m c 10).trans (final10 m c)
  have e : Pipeline.afterTail₀ cfgs (dats m) 0 (V0 m) [hostOps1] c main_v5
      = (truncf .bf16 (concatenate S8192x3072 1 [⟨S8192x1024, (Pipeline.withArrays spec0 c (V0 m c) (fun w => (dats m 0 c).arrAt w (cfgs 0).N) (Proc.devRef .tc (Pipeline.arrRef spec0 8)) : FVec Ideal S8192x1024 .f32)⟩,
          ⟨S8192x1024, (Pipeline.withArrays spec0 c (V0 m c) (fun w => (dats m 0 c).arrAt w (cfgs 0).N) (Proc.devRef .tc (Pipeline.arrRef spec0 9)) : FVec Ideal S8192x1024 .f32)⟩,
          ⟨S8192x1024, (Pipeline.withArrays spec0 c (V0 m c) (fun w => (dats m 0 c).arrAt w (cfgs 0).N) (Proc.devRef .tc (Pipeline.arrRef spec0 10)) : FVec Ideal S8192x1024 .f32)⟩]
        concatenates_S8192x1024_S8192x1024_S8192x1024_S8192x3072_d1) bitsLt_bf16_f32 : FVec Ideal S8192x3072 .bf16) := by
    unfold Pipeline.afterTail₀
    show StableHlo.after hostOps1 _ _ = _
    unfold hostOps1
    after_results_entrywise (rounds := 1) []
  rw [e, e8, e9, e10]
  funext i
  pointwise [zF]

/-- The row sums. -/
theorem tail3 (c : Dev nD) : Pipeline.afterTail₀ cfgs (dats m) 0 (V0 m) [hostOps1] c main_v3
    = fun i : S8192x8.Idx => deltaF (m ((c : Thread nD τ).loc main_arg3)) (m ((c : Thread nD τ).loc main_arg4)) (m ((c : Thread nD τ).loc main_arg5)) (m ((c : Thread nD τ).loc main_arg6)) (i 0) (i 1) := by
  have e11 := (arr m c 11).trans (final11 m c)
  have e4 := (arr m c 4)
  unfold Pipeline.afterTail₀
  show StableHlo.after hostOps1 _ _ = _
  unfold hostOps1
  after_results
  funext i
  have e4' := e4.trans (((dats m 0 c).arrAt_in 4 rfl _).trans (A_eq m c 4))
  pointwise [deltaF]
  exact Finset.sum_congr rfl fun q _ => congrArg₂ _ (congrFun e11 _) (congrFun (e4'.trans (V_main_arg4 m c)) _)

/-- The gradient of the attention's output, cast. -/
theorem tail6 (c : Dev nD) : Pipeline.afterTail₀ cfgs (dats m) 0 (V0 m) [hostOps1] c main_v6
    = fun i => doF (m ((c : Thread nD τ).loc main_arg3)) (m ((c : Thread nD τ).loc main_arg5)) (m ((c : Thread nD τ).loc main_arg6)) (i 0) (i 1) := by
  have e11 := (arr m c 11).trans (final11 m c)
  unfold Pipeline.afterTail₀
  show StableHlo.after hostOps1 _ _ = _
  unfold hostOps1
  after_results
  exact e11

end Cert.Reference5Ideal.DMerge

end
-- ==== Proof.DMerge.lean ====
module

public import proofs.«01_k».proof.Defs
public import proofs.«01_k».proof.Proof.Gen.Kernel5.Launch
public import proofs.«01_k».proof.Proof.DMergeRun
public import proofs.«01_k».proof.Proof.DMergeRef
public import Idealize.ShloMosaic.Lib.StableHlo.RunClose
public import Idealize.ShloMosaic.Lib.Pipeline.ValueKit
public import Idealize.ShloMosaic.Lib.Pipeline.ArrRel
public import Idealize.ShloMosaic.Lib.Pointwise
public import Idealize.ShloMosaic.Lib.ReduceAll
public import Idealize.ShloMosaic.Lib.Affine
public import Idealize.ShloMosaic.Lib.Claim

@[expose] public section

set_option maxRecDepth 16384

noncomputable section

namespace Cert.Kernel5Ideal.DMerge

open Cert.Kernel5Ideal Cert.Kernel5Ideal.Gen Idealize.ShloMosaic Idealize.ShloMosaic.TcCoe Idealize.SL.Sem
open Idealize.ShloMosaic.Pipeline (Dat RDat)

variable (m : (ℓ : Loc nD τ sig) → Buf (Elt Ideal) ℓ)

/-- The blocks of the windows at each grid point. -/
theorem idx : ∀ t : Fin cfg0.N, win0_0.index t = ![t.val, 0] ∧ win0_1.index t = ![0, 0]
    ∧ win0_2.index t = ![t.val, 0] ∧ win0_3.index t = ![t.val, 0] ∧ win0_4.index t = ![t.val, 1] ∧ win0_5.index t = ![t.val, 2]
    ∧ win0_6.index t = ![t.val, 0] ∧ win0_7.index t = ![t.val, 0] ∧ win0_8.index t = ![t.val, 0]
    ∧ win0_9.index t = ![t.val, 0] ∧ win0_10.index t = ![t.val, 0] :=
  (by decide +kernel : ∀ t : Fin grid0.N, _)

/-- A row of a block of rows. -/
def row (t : Fin cfg0.N) (a : Fin 512) : Fin 8192 := ⟨t.val * 512 + a.val, by have h : t.val < 16 := t.isLt; omega⟩

/-- The array that the call finds in its first window is the cotangent, cast. -/
theorem V2 (c : Dev nD) (i : S8192x1024.Idx) : V m c main_v2 i = m ((c : Thread nD τ).loc main_arg6) i := by
  show StableHlo.after hostOps0 _ _ _ = _
  unfold hostOps0
  after_results
  rfl
/-- The array of the second window is the output projection's weight, cast. -/
theorem V1 (c : Dev nD) (i : S1024x1024.Idx) : V m c main_v1 i = m ((c : Thread nD τ).loc main_arg5) i := by
  show StableHlo.after hostOps0 _ _ _ = _
  unfold hostOps0
  after_results
  rfl
/-- The array of the third window is the recurrence's output, cast. -/
theorem V0' (c : Dev nD) (i : S8192x1024.Idx) : V m c main_v0 i = m ((c : Thread nD τ).loc main_arg0) i := by
  show StableHlo.after hostOps0 _ _ _ = _
  unfold hostOps0
  after_results
  rfl
/-- The array of the next three windows is the three gates, side by side. -/
theorem V4 (c : Dev nD) : V m c main_v4
    = (truncf .bf16 (concatenate S8192x3072 1 [⟨S8192x1024, (m ((c : Thread nD τ).loc main_arg1) : FVec Ideal S8192x1024 .f32)⟩,
        ⟨S8192x1024, (m ((c : Thread nD τ).loc main_arg2) : FVec Ideal S8192x1024 .f32)⟩, ⟨S8192x1024, (m ((c : Thread nD τ).loc main_arg3) : FVec Ideal S8192x1024 .f32)⟩]
        concatenates_S8192x1024_S8192x1024_S8192x1024_S8192x3072_d1) bitsLt_bf16_f32 : FVec Ideal S8192x3072 .bf16) := by
  show StableHlo.after hostOps0 _ _ = _
  unfold hostOps0
  after_results_entrywise (rounds := 1) []
/-- Gate 1 of the three. -/
theorem V4_0 (c : Dev nD) (r : Fin 8192) (q : Fin 1024) : V m c main_v4 (ix2 r (⟨q.val, by omega⟩ : Fin 3072)) = m ((c : Thread nD τ).loc main_arg1) (ix2 r q) := by
  rw [V4]
  pointwise
/-- Gate 2 of the three. -/
theorem V4_1 (c : Dev nD) (r : Fin 8192) (q : Fin 1024) : V m c main_v4 (ix2 r (⟨q.val + 1024, by omega⟩ : Fin 3072)) = m ((c : Thread nD τ).loc main_arg2) (ix2 r q) := by
  rw [V4]
  pointwise
  rw [dif_neg (by omega), dif_pos (by omega)]
  simp only [Nat.add_sub_cancel]
/-- Gate 3 of the three. -/
theorem V4_2 (c : Dev nD) (r : Fin 8192) (q : Fin 1024) : V m c main_v4 (ix2 r (⟨q.val + 2048, by omega⟩ : Fin 3072)) = m ((c : Thread nD τ).loc main_arg3) (ix2 r q) := by
  rw [V4]
  pointwise
  rw [dif_neg (by omega), dif_neg (by omega)]
  exact congrArg _ (congrArg (ix2 r) (Fin.ext (by show q.val + 2048 - 1024 - 1024 = q.val; omega)))
/-- The cotangent block read at an index. -/
theorem rd0 (c : Dev nD) (t : Fin cfg0.N) (a : Fin 512) (b : Fin 1024) : iblk m c 0 t (ix2 a b) = m ((c : Thread nD τ).loc main_arg6) (ix2 (row t a) b) := by
  blk_simp [iblk]
  rw [V2]
  blk_point [row, idx t]
/-- The block of the recurrence's output read at an index. -/
theorem rd2 (c : Dev nD) (t : Fin cfg0.N) (a : Fin 512) (b : Fin 1024) : iblk m c 2 t (ix2 a b) = m ((c : Thread nD τ).loc main_arg0) (ix2 (row t a) b) := by
  blk_simp [iblk]
  rw [V0']
  blk_point [row, idx t]
/-- The weight block read at an index. -/
theorem rd1 (c : Dev nD) (t : Fin cfg0.N) (a : Fin 1024) (b : Fin 1024) : iblk m c 1 t (ix2 a b) = m ((c : Thread nD τ).loc main_arg5) (ix2 a b) := by
  blk_simp [iblk]
  rw [V1]
  blk_point [row, idx t]
/-- The block of the attention's output read at an index. -/
theorem rd6 (c : Dev nD) (t : Fin cfg0.N) (a : Fin 512) (b : Fin 1024) : iblk m c 6 t (ix2 a b) = m ((c : Thread nD τ).loc main_arg4) (ix2 (row t a) b) := by
  blk_point [iblk, V, row, idx t]
/-- The block of the first gate read at an index. -/
theorem rd3 (c : Dev nD) (t : Fin cfg0.N) (a : Fin 512) (b : Fin 1024) : iblk m c 3 t (ix2 a b) = m ((c : Thread nD τ).loc main_arg1) (ix2 (row t a) b) := by
  refine Eq.trans ?_ (V4_0 m c (row t a) b)
  blk_point [iblk, row, idx t]
/-- The block of the second gate read at an index. -/
theorem rd4 (c : Dev nD) (t : Fin cfg0.N) (a : Fin 512) (b : Fin 1024) : iblk m c 4 t (ix2 a b) = m ((c : Thread nD τ).loc main_arg2) (ix2 (row t a) b) := by
  refine Eq.trans ?_ (V4_1 m c (row t a) b)
  blk_point [iblk, row, idx t]
/-- The block of the third gate read at an index. -/
theorem rd5 (c : Dev nD) (t : Fin cfg0.N) (a : Fin 512) (b : Fin 1024) : iblk m c 5 t (ix2 a b) = m ((c : Thread nD τ).loc main_arg3) (ix2 (row t a) b) := by
  refine Eq.trans ?_ (V4_2 m c (row t a) b)
  blk_point [iblk, row, idx t]

/-- One grid point's gradient of the recurrence's output. -/
theorem pointH (c : Dev nD) (t : Fin cfg0.N) (a : Fin 512) (b : Fin 1024) : payH (dm (iblk m c 0 t) (iblk m c 1 t)) (wide (iblk m c 3 t)) (wide (iblk m c 4 t)) (ix2 a b)
    = dhF (m ((c : Thread nD τ).loc main_arg1)) (m ((c : Thread nD τ).loc main_arg2)) (m ((c : Thread nD τ).loc main_arg5)) (m ((c : Thread nD τ).loc main_arg6)) (row t a) b := by
  pointwise [payH, payR, payA, payB, payO, narrow, dm, wide, sg, ge, dge, th, lit, dhF, drgF, dgaF, dgbF, doF, dmF, geF, dgeF, thF, named_c, named_3c, sgF_eq, rd0, rd1, rd2, rd3, rd4, rd5, rd6]

/-- One grid point's gradient of the recurrence's gate. -/
theorem pointR (c : Dev nD) (t : Fin cfg0.N) (a : Fin 512) (b : Fin 1024) : payR (dm (iblk m c 0 t) (iblk m c 1 t)) (wide (iblk m c 2 t)) (wide (iblk m c 3 t)) (wide (iblk m c 4 t)) (ix2 a b)
    = drgF (m ((c : Thread nD τ).loc main_arg0)) (m ((c : Thread nD τ).loc main_arg1)) (m ((c : Thread nD τ).loc main_arg2)) (m ((c : Thread nD τ).loc main_arg5)) (m ((c : Thread nD τ).loc main_arg6)) (row t a) b := by
  pointwise [payH, payR, payA, payB, payO, narrow, dm, wide, sg, ge, dge, th, lit, dhF, drgF, dgaF, dgbF, doF, dmF, geF, dgeF, thF, named_c, named_3c, sgF_eq, rd0, rd1, rd2, rd3, rd4, rd5, rd6]

/-- One grid point's gradient of the first gate. -/
theorem pointA (c : Dev nD) (t : Fin cfg0.N) (a : Fin 512) (b : Fin 1024) : payA (dm (iblk m c 0 t) (iblk m c 1 t)) (wide (iblk m c 2 t)) (wide (iblk m c 3 t)) (wide (iblk m c 4 t)) (ix2 a b)
    = dgaF (m ((c : Thread nD τ).loc main_arg0)) (m ((c : Thread nD τ).loc main_arg1)) (m ((c : Thread nD τ).loc main_arg2)) (m ((c : Thread nD τ).loc main_arg5)) (m ((c : Thread nD τ).loc main_arg6)) (row t a) b := by
  pointwise [payH, payR, payA, payB, payO, narrow, dm, wide, sg, ge, dge, th, lit, dhF, drgF, dgaF, dgbF, doF, dmF, geF, dgeF, thF, named_c, named_3c, sgF_eq, rd0, rd1, rd2, rd3, rd4, rd5, rd6]

/-- One grid point's gradient of the second gate. -/
theorem pointB (c : Dev nD) (t : Fin cfg0.N) (a : Fin 512) (b : Fin 1024) : payB (dm (iblk m c 0 t) (iblk m c 1 t)) (wide (iblk m c 5 t)) (iblk m c 6 t) (ix2 a b)
    = dgbF (m ((c : Thread nD τ).loc main_arg3)) (m ((c : Thread nD τ).loc main_arg4)) (m ((c : Thread nD τ).loc main_arg5)) (m ((c : Thread nD τ).loc main_arg6)) (row t a) b := by
  pointwise [payH, payR, payA, payB, payO, narrow, dm, wide, sg, ge, dge, th, lit, dhF, drgF, dgaF, dgbF, doF, dmF, geF, dgeF, thF, named_c, named_3c, sgF_eq, rd0, rd1, rd2, rd3, rd4, rd5, rd6]

/-- One grid point's gradient of the attention's output. -/
theorem pointO (c : Dev nD) (t : Fin cfg0.N) (a : Fin 512) (b : Fin 1024) : payO (dm (iblk m c 0 t) (iblk m c 1 t)) (wide (iblk m c 5 t)) (ix2 a b)
    = doF (m ((c : Thread nD τ).loc main_arg3)) (m ((c : Thread nD τ).loc main_arg5)) (m ((c : Thread nD τ).loc main_arg6)) (row t a) b := by
  pointwise [payH, payR, payA, payB, payO, narrow, dm, wide, sg, ge, dge, th, lit, dhF, drgF, dgaF, dgbF, doF, dmF, geF, dgeF, thF, named_c, named_3c, sgF_eq, rd0, rd1, rd2, rd3, rd4, rd5, rd6]

/-- One grid point's row sums: lane `n` has head `n`'s. -/
theorem payD_lane (q : FVec Ideal S512x1024 .f32) (a : Fin 512) (n : Fin 8) : payD q (ix2 a (⟨n.val, by omega⟩ : Fin 128))
    = ∑ x : Fin 128, q (ix2 a ⟨n.val * 128 + x.val, by omega⟩) := by
  pointwise [payD, lane]
  fin_cases n <;> simp [Scalar.select, IntOp.cmpi]

/-- The written columns of the gates' block. -/
theorem out8_emb (c : Dev nD) (t : Fin cfg0.N) (a : Fin 512) (q : Fin 3072) :
    out8 (iblk m c 0 t) (iblk m c 1 t) (iblk m c 2 t) (iblk m c 3 t) (iblk m c 4 t) (iblk m c 5 t) (iblk m c 6 t) (rZ.emb (ix2 a q))
      = zF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t a) q := by
  unfold out8
  rw [View.canon_cons_emb]
  frame_out
  pointwise [payZ, zF, pointR, pointA, pointB]

/-- `pointH` at any index of the block. -/
theorem pointH' (c : Dev nD) (t : Fin cfg0.N) (y : S512x1024.Idx) : payH (dm (iblk m c 0 t) (iblk m c 1 t)) (wide (iblk m c 3 t)) (wide (iblk m c 4 t)) y
    = dhF (m ((c : Thread nD τ).loc main_arg1)) (m ((c : Thread nD τ).loc main_arg2)) (m ((c : Thread nD τ).loc main_arg5)) (m ((c : Thread nD τ).loc main_arg6)) (row t (y 0)) (y 1) := by
  conv_lhs => rw [eq_ix2 y]
  exact pointH m c t (y 0) (y 1)
/-- `pointO` at any index of the block. -/
theorem pointO' (c : Dev nD) (t : Fin cfg0.N) (y : S512x1024.Idx) : payO (dm (iblk m c 0 t) (iblk m c 1 t)) (wide (iblk m c 5 t)) y
    = doF (m ((c : Thread nD τ).loc main_arg3)) (m ((c : Thread nD τ).loc main_arg5)) (m ((c : Thread nD τ).loc main_arg6)) (row t (y 0)) (y 1) := by
  conv_lhs => rw [eq_ix2 y]
  exact pointO m c t (y 0) (y 1)
/-- Where the block of window 7 lies. -/
theorem emb7 (t : Fin cfg0.N) (y : S512x1024.Idx) : ((View.whole main_v5_0).slice (win0_7.rect t)).emb y = ix2 (row t (y 0)) (y 1) := by
  blk_ext [row, idx t]
/-- Where the block of window 9 lies. -/
theorem emb9 (t : Fin cfg0.N) (y : S512x1024.Idx) : ((View.whole main_v5_2).slice (win0_9.rect t)).emb y = ix2 (row t (y 0)) (y 1) := by
  blk_ext [row, idx t]
/-- Where the block of window 10 lies. -/
theorem emb10 (t : Fin cfg0.N) (y : S512x128.Idx) : ((View.whole main_v5_3).slice (win0_10.rect t)).emb y = ix2 (row t (y 0)) (y 1) := by
  blk_ext [row, idx t]
/-- Where the block of window 8 lies. -/
theorem emb8 (t : Fin cfg0.N) (y : S512x4096.Idx) : (win0_8.blk t).view.emb y = ix2 (row t (y 0)) (y 1) := by
  blk_ext [row, idx t]
/-- The written columns of window 8's block are those after the first 1024. -/
theorem embZ (a : Fin 512) (q : Fin 3072) : rZ.emb (ix2 a q) = ix2 a (⟨1024 + q.val, by omega⟩ : Fin 4096) := by
  funext d
  match d with
  | ⟨0, _⟩ => exact Fin.ext (by show 0 + 1 * a.val = a.val; omega)
  | ⟨1, _⟩ => exact Fin.ext (by show 1024 + 1 * q.val = 1024 + q.val; omega)
/-- Those columns lie in the part written. -/
theorem inZ (a : Fin 512) (q : Fin 3072) : rZ.emb (ix2 a q) ∈ rZ.set := by
  rw [LoadRect.mem_set]
  exact fun d => ⟨ix2 a q d, (ix2 a q d).isLt, rfl⟩
/-- The row sums of one grid point, where they land. -/
theorem lane10 (c : Dev nD) (t : Fin cfg0.N) (y : S512x128.Idx) (r : Fin 8192) (n : Fin 8) (h : ix2 (row t (y 0)) (y 1) = ix2 r (⟨n.val, by omega⟩ : Fin 128)) :
    payD (mulf (payO (dm (iblk m c 0 t) (iblk m c 1 t)) (wide (iblk m c 5 t))) (iblk m c 6 t)) y = deltaF (m ((c : Thread nD τ).loc main_arg3)) (m ((c : Thread nD τ).loc main_arg4)) (m ((c : Thread nD τ).loc main_arg5)) (m ((c : Thread nD τ).loc main_arg6)) r n := by
  have h0 : row t (y 0) = r := congrFun h 0
  have h1 : y 1 = (⟨n.val, by omega⟩ : Fin 128) := congrFun h 1
  have hy : y = ix2 (n0 := 512) (y 0) (⟨n.val, by omega⟩ : Fin 128) := (eq_ix2 y).trans (congrArg (ix2 (n0 := 512) (y 0)) h1)
  rw [hy]
  refine (payD_lane _ (y 0) n).trans ?_
  subst h0
  refine Finset.sum_congr rfl fun x _ => ?_
  exact congrArg₂ (· * ·) (pointO m c t (y 0) _) (rd6 m c t (y 0) _)
/-- The gates' gradients of one grid point, where they land. -/
theorem gates8 (c : Dev nD) (t : Fin cfg0.N) (X : Vec Ideal S512x4096 .bf16)
    (hR : ZRel (out8 (iblk m c 0 t) (iblk m c 1 t) (iblk m c 2 t) (iblk m c 3 t) (iblk m c 4 t) (iblk m c 5 t) (iblk m c 6 t)) X)
    (y : S512x4096.Idx) (r : Fin 8192) (q : Fin 3072) (h : ix2 (row t (y 0)) (y 1) = ix2 r (⟨1024 + q.val, by omega⟩ : Fin 4096)) :
    X y = zF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r q := by
  have h0 : row t (y 0) = r := congrFun h 0
  have h1 : y 1 = (⟨1024 + q.val, by omega⟩ : Fin 4096) := congrFun h 1
  have hy : y = rZ.emb (ix2 (y 0) q) := ((eq_ix2 y).trans (congrArg (ix2 (n0 := 512) (y 0)) h1)).trans (embZ (y 0) q).symm
  rw [hy, hR _ (inZ (y 0) q)]
  exact (out8_emb m c t (y 0) q).trans (congrArg (fun r => zF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r q) h0)

/-- An output window held to exact contents is what the exact data name. -/
theorem exact_of (c : Dev nD) (w : Fin cfg0.W) (hw : part w = false) (ho : ∀ t X, (dats m 0 c).Leaves w t X → X = (dats m 0 c).after w t)
    (G) (hG : (rdat m c).ArrAt w cfg0.N G) : G = ((rdat m c).withAfter (dats m 0 c).after).arrAt w cfg0.N := by
  obtain ⟨X, hX, hA⟩ := hG.exists_exact
  refine hA _ fun u hu hf => ?_
  obtain ⟨Y, -, hL⟩ := hX u hu hf
  rw [Dat.toRRel_after_of_eq_false _ hw] at hL
  exact (ho u _ hL).symm

/-- The gradient of the recurrence's output, whole. -/
theorem final7 (c : Dev nD) (G) (hG : (rdat m c).ArrAt 7 cfg0.N G) : G = fun i : S8192x1024.Idx => dhF (m ((c : Thread nD τ).loc main_arg1)) (m ((c : Thread nD τ).loc main_arg2)) (m ((c : Thread nD τ).loc main_arg5)) (m ((c : Thread nD τ).loc main_arg6)) (i 0) (i 1) := by
  rw [exact_of m c 7 rfl (fun t X h => h) G hG]
  refine Dat.arrAt_eq_of_covers _ 7 _ (by decide +kernel) fun t _ y => ?_
  rw [RDat.withAfter_after]
  blk_simp
  rw [after0_7]
  unfold out7
  frame_out
  refine (pointH' m c t y).trans ?_
  rw [emb7 t y]
  rfl

/-- The gradient of the attention's output, whole. -/
theorem final9 (c : Dev nD) (G) (hG : (rdat m c).ArrAt 9 cfg0.N G) : G = fun i : S8192x1024.Idx => doF (m ((c : Thread nD τ).loc main_arg3)) (m ((c : Thread nD τ).loc main_arg5)) (m ((c : Thread nD τ).loc main_arg6)) (i 0) (i 1) := by
  rw [exact_of m c 9 rfl (fun t X h => h) G hG]
  refine Dat.arrAt_eq_of_covers _ 9 _ (by decide +kernel) fun t _ y => ?_
  rw [RDat.withAfter_after]
  blk_simp
  rw [after0_9]
  unfold out9
  frame_out
  refine (pointO' m c t y).trans ?_
  rw [emb9 t y]
  rfl

/-- The row sums on the first eight lanes. -/
theorem final10 (c : Dev nD) (G : S8192x128.Idx → EReal) (hG : (rdat m c).ArrAt 10 cfg0.N G) (r : Fin 8192) (n : Fin 8) :
    G (ix2 r (⟨n.val, by omega⟩ : Fin 128)) = deltaF (m ((c : Thread nD τ).loc main_arg3)) (m ((c : Thread nD τ).loc main_arg4)) (m ((c : Thread nD τ).loc main_arg5)) (m ((c : Thread nD τ).loc main_arg6)) r n := by
  rw [exact_of m c 10 rfl (fun t X h => h) G hG]
  have h := Dat.arrAt_forall_of_covers ((rdat m c).withAfter (dats m 0 c).after) 10 (fun i (v : EReal) => ∀ (r : Fin 8192) (n : Fin 8), i = ix2 r (⟨n.val, by omega⟩ : Fin 128) → v = deltaF (m ((c : Thread nD τ).loc main_arg3)) (m ((c : Thread nD τ).loc main_arg4)) (m ((c : Thread nD τ).loc main_arg5)) (m ((c : Thread nD τ).loc main_arg6)) r n)
    (by decide +kernel) (fun t _ y => ?_) (ix2 r (⟨n.val, by omega⟩ : Fin 128))
  · exact h r n rfl
  rw [RDat.withAfter_after]
  blk_simp
  rw [after0_10]
  unfold out10
  frame_out
  intro r n h
  rw [emb10 t y] at h
  exact lane10 m c t y r n h

/-- The gates' gradients on the columns after the first 1024. -/
theorem final8 (c : Dev nD) (G : S8192x4096.Idx → EReal) (hG : (rdat m c).ArrAt 8 cfg0.N G) (r : Fin 8192) (q : Fin 3072) :
    G (ix2 r (⟨1024 + q.val, by omega⟩ : Fin 4096)) = zF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r q := by
  obtain ⟨X, hX, hA⟩ := RDat.ArrAt.exists_exact hG
  have e := hA (Function.update (dats m 0 c).after 8 X) fun u _ _ => by rw [Function.update_self]
  rw [e]
  have h := Dat.arrAt_forall_of_covers ((rdat m c).withAfter (Function.update (dats m 0 c).after 8 X)) 8 (fun i (v : EReal) => ∀ (r : Fin 8192) (q : Fin 3072), i = ix2 r (⟨1024 + q.val, by omega⟩ : Fin 4096) → v = zF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r q)
    (by decide +kernel) (fun t hf y => ?_) (ix2 r (⟨1024 + q.val, by omega⟩ : Fin 4096))
  · exact h r q rfl
  have hR : ZRel _ (X t) := Dat.toRRel_leaves _ rfl (hX t t.isLt hf)
  rw [RDat.withAfter_after, Function.update_self]
  blk_simp
  intro r q h
  rw [emb8 t y] at h
  exact gates8 m c t (X t) hR y r q h

/-- The windows that share an array are inputs. -/
theorem shared_in : ∀ w w' : Fin cfg0.W, w ≠ w' → Pipeline.arrRef spec0 w = Pipeline.arrRef spec0 w' → (cfg0.win w).isOut = false := by decide
/-- After the region a window's array holds what the region left. -/
theorem arr (c : Dev nD) (A : (w : Fin cfg0.W) → Buf (Elt Ideal) ((cfg0.spec w).arr.view.loc (c.tc : Thread nD τ)))
    (hA : ∀ w, (rdat m c).ArrAt w cfg0.N (A w)) (w : Fin cfg0.W) :
    Pipeline.withArrays spec0 c (V0 m c) A (Proc.devRef .tc (Pipeline.arrRef spec0 w)) = A w :=
  Pipeline.withArrays_arr_shared spec0 c _ A (fun w w' hne he => by
    have e := hA w
    rw [RDat.ArrAt_in (rdat m c) w (shared_in w w' hne he)] at e
    exact e.trans (A_eq m c w)) w
/-- The sliced gates' gradients, whole. -/
theorem tail6 {r : PUnit × MemSt nD τ sig (Elt Ideal)} (h : TailRun.Post cfg0 (rdat m) (V0 m) [hostOps1].flatten r) (c : Dev nD) :
    r.2.mem ((c.tc : Thread nD τ).loc main_v6) = fun i : S8192x3072.Idx => zF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) := by
  obtain ⟨A, hA, hb⟩ := (h c).2
  rw [hb main_v6 (Pipeline.mem_restRefs_of main_v6 (by decide) (by decide))]
  have e : StableHlo.after [hostOps1].flatten (Pipeline.withArrays spec0 c (V0 m c) A) (Proc.devRef .tc main_v6)
      = extractStridedSlice (s := S8192x4096) S8192x3072 ![0, 1024] (Pipeline.withArrays spec0 c (V0 m c) A (Proc.devRef .tc main_v5_1) : FVec Ideal S8192x4096 .bf16) slices_S8192x4096_S8192x3072_0_1024 := by
    show StableHlo.after hostOps1 _ _ = _
    unfold hostOps1
    after_results
  refine e.trans ?_
  rw [show Pipeline.withArrays spec0 c (V0 m c) A (Proc.devRef .tc main_v5_1) = A 8 from arr m c A hA 8]
  funext i
  refine Eq.trans ?_ (final8 m c (A 8) (hA 8) (i 0) (i 1))
  pointwise
/-- The sliced row sums, whole. -/
theorem tail7 {r : PUnit × MemSt nD τ sig (Elt Ideal)} (h : TailRun.Post cfg0 (rdat m) (V0 m) [hostOps1].flatten r) (c : Dev nD) :
    r.2.mem ((c.tc : Thread nD τ).loc main_v7) = fun i : S8192x8.Idx => deltaF (m ((c : Thread nD τ).loc main_arg3)) (m ((c : Thread nD τ).loc main_arg4)) (m ((c : Thread nD τ).loc main_arg5)) (m ((c : Thread nD τ).loc main_arg6)) (i 0) (i 1) := by
  obtain ⟨A, hA, hb⟩ := (h c).2
  rw [hb main_v7 (Pipeline.mem_restRefs_of main_v7 (by decide) (by decide))]
  have e : StableHlo.after [hostOps1].flatten (Pipeline.withArrays spec0 c (V0 m c) A) (Proc.devRef .tc main_v7)
      = extractStridedSlice (s := S8192x128) S8192x8 ![0, 0] (Pipeline.withArrays spec0 c (V0 m c) A (Proc.devRef .tc main_v5_3) : FVec Ideal S8192x128 .f32) slices_S8192x128_S8192x8_0_0 := by
    show StableHlo.after hostOps1 _ _ = _
    unfold hostOps1
    after_results
  refine e.trans ?_
  rw [show Pipeline.withArrays spec0 c (V0 m c) A (Proc.devRef .tc main_v5_3) = A 10 from arr m c A hA 10]
  funext i
  refine Eq.trans ?_ (final10 m c (A 10) (hA 10) (i 0) (i 1))
  pointwise

/-- The side conditions of the precondition's lines. -/
theorem pre_facts : Cert.Pre_finite_merge.Facts where
  bcast_S_S8192x1024 := by decide
  reducesTo_S8192x1024_S_d0_1 := by decide
  h_S_ := by decide
  bcast_S_S1024x1024 := by decide
  reducesTo_S1024x1024_S_d0_1 := by decide

/-- The word of the precondition's bound is infinity. -/
theorem word_top : Ideal.ofBits .f32 0x7F800000#32 = (⊤ : EReal) := by simp [Ideal.ofBits, Ideal.ieee]

/-- A value below infinity in size is real. -/
theorem real_of_abs {x : EReal} (h : Ideal.cmp .olt (max x (-x)) ⊤ = 1#1) : ∃ y : ℝ, x = (y : EReal) := by
  induction x with
  | bot => simp [Ideal.cmp] at h
  | top => simp [Ideal.cmp] at h
  | coe y => exact ⟨y, rfl⟩

/-- What the precondition says: three arguments are real everywhere. -/
theorem real_of_pre (h : @Cert.Pre_Kernel5Ideal_finite_merge pre_facts m) (c : Dev nD) :
    IsReal (S := S8192x1024) (m ((c : Thread nD τ).loc main_arg0)) ∧ IsReal (S := S1024x1024) (m ((c : Thread nD τ).loc main_arg5)) ∧ IsReal (S := S8192x1024) (m ((c : Thread nD τ).loc main_arg6)) := by
  letI := pre_facts
  have e := congrFun (h c) (fun d => d.elim0)
  have hs : Subsingleton Cert.Pre_finite_merge.S_.Idx := ⟨fun a b => funext fun d => d.elim0⟩
  unfold Cert.Pre_finite_merge.fn at e
  dsimp only at e
  replace e := IntOp.andi_eq_one.mp e
  obtain ⟨e, e6⟩ := e
  replace e := IntOp.andi_eq_one.mp e
  obtain ⟨e0, e5⟩ := e
  refine ⟨fun i => real_of_abs ?_, fun i => real_of_abs ?_, fun i => real_of_abs ?_⟩
  · rw [← word_top]; exact Host.reduce_andi_all _ _ _ _ _ e0 i
  · rw [← word_top]; exact Host.reduce_andi_all _ _ _ _ _ e5 i
  · rw [← word_top]; exact Host.reduce_andi_all _ _ _ _ _ e6 i

/-- Every named constant read as its word. -/
@[reducible] def words : Named Bits := ⟨fun _ _ {φ} b => FloatOps.ofBits φ b⟩

set_option maxHeartbeats 2000000 in
/-- The printed program is the idealized one with every named constant read as its word. -/
theorem same_bits : @Cert.quiescent_Kernel5 Cert.Kernel5.Gen.facts = (letI := words; ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0)) := by
  sl_kernel_rfl

/-- The frame of the printed program. -/
theorem frame_bits : Cert.quiescent_Kernel5 (hKernel5 := Cert.Kernel5.Gen.facts) := by
  rw [same_bits]
  exact fun m g _ => letI := words; frame (F := Bits) m g

/-- The frame of the idealized program. -/
theorem frame_ideal : Cert.quiescent_Kernel5Ideal (hKernel5Ideal := Cert.Kernel5Ideal.Gen.facts) := fun m g _ => frame (F := Ideal) m g

/-- From finite arguments the call ends with its reference's gradients. -/
theorem claim : Cert.algebraic_Kernel5Ideal_Reference5Ideal_pre_finite_merge (hKernel5Ideal := Cert.Kernel5Ideal.Gen.facts)
    (hReference5Ideal := Cert.Reference5Ideal.Gen.facts) (hPre_finite_merge := pre_facts) := by
  intro m g m' g' hpre hagree
  refine ⟨fun c => fun i : S8192x1024.Idx => dhF (m ((c : Thread nD τ).loc main_arg1)) (m ((c : Thread nD τ).loc main_arg2)) (m ((c : Thread nD τ).loc main_arg5)) (m ((c : Thread nD τ).loc main_arg6)) (i 0) (i 1), fun c => fun i : S8192x3072.Idx => zF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1),
    fun c => fun i : S8192x1024.Idx => doF (m ((c : Thread nD τ).loc main_arg3)) (m ((c : Thread nD τ).loc main_arg5)) (m ((c : Thread nD τ).loc main_arg6)) (i 0) (i 1), fun c => fun i : S8192x8.Idx => deltaF (m ((c : Thread nD τ).loc main_arg3)) (m ((c : Thread nD τ).loc main_arg4)) (m ((c : Thread nD τ).loc main_arg5)) (m ((c : Thread nD τ).loc main_arg6)) (i 0) (i 1), ?_, ?_⟩
  · exact (θ_run _ _ _).mono (fun r h c => ⟨final7 m c _ ((h.1 c).1 7), tail6 m h.1 c, final9 m c _ ((h.1 c).1 9), tail7 m h.1 c, args_kept m h.1 c⟩) (run m g)
  · refine (θ_run _ _ _).mono (fun r h c => ?_) (θ_run_and (Cert.Reference5Ideal.Gen.unchanged m' g') (Cert.Reference5Ideal.Gen.run_main m' g'))
    obtain ⟨r0, r5, r6⟩ := real_of_pre m hpre c
    obtain ⟨a0, a1, a2, a3, a4, a5, a6⟩ := hagree c
    refine ⟨((h.2 c).1 7).trans ((Cert.Reference5Ideal.DMerge.final7 m' c).trans ?_),
      ((h.2 c).2 Cert.Reference5Ideal.main_v5 (Pipeline.mem_restRefs_of Cert.Reference5Ideal.main_v5 (by decide) (by decide))).trans
        ((Cert.Reference5Ideal.DMerge.tail5 m' c (by rw [a0]; exact r0) (by rw [a5]; exact r5) (by rw [a6]; exact r6)).trans ?_),
      ((h.2 c).2 Cert.Reference5Ideal.main_v6 (Pipeline.mem_restRefs_of Cert.Reference5Ideal.main_v6 (by decide) (by decide))).trans
        ((Cert.Reference5Ideal.DMerge.tail6 m' c).trans ?_),
      ((h.2 c).2 Cert.Reference5Ideal.main_v3 (Pipeline.mem_restRefs_of Cert.Reference5Ideal.main_v3 (by decide) (by decide))).trans
        ((Cert.Reference5Ideal.DMerge.tail3 m' c).trans ?_), h.1 c⟩
    · rw [a1, a2, a5, a6]; rfl
    · rw [a0, a1, a2, a3, a4, a5, a6]
    · rw [a3, a5, a6]; rfl
    · rw [a3, a4, a5, a6]

end Cert.Kernel5Ideal.DMerge

end
-- ==== Proof.AttnRun.lean ====
module

public import proofs.«01_k».proof.Proof.Gen.Kernel6Ideal.Launch
public import proofs.«01_k».proof.Proof.Gen.Kernel6Ideal.Skeleton
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Proof.AttnRun

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg)

variable {F : FTy → Type} [FloatOps F] [Named F]

local notation "𝕄" => MT nD τ sig Unit (Elt F) ℕ (UR sig nD τ) ℕ

/-! ## The tables, the scratch buffers and the words the body reads -/

/-- The table of query blocks. -/
abbrev tb0 : Memref sig .tc .smem S36 .i32 := Memref.whole main_c
/-- The table of key blocks. -/
abbrev tb1 : Memref sig .tc .smem S36 .i32 := Memref.whole main_c_0
/-- The running gradient of one block of keys. -/
abbrev sc0 : Memref sig .tc .vmem S1024x256 .f32 := Memref.whole cc0_scratch0
/-- The running gradient of one block of values. -/
abbrev sc1 : Memref sig .tc .vmem S1024x128 .f32 := Memref.whole cc0_scratch1
/-- The running gradient of one head's queries. -/
abbrev sc2 : Memref sig .tc .vmem S8192x256 .f32 := Memref.whole cc0_scratch2

/-- The word that the body reads from a table at a grid point. -/
abbrev wd (tb : Memref sig .tc .smem S36 .i32) (T : tb.view.ty.Contents (Elt F)) (i : grid0.Coords) : BitVec 32 :=
  View.readAt (Elt F) tb.view (Rect.unit (s := S36) (k0_off1 i) S1.size (k0_off1_inb i)).toLoadRect T (Shape.Idx.first (numel1_S1.symm ▸ Nat.one_pos))

/-- The whole of a block of queries or keys. -/
abbrev rQ : Rect S1x1024x256 := Rect.unit (s := S1x1024x256) ![0, 0, 0] S1x1024x256.size inb_S1x1024x256_S1x1024x256_0_0_0
/-- The whole of a block of values. -/
abbrev rV : Rect S1x1024x128 := Rect.unit (s := S1x1024x128) ![0, 0, 0] S1x1024x128.size inb_S1x1024x128_S1x1024x128_0_0_0
/-- The whole of a block of the cotangent. -/
abbrev rO : Rect S1024x128 := Rect.unit (s := S1024x128) ![0, 0] S1024x128.size inb_S1024x128_S1024x128_0_0
/-- The whole of a block of row numbers. -/
abbrev rL : Rect S1x1x1024 := Rect.unit (s := S1x1x1024) ![0, 0, 0] S1x1x1024.size inb_S1x1x1024_S1x1x1024_0_0_0
/-- The first half of a block of queries or keys. -/
abbrev rQ0 : Rect S1x1024x256 := Rect.unit (s := S1x1024x256) ![0, 0, 0] S1x512x256.size inb_S1x1024x256_S1x512x256_0_0_0
/-- The second half of a block of queries or keys. -/
abbrev rQ1 : Rect S1x1024x256 := Rect.unit (s := S1x1024x256) ![0, 512, 0] S1x512x256.size inb_S1x1024x256_S1x512x256_0_512_0
/-- The first half of a block of values. -/
abbrev rV0 : Rect S1x1024x128 := Rect.unit (s := S1x1024x128) ![0, 0, 0] S1x512x128.size inb_S1x1024x128_S1x512x128_0_0_0
/-- The second half of a block of values. -/
abbrev rV1 : Rect S1x1024x128 := Rect.unit (s := S1x1024x128) ![0, 512, 0] S1x512x128.size inb_S1x1024x128_S1x512x128_0_512_0
/-- The second half of a block of the cotangent. -/
abbrev rO1 : Rect S1024x128 := Rect.unit (s := S1024x128) ![512, 0] S512x128.size inb_S1024x128_S512x128_512_0
/-- The first half of a block of the cotangent, or of the values' gradient. -/
abbrev rO0 : Rect S1024x128 := Rect.unit (s := S1024x128) ![0, 0] S512x128.size inb_S1024x128_S512x128_0_0
/-- The whole of the keys' gradient. -/
abbrev rK : Rect S1024x256 := Rect.unit (s := S1024x256) ![0, 0] S1024x256.size inb_S1024x256_S1024x256_0_0
/-- The first half of the keys' gradient. -/
abbrev rK0 : Rect S1024x256 := Rect.unit (s := S1024x256) ![0, 0] S512x256.size inb_S1024x256_S512x256_0_0
/-- The second half of the keys' gradient. -/
abbrev rK1 : Rect S1024x256 := Rect.unit (s := S1024x256) ![512, 0] S512x256.size inb_S1024x256_S512x256_512_0
/-- The whole of the queries' gradient. -/
abbrev rG : Rect S8192x256 := Rect.unit (s := S8192x256) ![0, 0] S8192x256.size inb_S8192x256_S8192x256_0_0
/-- The whole of the queries' gradient as the call writes it. -/
abbrev rGo : Rect S1x8192x256 := Rect.unit (s := S1x8192x256) ![0, 0, 0] S1x8192x256.size inb_S1x8192x256_S1x8192x256_0_0_0

/-- The first point of a head: the queries' gradient starts at zero. -/
abbrev First (i : grid0.Coords) : Prop := Scalar.cmpi .ne (Scalar.extui (Scalar.cmpi .eq (BitVec.ofNat 32 (i 1).val) 0#32)) 0#32 = 1#1

/-! ## What one point makes of the scratch buffers and stores in the outputs -/

section Step

variable (x0 x1 : Vec F S1x1024x256 .bf16) (x2 : Vec F S1x1024x128 .bf16) (x3 : Vec F S1024x128 .bf16) (x4 x5 : Vec F S1x1x1024 .f32)

/-- The scratch buffers' contents: the running gradients of the keys, the values and the queries. -/
structure St (F : FTy → Type) where
  /-- The keys' running gradient. -/
  dk : sc0.view.ty.Contents (Elt F)
  /-- The values' running gradient. -/
  dv : sc1.view.ty.Contents (Elt F)
  /-- The queries' running gradient. -/
  dq : sc2.view.ty.Contents (Elt F)

/-- On the diagonal: what the first half of the keys stores in the queries' gradient `b`. -/
def dqPiece1 (v1 v3 : BitVec 32) (w : k0_chk1 v1 v3) (h : k0_cond2 v1 v3 = 1#1) (b : sc2.view.ty.Contents (Elt F)) : View.Piece (Elt F) S8192x256 .f32 :=
  ⟨Rect.unit (s := S8192x256) (k0_off2 v1) S1024x256.size (k0_off2_inb v1 v3 w h),
      k0_pay20 (k0_pay15 (View.ld x1 rQ0)) (k0_pay18 (View.ld x0 rQ) (View.ld x3 rO) (View.ld x1 rQ0) (View.ld x2 rV0) (View.ld x4 rL) (View.ld x5 rL))
        (View.readAt (Elt F) sc2.view (Rect.unit (s := S8192x256) (k0_off2 v1) S1024x256.size (k0_off2_inb v1 v3 w h)).toLoadRect b)⟩

/-- On the diagonal: what the second half of the keys stores in the queries' gradient `b`. -/
def dqPiece2 (v1 v3 : BitVec 32) (w : k0_chk1 v1 v3) (h : k0_cond2 v1 v3 = 1#1) (b : sc2.view.ty.Contents (Elt F)) : View.Piece (Elt F) S8192x256 .f32 :=
  ⟨Rect.unit (s := S8192x256) (k0_off3 v1) S512x256.size (k0_off3_inb v1 v3 w h),
      k0_pay4 (k0_pay24 (View.ld x3 rO1)) (k0_pay25 (View.ld x1 rQ1)) (k0_pay26 (View.ld x2 rV1)) (k0_pay27 (View.ld x0 rQ1) (View.ld x1 rQ1)) (View.ld x4 rL) (View.ld x5 rL)
        (View.readAt (Elt F) sc2.view (Rect.unit (s := S8192x256) (k0_off3 v1) S512x256.size (k0_off3_inb v1 v3 w h)).toLoadRect b)⟩

/-- On the diagonal: the queries' gradient after a point that finds the stores `L` over `a`. -/
def dqDiag (v1 v3 : BitVec 32) (w : k0_chk1 v1 v3) (h : k0_cond2 v1 v3 = 1#1) (a : sc2.view.ty.Contents (Elt F))
    (L : List (View.Piece (Elt F) S8192x256 .f32)) : sc2.view.ty.Contents (Elt F) :=
  sc2.view.writes (Elt F) a
    (dqPiece2 x0 x1 x2 x3 x4 x5 v1 v3 w h
        (sc2.view.writes (Elt F) a (dqPiece1 x0 x1 x2 x3 x4 x5 v1 v3 w h (sc2.view.writes (Elt F) a L) :: L))
      :: dqPiece1 x0 x1 x2 x3 x4 x5 v1 v3 w h (sc2.view.writes (Elt F) a L) :: L)

/-- Below the diagonal: the queries' gradient after the block of keys. -/
def dqOff (v1 v3 : BitVec 32) (w : k0_chk1 v1 v3) (h : k0_cond3 v1 v3 = 1#1) (a : sc2.view.ty.Contents (Elt F)) : sc2.view.ty.Contents (Elt F) :=
  sc2.view.writes (Elt F) a
    [⟨Rect.unit (s := S8192x256) (k0_off4 v1) S1024x256.size (k0_off4_inb v1 v3 w h),
      k0_pay7 (k0_pay35 (View.ld x0 rQ) (View.ld x3 rO) (View.ld x1 rQ) (View.ld x2 rV) (View.ld x4 rL) (View.ld x5 rL)
        (View.readAt (Elt F) sc2.view (Rect.unit (s := S8192x256) (k0_off4 v1) S1024x256.size (k0_off4_inb v1 v3 w h)).toLoadRect a))⟩]

/-- On the diagonal: the keys' gradient starts anew, half by half. -/
def dkDiag : sc0.view.ty.Contents (Elt F) :=
  sc0.view.writes (Elt F) sc0.view.junk
    [⟨rK1, k0_pay5 (k0_pay23 (View.ld x0 rQ1)) (k0_pay24 (View.ld x3 rO1)) (k0_pay26 (View.ld x2 rV1)) (k0_pay27 (View.ld x0 rQ1) (View.ld x1 rQ1)) (View.ld x4 rL) (View.ld x5 rL)⟩,
     ⟨rK0, k0_pay21 (k0_pay19 (View.ld x0 rQ) (View.ld x3 rO) (View.ld x1 rQ0) (View.ld x2 rV0) (View.ld x4 rL) (View.ld x5 rL))⟩]

/-- On the diagonal: the values' gradient starts anew, half by half. -/
def dvDiag : sc1.view.ty.Contents (Elt F) :=
  sc1.view.writes (Elt F) sc1.view.junk
    [⟨rO1, k0_pay6 (k0_pay24 (View.ld x3 rO1)) (k0_pay27 (View.ld x0 rQ1) (View.ld x1 rQ1)) (View.ld x4 rL)⟩,
     ⟨rO0, k0_pay22 (k0_pay17 (View.ld x0 rQ) (View.ld x3 rO) (View.ld x1 rQ0) (View.ld x4 rL))⟩]

/-- Below the diagonal: the keys' gradient grows. -/
def dkOff (a : sc0.view.ty.Contents (Elt F)) : sc0.view.ty.Contents (Elt F) :=
  sc0.view.writes (Elt F) sc0.view.junk
    [⟨rK, k0_pay8 (k0_pay34 (View.ld x0 rQ) (View.ld x3 rO) (View.ld x1 rQ) (View.ld x2 rV) (View.ld x4 rL) (View.ld x5 rL)) (View.readAt (Elt F) sc0.view rK.toLoadRect a)⟩]

/-- Below the diagonal: the values' gradient grows. -/
def dvOff (a : sc1.view.ty.Contents (Elt F)) : sc1.view.ty.Contents (Elt F) :=
  sc1.view.writes (Elt F) sc1.view.junk
    [⟨rO, k0_pay9 (k0_pay32 (View.ld x0 rQ) (View.ld x3 rO) (View.ld x1 rQ) (View.ld x4 rL)) (View.readAt (Elt F) sc1.view rO.toLoadRect a)⟩]

/-- The scratch buffers after a point at query block `v1` and key block `v3`. -/
def step (i : grid0.Coords) (v1 v3 : BitVec 32) (w : k0_chk1 v1 v3) (s : St F) : St F :=
  if h : k0_cond2 v1 v3 = 1#1 then
    ⟨dkDiag x0 x1 x2 x3 x4 x5, dvDiag x0 x1 x3 x4,
      if First i then dqDiag x0 x1 x2 x3 x4 x5 v1 v3 w h sc2.view.junk [⟨rG, k0_pay1 (F := F)⟩] else dqDiag x0 x1 x2 x3 x4 x5 v1 v3 w h s.dq []⟩
  else if h3 : k0_cond3 v1 v3 = 1#1 then
    ⟨dkOff x0 x1 x2 x3 x4 x5 s.dk, dvOff x0 x1 x3 x4 s.dv, dqOff x0 x1 x2 x3 x4 x5 v1 v3 w h3 s.dq⟩
  else s

/-- A step at the first point of a head. -/
theorem step_diag_first (i : grid0.Coords) (v1 v3 : BitVec 32) (w : k0_chk1 v1 v3) (s : St F) (h : k0_cond2 v1 v3 = 1#1) (h1 : First i) :
    step x0 x1 x2 x3 x4 x5 i v1 v3 w s = ⟨dkDiag x0 x1 x2 x3 x4 x5, dvDiag x0 x1 x3 x4, dqDiag x0 x1 x2 x3 x4 x5 v1 v3 w h sc2.view.junk [⟨rG, k0_pay1 (F := F)⟩]⟩ := by
  unfold step; rw [dif_pos h, if_pos h1]

/-- A step at a later point of the diagonal. -/
theorem step_diag (i : grid0.Coords) (v1 v3 : BitVec 32) (w : k0_chk1 v1 v3) (s : St F) (h : k0_cond2 v1 v3 = 1#1) (h1 : ¬ First i) :
    step x0 x1 x2 x3 x4 x5 i v1 v3 w s = ⟨dkDiag x0 x1 x2 x3 x4 x5, dvDiag x0 x1 x3 x4, dqDiag x0 x1 x2 x3 x4 x5 v1 v3 w h s.dq []⟩ := by
  unfold step; rw [dif_pos h, if_neg h1]

/-- A step below the diagonal. -/
theorem step_off (i : grid0.Coords) (v1 v3 : BitVec 32) (w : k0_chk1 v1 v3) (s : St F) (h : ¬ k0_cond2 v1 v3 = 1#1) (h3 : k0_cond3 v1 v3 = 1#1) :
    step x0 x1 x2 x3 x4 x5 i v1 v3 w s = ⟨dkOff x0 x1 x2 x3 x4 x5 s.dk, dvOff x0 x1 x3 x4 s.dv, dqOff x0 x1 x2 x3 x4 x5 v1 v3 w h3 s.dq⟩ := by
  unfold step; rw [dif_neg h, dif_pos h3]

end Step

/-- What a point stores of the queries' gradient. -/
def out6 (s : St F) : Vec F S1x8192x256 .bf16 := View.canon [⟨rGo, k0_pay12 (View.readAt (Elt F) sc2.view rG.toLoadRect s.dq)⟩]
/-- What a point stores of the keys' gradient. -/
def out7 (s : St F) : Vec F S1x1024x256 .bf16 := View.canon [⟨rQ, k0_pay10 (View.readAt (Elt F) sc0.view rK.toLoadRect s.dk)⟩]
/-- What a point stores of the values' gradient. -/
def out8 (s : St F) : Vec F S1x1024x128 .bf16 := View.canon [⟨rV, k0_pay11 (View.readAt (Elt F) sc1.view rO.toLoadRect s.dv)⟩]

/-- The rectangle is the whole block. -/
theorem cover_rGo (p : Vec F S1x8192x256 .bf16) (y : S1x8192x256.Idx) : ∃ pc ∈ ([⟨rGo, p⟩] : List (View.Piece (Elt F) S1x8192x256 .bf16)), y ∈ pc.1.set :=
  View.cover_of_tiled [⟨rGo, p⟩] S1x8192x256.size (by rfl) y
/-- The rectangle is the whole block. -/
theorem cover_rQ (p : Vec F S1x1024x256 .bf16) (y : S1x1024x256.Idx) : ∃ pc ∈ ([⟨rQ, p⟩] : List (View.Piece (Elt F) S1x1024x256 .bf16)), y ∈ pc.1.set :=
  View.cover_of_tiled [⟨rQ, p⟩] S1x1024x256.size (by rfl) y
/-- The rectangle is the whole block. -/
theorem cover_rV (p : Vec F S1x1024x128 .bf16) (y : S1x1024x128.Idx) : ∃ pc ∈ ([⟨rV, p⟩] : List (View.Piece (Elt F) S1x1024x128 .bf16)), y ∈ pc.1.set :=
  View.cover_of_tiled [⟨rV, p⟩] S1x1024x128.size (by rfl) y

/-- The five ways through the body: the first point of a head, a point below the diagonal that is or is not the last of its column,
    a point of the diagonal, the last point of a head. -/
def Path (i : grid0.Coords) (v1 v3 : BitVec 32) : Prop :=
  (First i ∧ k0_cond2 v1 v3 = 1#1 ∧ ¬ k0_cond3 v1 v3 = 1#1 ∧ ¬ k0_cond4 v1 = 1#1 ∧ ¬ k0_cond5 i = 1#1)
  ∨ (¬ First i ∧ ¬ k0_cond2 v1 v3 = 1#1 ∧ k0_cond3 v1 v3 = 1#1 ∧ ¬ k0_cond4 v1 = 1#1 ∧ ¬ k0_cond5 i = 1#1)
  ∨ (¬ First i ∧ ¬ k0_cond2 v1 v3 = 1#1 ∧ k0_cond3 v1 v3 = 1#1 ∧ k0_cond4 v1 = 1#1 ∧ ¬ k0_cond5 i = 1#1)
  ∨ (¬ First i ∧ k0_cond2 v1 v3 = 1#1 ∧ ¬ k0_cond3 v1 v3 = 1#1 ∧ ¬ k0_cond4 v1 = 1#1 ∧ ¬ k0_cond5 i = 1#1)
  ∨ (¬ First i ∧ k0_cond2 v1 v3 = 1#1 ∧ ¬ k0_cond3 v1 v3 = 1#1 ∧ k0_cond4 v1 = 1#1 ∧ k0_cond5 i = 1#1)

section Body

variable (c : Dev nD) (i : grid0.Coords)
  (arg4 : Memref sig .tc .vmem S1x1024x256 .bf16) (harg4 : arg4.IsWhole)
  (arg5 : Memref sig .tc .vmem S1x1024x256 .bf16) (harg5 : arg5.IsWhole)
  (arg6 : Memref sig .tc .vmem S1x1024x128 .bf16) (harg6 : arg6.IsWhole)
  (arg7 : Memref sig .tc .vmem S1024x128 .bf16) (harg7 : arg7.IsWhole)
  (arg8 : Memref sig .tc .vmem S1x1x1024 .f32) (harg8 : arg8.IsWhole)
  (arg9 : Memref sig .tc .vmem S1x1x1024 .f32) (harg9 : arg9.IsWhole)
  (arg10 : Memref sig .tc .vmem S1x8192x256 .bf16) (harg10 : arg10.IsWhole)
  (arg11 : Memref sig .tc .vmem S1x1024x256 .bf16) (harg11 : arg11.IsWhole)
  (arg12 : Memref sig .tc .vmem S1x1024x128 .bf16) (harg12 : arg12.IsWhole)
  (T0 : Buf (Elt F) ((c : Thread nD τ).loc main_c)) (T1 : Buf (Elt F) ((c : Thread nD τ).loc main_c_0))
  (x0 x1 : Vec F S1x1024x256 .bf16) (x2 : Vec F S1x1024x128 .bf16) (x3 : Vec F S1024x128 .bf16) (x4 x5 : Vec F S1x1x1024 .f32)

/-- The body's buffers: the six inputs, the three outputs at `y6`, `y7`, `y8`, the two tables, and the scratch buffers at `a0`, `a1`, `a2`. -/
def Held (y6 : Vec F S1x8192x256 .bf16) (y7 : Vec F S1x1024x256 .bf16) (y8 : Vec F S1x1024x128 .bf16)
    (a0 : Buf (Elt F) ((c : Thread nD τ).loc cc0_scratch0)) (a1 : Buf (Elt F) ((c : Thread nD τ).loc cc0_scratch1)) (a2 : Buf (Elt F) ((c : Thread nD τ).loc cc0_scratch2)) : sProp 𝕄 :=
  iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5
      ∗ owns (c : Thread nD τ) arg10 fullShare y6 ∗ owns (c : Thread nD τ) arg11 fullShare y7 ∗ owns (c : Thread nD τ) arg12 fullShare y8
      ∗ (tb0.view.loc (c : Thread nD τ) ↦{fullShare.right} T0) ∗ (tb1.view.loc (c : Thread nD τ) ↦{fullShare.right} T1)
      ∗ (sc0.view.loc (c : Thread nD τ) ↦{fullShare} a0) ∗ (sc1.view.loc (c : Thread nD τ) ↦{fullShare} a1) ∗ (sc2.view.loc (c : Thread nD τ) ↦{fullShare} a2))

/-- The body takes its buffers from the contents on the left to those on the right. -/
def Takes (y6 : Vec F S1x8192x256 .bf16) (y7 : Vec F S1x1024x256 .bf16) (y8 : Vec F S1x1024x128 .bf16)
    (a0 : Buf (Elt F) ((c : Thread nD τ).loc cc0_scratch0)) (a1 : Buf (Elt F) ((c : Thread nD τ).loc cc0_scratch1)) (a2 : Buf (Elt F) ((c : Thread nD τ).loc cc0_scratch2))
    (z6 : Vec F S1x8192x256 .bf16) (z7 : Vec F S1x1024x256 .bf16) (z8 : Vec F S1x1024x128 .bf16)
    (b0 : Buf (Elt F) ((c : Thread nD τ).loc cc0_scratch0)) (b1 : Buf (Elt F) ((c : Thread nD τ).loc cc0_scratch1)) (b2 : Buf (Elt F) ((c : Thread nD τ).loc cc0_scratch2)) : Prop :=
  ∀ K : PUnit → sProp 𝕄,
    iprop(Held c arg4 arg5 arg6 arg7 arg8 arg9 arg10 arg11 arg12 T0 T1 x0 x1 x2 x3 x4 x5 y6 y7 y8 a0 a1 a2
      ∗ (Held c arg4 arg5 arg6 arg7 arg8 arg9 arg10 arg11 arg12 T0 T1 x0 x1 x2 x3 x4 x5 z6 z7 z8 b0 b1 b2 -∗ K ⟨⟩))
      ⊢ wp frame (wpE (defs₀ (F := F)) Variants.none c none) Set.univ (cc0_attn_bwd i tb0 (Memref.isWhole_whole _) tb1 (Memref.isWhole_whole _) arg4 harg4 arg5 harg5 arg6 harg6 arg7 harg7 arg8 harg8 arg9 harg9 arg10 harg10 arg11 harg11 arg12 harg12 sc0 (Memref.isWhole_whole _) sc1 (Memref.isWhole_whole _) sc2 (Memref.isWhole_whole _)) K

variable (y6 : Vec F S1x8192x256 .bf16) (y7 : Vec F S1x1024x256 .bf16) (y8 : Vec F S1x1024x128 .bf16)
  (a0 : Buf (Elt F) ((c : Thread nD τ).loc cc0_scratch0)) (a1 : Buf (Elt F) ((c : Thread nD τ).loc cc0_scratch1)) (a2 : Buf (Elt F) ((c : Thread nD τ).loc cc0_scratch2))
  (w : k0_chk1 (wd (F := F) tb0 T0 i) (wd (F := F) tb1 T1 i))

set_option maxHeartbeats 8000000 in
/-- The first point of a head: it lies on the diagonal, and the queries' gradient starts at zero. -/
theorem takes_first (h1 : Scalar.cmpi .ne (Scalar.extui (Scalar.cmpi .eq (BitVec.ofNat 32 (i 1).val) 0#32)) 0#32 = 1#1) (h2 : k0_cond2 (wd (F := F) tb0 T0 i) (wd (F := F) tb1 T1 i) = 1#1) (h3 : ¬ k0_cond3 (wd (F := F) tb0 T0 i) (wd (F := F) tb1 T1 i) = 1#1) (h4 : ¬ k0_cond4 (wd (F := F) tb0 T0 i) = 1#1) (h5 : ¬ k0_cond5 i = 1#1) :
    Takes c i arg4 harg4 arg5 harg5 arg6 harg6 arg7 harg7 arg8 harg8 arg9 harg9 arg10 harg10 arg11 harg11 arg12 harg12 T0 T1 x0 x1 x2 x3 x4 x5 y6 y7 y8 a0 a1 a2
      y6 y7 y8 (dkDiag x0 x1 x2 x3 x4 x5) (dvDiag x0 x1 x3 x4) (dqDiag x0 x1 x2 x3 x4 x5 _ _ w h2 sc2.view.junk [⟨rG, k0_pay1 (F := F)⟩]) := by
  intro K
  unfold Held owns
  rw [cc0_attn_bwd_eq_skeleton]; unfold cc0_attn_bwd_skel
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT0, HT1, HS0, HS1, HS2⟩, Hk⟩
  subst hf0 hf1 hf2 hf3 hf4 hf5 hf6 hf7 hf8
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  sl_exec! (disch := first | (guard_target = k0_chk1 _ _; exact w) | (guard_target = Scalar.cmpi = _; exact h1) | (guard_target = k0_cond2 _ _ = _; exact h2) | (guard_target = ¬(k0_cond3 _ _ = _); exact h3) | (guard_target = ¬(k0_cond4 _ = _); exact h4) | (guard_target = ¬(k0_cond5 _ = _); exact h5))
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [HT0]; · iexact HT0
  isplitl [HT1]; · iexact HT1
  isplitl [HS0]; · iexact HS0
  isplitl [HS1]; · iexact HS1
  iexact HS2

set_option maxHeartbeats 8000000 in
/-- A point below the diagonal, not the last of its column. -/
theorem takes_below (h1 : ¬ Scalar.cmpi .ne (Scalar.extui (Scalar.cmpi .eq (BitVec.ofNat 32 (i 1).val) 0#32)) 0#32 = 1#1) (h2 : ¬ k0_cond2 (wd (F := F) tb0 T0 i) (wd (F := F) tb1 T1 i) = 1#1) (h3 : k0_cond3 (wd (F := F) tb0 T0 i) (wd (F := F) tb1 T1 i) = 1#1) (h4 : ¬ k0_cond4 (wd (F := F) tb0 T0 i) = 1#1) (h5 : ¬ k0_cond5 i = 1#1) :
    Takes c i arg4 harg4 arg5 harg5 arg6 harg6 arg7 harg7 arg8 harg8 arg9 harg9 arg10 harg10 arg11 harg11 arg12 harg12 T0 T1 x0 x1 x2 x3 x4 x5 y6 y7 y8 a0 a1 a2
      y6 y7 y8 (dkOff x0 x1 x2 x3 x4 x5 a0) (dvOff x0 x1 x3 x4 a1) (dqOff x0 x1 x2 x3 x4 x5 _ _ w h3 a2) := by
  intro K
  unfold Held owns
  rw [cc0_attn_bwd_eq_skeleton]; unfold cc0_attn_bwd_skel
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT0, HT1, HS0, HS1, HS2⟩, Hk⟩
  subst hf0 hf1 hf2 hf3 hf4 hf5 hf6 hf7 hf8
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  sl_exec! (disch := first | (guard_target = k0_chk1 _ _; exact w) | (guard_target = ¬(Scalar.cmpi = _); exact h1) | (guard_target = ¬(k0_cond2 _ _ = _); exact h2) | (guard_target = k0_cond3 _ _ = _; exact h3) | (guard_target = ¬(k0_cond4 _ = _); exact h4) | (guard_target = ¬(k0_cond5 _ = _); exact h5))
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [HT0]; · iexact HT0
  isplitl [HT1]; · iexact HT1
  isplitl [HS0]; · iexact HS0
  isplitl [HS1]; · iexact HS1
  iexact HS2

set_option maxHeartbeats 8000000 in
/-- The last point of a column, below the diagonal. -/
theorem takes_below_last (h1 : ¬ Scalar.cmpi .ne (Scalar.extui (Scalar.cmpi .eq (BitVec.ofNat 32 (i 1).val) 0#32)) 0#32 = 1#1) (h2 : ¬ k0_cond2 (wd (F := F) tb0 T0 i) (wd (F := F) tb1 T1 i) = 1#1) (h3 : k0_cond3 (wd (F := F) tb0 T0 i) (wd (F := F) tb1 T1 i) = 1#1) (h4 : k0_cond4 (wd (F := F) tb0 T0 i) = 1#1) (h5 : ¬ k0_cond5 i = 1#1) :
    Takes c i arg4 harg4 arg5 harg5 arg6 harg6 arg7 harg7 arg8 harg8 arg9 harg9 arg10 harg10 arg11 harg11 arg12 harg12 T0 T1 x0 x1 x2 x3 x4 x5 y6 y7 y8 a0 a1 a2
      y6 (out7 ⟨dkOff x0 x1 x2 x3 x4 x5 a0, dvOff x0 x1 x3 x4 a1, dqOff x0 x1 x2 x3 x4 x5 _ _ w h3 a2⟩) (out8 ⟨dkOff x0 x1 x2 x3 x4 x5 a0, dvOff x0 x1 x3 x4 a1, dqOff x0 x1 x2 x3 x4 x5 _ _ w h3 a2⟩) (dkOff x0 x1 x2 x3 x4 x5 a0) (dvOff x0 x1 x3 x4 a1) (dqOff x0 x1 x2 x3 x4 x5 _ _ w h3 a2) := by
  intro K
  unfold Held owns
  rw [cc0_attn_bwd_eq_skeleton]; unfold cc0_attn_bwd_skel
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT0, HT1, HS0, HS1, HS2⟩, Hk⟩
  subst hf0 hf1 hf2 hf3 hf4 hf5 hf6 hf7 hf8
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  sl_exec! (disch := first | (guard_target = k0_chk1 _ _; exact w) | (guard_target = ¬(Scalar.cmpi = _); exact h1) | (guard_target = ¬(k0_cond2 _ _ = _); exact h2) | (guard_target = k0_cond3 _ _ = _; exact h3) | (guard_target = k0_cond4 _ = _; exact h4) | (guard_target = ¬(k0_cond5 _ = _); exact h5))
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists _; isplitr; rotate_left
    · iexact H7
    · ipureintro; exact View.read_writes_eq_canon _ _ _ (cover_rQ _)
  isplitl [H8]
  · iexists _; isplitr; rotate_left
    · iexact H8
    · ipureintro; exact View.read_writes_eq_canon _ _ _ (cover_rV _)
  isplitl [HT0]; · iexact HT0
  isplitl [HT1]; · iexact HT1
  isplitl [HS0]; · iexact HS0
  isplitl [HS1]; · iexact HS1
  iexact HS2

set_option maxHeartbeats 8000000 in
/-- A later point of the diagonal, not the last of its column. -/
theorem takes_diagonal (h1 : ¬ Scalar.cmpi .ne (Scalar.extui (Scalar.cmpi .eq (BitVec.ofNat 32 (i 1).val) 0#32)) 0#32 = 1#1) (h2 : k0_cond2 (wd (F := F) tb0 T0 i) (wd (F := F) tb1 T1 i) = 1#1) (h3 : ¬ k0_cond3 (wd (F := F) tb0 T0 i) (wd (F := F) tb1 T1 i) = 1#1) (h4 : ¬ k0_cond4 (wd (F := F) tb0 T0 i) = 1#1) (h5 : ¬ k0_cond5 i = 1#1) :
    Takes c i arg4 harg4 arg5 harg5 arg6 harg6 arg7 harg7 arg8 harg8 arg9 harg9 arg10 harg10 arg11 harg11 arg12 harg12 T0 T1 x0 x1 x2 x3 x4 x5 y6 y7 y8 a0 a1 a2
      y6 y7 y8 (dkDiag x0 x1 x2 x3 x4 x5) (dvDiag x0 x1 x3 x4) (dqDiag x0 x1 x2 x3 x4 x5 _ _ w h2 a2 []) := by
  intro K
  unfold Held owns
  rw [cc0_attn_bwd_eq_skeleton]; unfold cc0_attn_bwd_skel
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT0, HT1, HS0, HS1, HS2⟩, Hk⟩
  subst hf0 hf1 hf2 hf3 hf4 hf5 hf6 hf7 hf8
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  sl_exec! (disch := first | (guard_target = k0_chk1 _ _; exact w) | (guard_target = ¬(Scalar.cmpi = _); exact h1) | (guard_target = k0_cond2 _ _ = _; exact h2) | (guard_target = ¬(k0_cond3 _ _ = _); exact h3) | (guard_target = ¬(k0_cond4 _ = _); exact h4) | (guard_target = ¬(k0_cond5 _ = _); exact h5))
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [HT0]; · iexact HT0
  isplitl [HT1]; · iexact HT1
  isplitl [HS0]; · iexact HS0
  isplitl [HS1]; · iexact HS1
  iexact HS2

set_option maxHeartbeats 8000000 in
/-- The last point of a head: of the diagonal, and of its column. -/
theorem takes_last (h1 : ¬ Scalar.cmpi .ne (Scalar.extui (Scalar.cmpi .eq (BitVec.ofNat 32 (i 1).val) 0#32)) 0#32 = 1#1) (h2 : k0_cond2 (wd (F := F) tb0 T0 i) (wd (F := F) tb1 T1 i) = 1#1) (h3 : ¬ k0_cond3 (wd (F := F) tb0 T0 i) (wd (F := F) tb1 T1 i) = 1#1) (h4 : k0_cond4 (wd (F := F) tb0 T0 i) = 1#1) (h5 : k0_cond5 i = 1#1) :
    Takes c i arg4 harg4 arg5 harg5 arg6 harg6 arg7 harg7 arg8 harg8 arg9 harg9 arg10 harg10 arg11 harg11 arg12 harg12 T0 T1 x0 x1 x2 x3 x4 x5 y6 y7 y8 a0 a1 a2
      (out6 ⟨dkDiag x0 x1 x2 x3 x4 x5, dvDiag x0 x1 x3 x4, dqDiag x0 x1 x2 x3 x4 x5 _ _ w h2 a2 []⟩) (out7 ⟨dkDiag x0 x1 x2 x3 x4 x5, dvDiag x0 x1 x3 x4, dqDiag x0 x1 x2 x3 x4 x5 _ _ w h2 a2 []⟩) (out8 ⟨dkDiag x0 x1 x2 x3 x4 x5, dvDiag x0 x1 x3 x4, dqDiag x0 x1 x2 x3 x4 x5 _ _ w h2 a2 []⟩) (dkDiag x0 x1 x2 x3 x4 x5) (dvDiag x0 x1 x3 x4) (dqDiag x0 x1 x2 x3 x4 x5 _ _ w h2 a2 []) := by
  intro K
  unfold Held owns
  rw [cc0_attn_bwd_eq_skeleton]; unfold cc0_attn_bwd_skel
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT0, HT1, HS0, HS1, HS2⟩, Hk⟩
  subst hf0 hf1 hf2 hf3 hf4 hf5 hf6 hf7 hf8
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  sl_exec! (disch := first | (guard_target = k0_chk1 _ _; exact w) | (guard_target = ¬(Scalar.cmpi = _); exact h1) | (guard_target = k0_cond2 _ _ = _; exact h2) | (guard_target = ¬(k0_cond3 _ _ = _); exact h3) | (guard_target = k0_cond4 _ = _; exact h4) | (guard_target = k0_cond5 _ = _; exact h5))
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists _; isplitr; rotate_left
    · iexact H6
    · ipureintro; exact View.read_writes_eq_canon _ _ _ (cover_rGo _)
  isplitl [H7]
  · iexists _; isplitr; rotate_left
    · iexact H7
    · ipureintro; exact View.read_writes_eq_canon _ _ _ (cover_rQ _)
  isplitl [H8]
  · iexists _; isplitr; rotate_left
    · iexact H8
    · ipureintro; exact View.read_writes_eq_canon _ _ _ (cover_rV _)
  isplitl [HT0]; · iexact HT0
  isplitl [HT1]; · iexact HT1
  isplitl [HS0]; · iexact HS0
  isplitl [HS1]; · iexact HS1
  iexact HS2

set_option maxHeartbeats 4000000 in
/-- The body at any of the five ways: it makes one step of the scratch buffers, and stores the outputs where a column or a head ends. -/
theorem takes_step (s : St F) (hp : Path i (wd (F := F) tb0 T0 i) (wd (F := F) tb1 T1 i)) :
    Takes c i arg4 harg4 arg5 harg5 arg6 harg6 arg7 harg7 arg8 harg8 arg9 harg9 arg10 harg10 arg11 harg11 arg12 harg12 T0 T1 x0 x1 x2 x3 x4 x5 y6 y7 y8 s.dk s.dv s.dq
      (if k0_cond5 i = 1#1 then out6 (step x0 x1 x2 x3 x4 x5 i _ _ w s) else y6) (if k0_cond4 (wd (F := F) tb0 T0 i) = 1#1 then out7 (step x0 x1 x2 x3 x4 x5 i _ _ w s) else y7)
      (if k0_cond4 (wd (F := F) tb0 T0 i) = 1#1 then out8 (step x0 x1 x2 x3 x4 x5 i _ _ w s) else y8) (step x0 x1 x2 x3 x4 x5 i _ _ w s).dk (step x0 x1 x2 x3 x4 x5 i _ _ w s).dv (step x0 x1 x2 x3 x4 x5 i _ _ w s).dq := by
  generalize hs : step x0 x1 x2 x3 x4 x5 i _ _ w s = s'
  obtain ⟨s0, s1, s2⟩ := s'
  rcases hp with ⟨h1, h2, h3, h4, h5⟩ | ⟨h1, h2, h3, h4, h5⟩ | ⟨h1, h2, h3, h4, h5⟩ | ⟨h1, h2, h3, h4, h5⟩ | ⟨h1, h2, h3, h4, h5⟩
  · obtain ⟨e0, e1, e2⟩ := St.mk.inj (hs.symm.trans (step_diag_first x0 x1 x2 x3 x4 x5 i _ _ w s h2 h1))
    have T := takes_first c i arg4 harg4 arg5 harg5 arg6 harg6 arg7 harg7 arg8 harg8 arg9 harg9 arg10 harg10 arg11 harg11 arg12 harg12 T0 T1 x0 x1 x2 x3 x4 x5 y6 y7 y8 s.dk s.dv s.dq w h1 h2 h3 h4 h5
    rw [← e0, ← e1, ← e2] at T
    rw [if_neg h5, if_neg h4, if_neg h4]
    exact T
  · obtain ⟨e0, e1, e2⟩ := St.mk.inj (hs.symm.trans (step_off x0 x1 x2 x3 x4 x5 i _ _ w s h2 h3))
    have T := takes_below c i arg4 harg4 arg5 harg5 arg6 harg6 arg7 harg7 arg8 harg8 arg9 harg9 arg10 harg10 arg11 harg11 arg12 harg12 T0 T1 x0 x1 x2 x3 x4 x5 y6 y7 y8 s.dk s.dv s.dq w h1 h2 h3 h4 h5
    rw [← e0, ← e1, ← e2] at T
    rw [if_neg h5, if_neg h4, if_neg h4]
    exact T
  · obtain ⟨e0, e1, e2⟩ := St.mk.inj (hs.symm.trans (step_off x0 x1 x2 x3 x4 x5 i _ _ w s h2 h3))
    have T := takes_below_last c i arg4 harg4 arg5 harg5 arg6 harg6 arg7 harg7 arg8 harg8 arg9 harg9 arg10 harg10 arg11 harg11 arg12 harg12 T0 T1 x0 x1 x2 x3 x4 x5 y6 y7 y8 s.dk s.dv s.dq w h1 h2 h3 h4 h5
    rw [← e0, ← e1, ← e2] at T
    rw [if_neg h5, if_pos h4, if_pos h4]
    exact T
  · obtain ⟨e0, e1, e2⟩ := St.mk.inj (hs.symm.trans (step_diag x0 x1 x2 x3 x4 x5 i _ _ w s h2 h1))
    have T := takes_diagonal c i arg4 harg4 arg5 harg5 arg6 harg6 arg7 harg7 arg8 harg8 arg9 harg9 arg10 harg10 arg11 harg11 arg12 harg12 T0 T1 x0 x1 x2 x3 x4 x5 y6 y7 y8 s.dk s.dv s.dq w h1 h2 h3 h4 h5
    rw [← e0, ← e1, ← e2] at T
    rw [if_neg h5, if_neg h4, if_neg h4]
    exact T
  · obtain ⟨e0, e1, e2⟩ := St.mk.inj (hs.symm.trans (step_diag x0 x1 x2 x3 x4 x5 i _ _ w s h2 h1))
    have T := takes_last c i arg4 harg4 arg5 harg5 arg6 harg6 arg7 harg7 arg8 harg8 arg9 harg9 arg10 harg10 arg11 harg11 arg12 harg12 T0 T1 x0 x1 x2 x3 x4 x5 y6 y7 y8 s.dk s.dv s.dq w h1 h2 h3 h4 h5
    rw [← e0, ← e1, ← e2] at T
    rw [if_pos h5, if_pos h4, if_pos h4]
    exact T

end Body

end Cert.Proof.AttnRun
-- ==== Proof.AttnPipe.lean ====
module

public import proofs.«01_k».proof.Proof.Gen.Kernel6Ideal.Launch
public import proofs.«01_k».proof.Proof.Gen.Kernel6Ideal.Skeleton
public import proofs.«01_k».proof.Proof.AttnRun
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Proof.AttnRun

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg)

variable {F : FTy → Type} [FloatOps F] [Named F]

local notation "𝕄" => MT nD τ sig Unit (Elt F) ℕ (UR sig nD τ) ℕ

/-! ## The tables and the pipeline at them -/

/-- The two tables as @main writes them: the block of queries and the block of keys of each point of a head. -/
def tables : pre0.Contents (Elt F) := fun
  | 0 => fun i => lit0 (S36.rowMajor i)
  | 1 => fun i => lit1 (S36.rowMajor i)
  | ⟨_ + 2, h⟩ => absurd h (Nat.not_lt.2 (Nat.le_add_left _ _))

/-- The block of queries at a point. -/
abbrev wq (i : grid0.Coords) : BitVec 32 := lit0 (i 1)
/-- The block of keys at a point. -/
abbrev wk (i : grid0.Coords) : BitVec 32 := lit1 (i 1)

/-- The word the body reads of the first table. -/
theorem wd0 : ∀ i : grid0.Coords, wd (F := F) tb0 (tables (F := F) 0) i = wq i :=
  of_decide_eq_true (by sl_kernel_rfl)

/-- The word the body reads of the second table. -/
theorem wd1 : ∀ i : grid0.Coords, wd (F := F) tb1 (tables (F := F) 1) i = wk i :=
  of_decide_eq_true (by sl_kernel_rfl)

/-- Every point's blocks lie in the queries' gradient. -/
theorem chk : ∀ i : grid0.Coords, k0_chk1 (wq i) (wk i) := by decide +kernel

/-- Every point takes one of the five ways. -/
theorem path : ∀ i : grid0.Coords, Path i (wq i) (wk i) := by unfold Path; decide +kernel

/-- The blocks lie in their arrays. -/
theorem ok : ok0 (tables (F := F)) := of_decide_eq_true (by sl_kernel_rfl)

/-- The tables, with their side condition. -/
def adm : (pcfg0 (F := F)).Adm := ⟨tables, ok⟩

/-- The pipeline at the tables. -/
abbrev cfgA : Pipeline.Cfg sig Λ₀ := cfg0 (F := F) adm

/-- A column's gradients are written back at its last point, a head's at its last. -/
theorem flush_eq : ∀ t : Fin (cfgA (F := F)).N,
    (((cfgA (F := F)).win 6).flush t = true ↔ k0_cond5 (grid0.coords t) = 1#1)
    ∧ (((cfgA (F := F)).win 7).flush t = true ↔ k0_cond4 (wq (grid0.coords t)) = 1#1)
    ∧ (((cfgA (F := F)).win 8).flush t = true ↔ k0_cond4 (wq (grid0.coords t)) = 1#1) := of_decide_eq_true (by sl_kernel_rfl)

/-- The body's words are the tables'. -/
theorem step_words (x0 x1 : Vec F S1x1024x256 .bf16) (x2 : Vec F S1x1024x128 .bf16) (x3 : Vec F S1024x128 .bf16) (x4 x5 : Vec F S1x1x1024 .f32)
    (i : grid0.Coords) {v1 v3 u1 u3 : BitVec 32} (h1 : v1 = u1) (h3 : v3 = u3) (w : k0_chk1 v1 v3) (w' : k0_chk1 u1 u3) (s : St F) :
    step x0 x1 x2 x3 x4 x5 i v1 v3 w s = step x0 x1 x2 x3 x4 x5 i u1 u3 w' s := by
  subst h1 h3; rfl

/-! ## The buffers at the call, and what the scratch buffers may hold -/

/-- The lines before the call. -/
abbrev pre : List (List (HloOp τ sig (Elt F))) := [hostOps0, hostOps0_1, hostOps0_2, hostOps0_3, hostOps0_4, hostOps0_5, hostOps0_6]

variable (m : (ℓ : Loc nD τ sig) → Buf (Elt F) ℓ) (ρ : Dev nD → PrngReg)

/-- The buffers as the call finds them. -/
abbrev V (c : Dev nD) (b : Ref sig .tc) : Buf (Elt F) ((c.tc : Thread nD τ).loc b) := StableHlo.after (pre (F := F)).flatten (fun b => m (c, b)) b

/-- The block of an array at a point. -/
def iblk (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V m c (Pipeline.arrRef spec0 w))

/-- What a point makes of the scratch buffers. -/
def stepAt (c : Dev nD) (t : Fin (cfgA (F := F)).N) (s : St F) : St F :=
  step (iblk m c 0 t) (iblk m c 1 t) (iblk m c 2 t) (iblk m c 3 t) (iblk m c 4 t) (iblk m c 5 t)
    (grid0.coords t) (wq (grid0.coords t)) (wk (grid0.coords t)) (chk _) s

/-- What the scratch buffers may hold before point `n`: at the start anything, then a step of what they held. -/
def Reach (c : Dev nD) : ℕ → St F → Prop
  | 0, _ => True
  | n + 1, s => ∃ (h : n < (cfgA (F := F)).N) (s' : St F), Reach c n s' ∧ s = stepAt m c ⟨n, h⟩ s'

/-- The body's relation: the inputs stay, and an output holds its stored block where the body stores it. -/
def after (c : Dev nD) : (w : Fin (cfgA (F := F)).W) → (t : Fin (cfgA (F := F)).N) →
    (Y X : ((cfgA (F := F)).win w).block.Idx → Elt F ((cfgA (F := F)).win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun t _ X => k0_cond5 (grid0.coords t) = 1#1 → ∃ s, Reach m c (t.val + 1) s ∧ X = out6 s
  | 7 => fun t _ X => k0_cond4 (wq (grid0.coords t)) = 1#1 → ∃ s, Reach m c (t.val + 1) s ∧ X = out7 s
  | 8 => fun t _ X => k0_cond4 (wq (grid0.coords t)) = 1#1 → ∃ s, Reach m c (t.val + 1) s ∧ X = out8 s
  | ⟨_ + 9, h⟩ => absurd h (Nat.not_lt.2 (Nat.le_add_left _ _))

/-- Before point `n` the scratch buffers hold something reached, and the tables are held. -/
def Inv (c : Dev nD) (n : ℕ) : sProp 𝕄 :=
  iprop((∃ s : St F, ⌜Reach m c n s⌝ ∗ (sc0.view.loc (c : Thread nD τ) ↦{fullShare} s.dk)
      ∗ (sc1.view.loc (c : Thread nD τ) ↦{fullShare} s.dv) ∗ (sc2.view.loc (c : Thread nD τ) ↦{fullShare} s.dq))
    ∗ (∃ r, prngReg c r) ∗ (tb0.view.loc (c : Thread nD τ) ↦{fullShare.right} tables (F := F) 0) ∗ (tb1.view.loc (c : Thread nD τ) ↦{fullShare.right} tables (F := F) 1))

/-- The pipeline's data. -/
def rdat (c : Dev nD) : RDat τ (Elt F) Unit ℕ (UR sig nD τ) ℕ (cfgA (F := F)) c where
  A := fun w => V m c (Pipeline.arrRef spec0 w)
  after := after m c
  Φ := fun t => Inv m c t.val
  q := fun _ => fullShare
  owed := fun _ => 0

/-- An input's staging buffer holds its block. -/
theorem finds (c : Dev nD) (w : Fin (cfgA (F := F)).W) (hw : ((cfgA (F := F)).win w).isOut = false)
    (hk : ∀ t Y X, (rdat m c).after w t Y X → X = Y)
    (t : Fin (cfgA (F := F)).N) (Y) (hY : (rdat m c).Finds w t Y) : ∃ d, Y = (rdat m c).fetched w t d :=
  RDat.finds_in_eq_fetched (rdat m c) w hw (fun _ _ _ => rfl) hk t Y hY

/-- The body table's row at a point is the body on that point's buffers. -/
theorem defs₀_row (t : Fin (cfgA (F := F)).N) : defs₀ (F := F) .tc (cfgA (F := F)).body ((cfgA (F := F)).bodyArgs t ((cfgA (F := F)).slots t))
    = cc0_attn_bwd (grid0.coords t) tb0 (Memref.isWhole_whole _) tb1 (Memref.isWhole_whole _)
      (spec0_0.stage ((cfgA (F := F)).slots t 0)) (hstage0_0 (((cfgA (F := F)).slots t 0).cast nbuf0_0))
      (spec0_1.stage ((cfgA (F := F)).slots t 1)) (hstage0_1 (((cfgA (F := F)).slots t 1).cast nbuf0_1))
      (spec0_2.stage ((cfgA (F := F)).slots t 2)) (hstage0_2 (((cfgA (F := F)).slots t 2).cast nbuf0_2))
      (spec0_3.stage ((cfgA (F := F)).slots t 3)) (hstage0_3 (((cfgA (F := F)).slots t 3).cast nbuf0_3))
      (spec0_4.stage ((cfgA (F := F)).slots t 4)) (hstage0_4 (((cfgA (F := F)).slots t 4).cast nbuf0_4))
      (spec0_5.stage ((cfgA (F := F)).slots t 5)) (hstage0_5 (((cfgA (F := F)).slots t 5).cast nbuf0_5))
      (spec0_6.stage ((cfgA (F := F)).slots t 6)) (hstage0_6 (((cfgA (F := F)).slots t 6).cast nbuf0_6))
      (spec0_7.stage ((cfgA (F := F)).slots t 7)) (hstage0_7 (((cfgA (F := F)).slots t 7).cast nbuf0_7))
      (spec0_8.stage ((cfgA (F := F)).slots t 8)) (hstage0_8 (((cfgA (F := F)).slots t 8).cast nbuf0_8))
      sc0 (Memref.isWhole_whole _) sc1 (Memref.isWhole_whole _) sc2 (Memref.isWhole_whole _) := by
  unfold defs₀; rw [Defs.onTc_tc]

/-- The invariant before a point. -/
theorem inv_before (c : Dev nD) (t : Fin (cfgA (F := F)).N) : (rdat m c).Φ t.castSucc = Inv m c t.val := by dsimp only [rdat, Fin.coe_castSucc]
/-- The invariant after a point. -/
theorem inv_after (c : Dev nD) (t : Fin (cfgA (F := F)).N) : (rdat m c).Φ t.succ = Inv m c (t.val + 1) := rfl
/-- Nothing is owed between points. -/
theorem owes_eq (c : Dev nD) (t : Fin (cfgA (F := F)).N) : (rdat m c).owesAt () t.succ = (rdat m c).owesAt () t.castSucc := rfl

set_option maxHeartbeats 2000000 in
/-- The body obligation at every point. -/
theorem body_obligation (c : Dev nD) : (rdat (F := F) m c).BodyObligation (defs₀ (F := F)) Variants.none () Set.univ := fun t Y hY => by
  rw [bigSep_W0, bigSep_W0, defs₀_row]
  have e0 : Y 0 = iblk m c 0 t := by
    obtain ⟨d, e⟩ := finds m c 0 rfl (fun _ _ _ h => h) t _ (hY 0); rw [e]; rfl
  have e1 : Y 1 = iblk m c 1 t := by
    obtain ⟨d, e⟩ := finds m c 1 rfl (fun _ _ _ h => h) t _ (hY 1); rw [e]; rfl
  have e2 : Y 2 = iblk m c 2 t := by
    obtain ⟨d, e⟩ := finds m c 2 rfl (fun _ _ _ h => h) t _ (hY 2); rw [e]; rfl
  have e3 : Y 3 = iblk m c 3 t := by
    obtain ⟨d, e⟩ := finds m c 3 rfl (fun _ _ _ h => h) t _ (hY 3); rw [e]; rfl
  have e4 : Y 4 = iblk m c 4 t := by
    obtain ⟨d, e⟩ := finds m c 4 rfl (fun _ _ _ h => h) t _ (hY 4); rw [e]; rfl
  have e5 : Y 5 = iblk m c 5 t := by
    obtain ⟨d, e⟩ := finds m c 5 rfl (fun _ _ _ h => h) t _ (hY 5); rw [e]; rfl
  have hw : k0_chk1 (wd (F := F) tb0 (tables (F := F) 0) (grid0.coords t)) (wd (F := F) tb1 (tables (F := F) 1) (grid0.coords t)) := by
    rw [wd0, wd1]; exact chk _
  have hp : Path (grid0.coords t) (wd (F := F) tb0 (tables (F := F) 0) (grid0.coords t)) (wd (F := F) tb1 (tables (F := F) 1) (grid0.coords t)) := by
    rw [wd0, wd1]; exact path _
  rw [e0, e1, e2, e3, e4, e5, inv_before, inv_after, owes_eq]
  unfold Inv
  iintro ⟨⟨⟨%s, %hs, HS0, HS1, HS2⟩, Hp, HT0, HT1⟩, Ho, H0, H1, H2, H3, H4, H5, H6, H7, H8⟩
  have T := takes_step c (grid0.coords t) (spec0_0.stage ((cfgA (F := F)).slots t 0)) (hstage0_0 (((cfgA (F := F)).slots t 0).cast nbuf0_0))
      (spec0_1.stage ((cfgA (F := F)).slots t 1)) (hstage0_1 (((cfgA (F := F)).slots t 1).cast nbuf0_1))
      (spec0_2.stage ((cfgA (F := F)).slots t 2)) (hstage0_2 (((cfgA (F := F)).slots t 2).cast nbuf0_2))
      (spec0_3.stage ((cfgA (F := F)).slots t 3)) (hstage0_3 (((cfgA (F := F)).slots t 3).cast nbuf0_3))
      (spec0_4.stage ((cfgA (F := F)).slots t 4)) (hstage0_4 (((cfgA (F := F)).slots t 4).cast nbuf0_4))
      (spec0_5.stage ((cfgA (F := F)).slots t 5)) (hstage0_5 (((cfgA (F := F)).slots t 5).cast nbuf0_5))
      (spec0_6.stage ((cfgA (F := F)).slots t 6)) (hstage0_6 (((cfgA (F := F)).slots t 6).cast nbuf0_6))
      (spec0_7.stage ((cfgA (F := F)).slots t 7)) (hstage0_7 (((cfgA (F := F)).slots t 7).cast nbuf0_7))
      (spec0_8.stage ((cfgA (F := F)).slots t 8)) (hstage0_8 (((cfgA (F := F)).slots t 8).cast nbuf0_8))
      (tables 0) (tables 1) (iblk m c 0 t) (iblk m c 1 t) (iblk m c 2 t) (iblk m c 3 t) (iblk m c 4 t) (iblk m c 5 t) (Y 6) (Y 7) (Y 8) hw s hp
  have hS := step_words (iblk m c 0 t) (iblk m c 1 t) (iblk m c 2 t) (iblk m c 3 t) (iblk m c 4 t) (iblk m c 5 t) (grid0.coords t)
    (wd0 (F := F) (grid0.coords t)) (wd1 (F := F) (grid0.coords t)) hw (chk _) s
  generalize step (iblk m c 0 t) (iblk m c 1 t) (iblk m c 2 t) (iblk m c 3 t) (iblk m c 4 t) (iblk m c 5 t) (grid0.coords t)
    (wd (F := F) tb0 (tables (F := F) 0) (grid0.coords t)) (wd (F := F) tb1 (tables (F := F) 1) (grid0.coords t)) hw s = S at T hS
  have hR : Reach m c (t.val + 1) S := ⟨t.isLt, s, hs, hS⟩
  rw [wd0] at T
  unfold Takes at T
  iapply (T _)
  unfold Held
  isplitl [H0 H1 H2 H3 H4 H5 H6 H7 H8 HT0 HT1 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    isplitl [HT1]; · iexact HT1
    isplitl [HS0]; · iexact HS0
    isplitl [HS1]; · iexact HS1
    iexact HS2
  iintro ⟨H0, H1, H2, H3, H4, H5, H6, H7, H8, HT0, HT1, HS0, HS1, HS2⟩
  isplitl [HS0 HS1 HS2 Hp HT0 HT1]
  · isplitl [HS0 HS1 HS2]
    · iexists S
      isplitr
      · ipureintro; exact hR
      isplitl [HS0]; · iexact HS0
      isplitl [HS1]; · iexact HS1
      iexact HS2
    isplitl [Hp]; · iexact Hp
    isplitl [HT0]; · iexact HT0
    iexact HT1
  isplitl [Ho]; · iexact Ho
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr; rotate_left
    · iexact H6
    · ipureintro; exact fun h => ⟨S, hR, if_pos h⟩
  isplitl [H7]
  · iexists _; isplitr; rotate_left
    · iexact H7
    · ipureintro; exact fun h => ⟨S, hR, if_pos h⟩
  iexists _; isplitr; rotate_left
  · iexact H8
  · ipureintro; exact fun h => ⟨S, hR, if_pos h⟩

/-! ## The run -/

theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem pre_fresh : (pre (F := F)).Forall fun ops => ops.Forall fun op => op.fresh = ∅ := by
  simp only [pre, hostOps0, hostOps0_1, hostOps0_2, hostOps0_3, hostOps0_4, hostOps0_5, hostOps0_6, List.Forall]
  repeat' constructor

/-- No line but the first writes the first table. -/
theorem pre_c : ∀ op ∈ (pre (F := F)).flatten.drop 1, Proc.devRef .tc main_c ∉ op.writes := of_decide_eq_true (by sl_kernel_rfl)
/-- No line after the second writes the second table. -/
theorem pre_c_0 : ∀ op ∈ (pre (F := F)).flatten.drop 2, Proc.devRef .tc main_c_0 ∉ op.writes := of_decide_eq_true (by sl_kernel_rfl)
/-- No line writes an argument. -/
theorem pre_args : ∀ op ∈ (pre (F := F)).flatten, Proc.devRef .tc main_arg0 ∉ op.writes ∧ Proc.devRef .tc main_arg1 ∉ op.writes
    ∧ Proc.devRef .tc main_arg2 ∉ op.writes ∧ Proc.devRef .tc main_arg3 ∉ op.writes := of_decide_eq_true (by sl_kernel_rfl)

/-- The call finds the first table as @main wrote it. -/
theorem V_c (c : Dev nD) : V m c main_c = fun i => lit0 (S36.rowMajor i) :=
  (show V m c main_c = StableHlo.after ((pre (F := F)).flatten.drop 1)
    ((StableHlo.nullary main_c (fun i => lit0 (S36.rowMajor i)) : HloOp τ sig (Elt F)).result fun b => m (c, b)) (Proc.devRef .tc main_c) from rfl).trans
    ((StableHlo.after_of_forall_not_mem _ _ pre_c).trans (StableHlo.nullary_result ..))

/-- The call finds the second table as @main wrote it. -/
theorem V_c_0 (c : Dev nD) : V m c main_c_0 = fun i => lit1 (S36.rowMajor i) :=
  (show V m c main_c_0 = StableHlo.after ((pre (F := F)).flatten.drop 2)
    ((StableHlo.nullary main_c_0 (fun i => lit1 (S36.rowMajor i)) : HloOp τ sig (Elt F)).result
      ((StableHlo.nullary main_c (fun i => lit0 (S36.rowMajor i)) : HloOp τ sig (Elt F)).result fun b => m (c, b))) (Proc.devRef .tc main_c_0) from rfl).trans
    ((StableHlo.after_of_forall_not_mem _ _ pre_c_0).trans (StableHlo.nullary_result ..))

/-- The call finds the tables as @main wrote them. -/
theorem tables_eq (c : Dev nD) : ∀ k, V m c (pre0.ref k) = tables (F := F) k
  | 0 => V_c m c
  | 1 => V_c_0 m c
  | ⟨_ + 2, h⟩ => absurd h (Nat.not_lt.2 (Nat.le_add_left _ _))

/-- Two buffers held are the one and the other. -/
theorem bigSep_two {M : Type} [URA M] (Φ : Fin 2 → sProp M) : bigSep Finset.univ Φ = iprop(Φ 0 ∗ Φ 1) :=
  bigSep_univ_eq_bigSepL [(0 : Fin 2), (1 : Fin 2)] (by decide) (by decide) Φ

/-- What the call finds gives the invariant before the first point. -/
theorem inv_start (c : Dev nD) : iprop(Pipeline.ΦA (U := UR sig nD τ) (Val := Elt F) spec0 c ∗ Pipeline.ΦT (U := UR sig nD τ) pre0 (tables (F := F)) c) ⊢ Inv m c 0 := by
  unfold Pipeline.ΦA Pipeline.ΦT Pipeline.prefHeld Inv
  rw [scopedRest0_eq, bigSep_two]
  iintro ⟨⟨⟨⟨%f0, H0⟩, ⟨%f1, H1⟩, ⟨%f2, H2⟩⟩, Hp⟩, HT0, HT1⟩
  isplitl [H0 H1 H2]
  · iexists (⟨f0, f1, f2⟩ : St F)
    isplitr
    · ipureintro; exact trivial
    isplitl [H0]; · iexact H0
    isplitl [H1]; · iexact H1
    iexact H2
  isplitl [Hp]; · iexact Hp
  isplitl [HT0]; · iexact HT0
  iexact HT1

/-- The invariant after the last point gives the scratch buffers back. -/
theorem inv_end (c : Dev nD) (n : ℕ) : Inv m c n ⊢ Pipeline.ΦA (U := UR sig nD τ) (Val := Elt F) spec0 c := by
  unfold Pipeline.ΦA Inv
  rw [scopedRest0_eq]
  iintro ⟨⟨%s, %hs, H0, H1, H2⟩, Hp, HT0, HT1⟩
  isplitl [H0 H1 H2]
  · isplitl [H0]; · iexists _; iexact H0
    isplitl [H1]; · iexists _; iexact H1
    iexists _; iexact H2
  iexact Hp

/-- The run: every array of the call stands in the relation, every other buffer as the call found it. -/
theorem run : θ_run defs (onTc (τ := τ) (main (F := F))) (s₀ m ρ)
    (fun r => RDat.FramePost (cfgA (F := F)) (rdat m) (V m) r ∧ r.2.sem = fun _ => 0) :=
  RDat.θ_run_frameP_track (Q' := _) pcfgs (fun _ => adm) 0 launch0 defs₀ Variants.none (rdat m) m ρ main (body_obligation m)
    (fun c w => by unfold RDat.share; split <;> rfl) (fun _ _ => rfl) (V m)
    (Pipeline.hmainP_prefixes pcfgs 0 defs₀ Variants.none m main pre pre_sub pre_fresh main_chain)
    (fun _ _ => rfl) (tables_eq m) (inv_start m) (fun c => inv_end m c _)

/-- An argument ends as it was launched. -/
theorem arg_kept {r : PUnit × MemSt nD τ sig (Elt F)} (h : RDat.FramePost (cfgA (F := F)) (rdat m) (V m) r) (c : Dev nD)
    (b : Ref sig .tc) (hb : b ∈ Pipeline.restRefs sig spec0) (hw : ∀ op ∈ (pre (F := F)).flatten, Proc.devRef .tc b ∉ op.writes) :
    r.2.mem ((c.tc : Thread nD τ).loc b) = m ((c.tc : Thread nD τ).loc b) :=
  ((h c).2 b hb).trans (StableHlo.after_of_forall_not_mem (b := Proc.devRef .tc b) _ _ hw)

/-- The arguments end as they were launched. -/
theorem args_kept {r : PUnit × MemSt nD τ sig (Elt F)} (h : RDat.FramePost (cfgA (F := F)) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨arg_kept m h c main_arg0 (Pipeline.mem_restRefs_of main_arg0 (by decide) (by decide)) fun op ho => (pre_args op ho).1,
    arg_kept m h c main_arg1 (Pipeline.mem_restRefs_of main_arg1 (by decide) (by decide)) fun op ho => (pre_args op ho).2.1,
    arg_kept m h c main_arg2 (Pipeline.mem_restRefs_of main_arg2 (by decide) (by decide)) fun op ho => (pre_args op ho).2.2.1,
    arg_kept m h c main_arg3 (Pipeline.mem_restRefs_of main_arg3 (by decide) (by decide)) fun op ho => (pre_args op ho).2.2.2⟩

/-- The frame: the arguments are unchanged and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m h.1, h.2⟩) (run m ρ)

end Cert.Proof.AttnRun
-- ==== Proof.AttnForms.lean ====
module

public import proofs.«01_k».proof.Proof.Gen.Kernel6Ideal.Skeleton
public import Idealize.ShloMosaic.Lib.Pipeline.ValueKit
public import Idealize.ShloMosaic.Lib.Pointwise

@[expose] public section

set_option maxRecDepth 16384

noncomputable section

namespace Cert.Proof.AttnForms

open Cert.Kernel6Ideal Cert.Kernel6Ideal.Gen Idealize.ShloMosaic Idealize.ShloMosaic.TcCoe Idealize.SL.Sem

/-! ## The stored values, entry by entry -/

/-- The mask's value. -/
theorem named_mask : Named.named (F := Ideal) κ "mask" (φ := .f32) 0xF149F2CA#32 = (⊥ : EReal) := IdealRules.named_const.ideal_named_scalar _ _ _ _ rfl
/-- The logarithm of two. -/
theorem named_ln2 : Named.named (F := Ideal) κ "ln2" (φ := .f32) 0x3F317218#32 = ((Real.log 2 : ℝ) : EReal) := IdealRules.named_const.ideal_named_scalar _ _ _ _ rfl

/-- Choosing by the order of two shifted positions. -/
theorem select_le {α : Type} (n a b : ℕ) (ha : a < 1024) (hb : b < 1024) (hn : n ≤ 512) (x y : α) :
    Scalar.select (IntOp.cmpi .sle (IntOp.addi (BitVec.ofNat 32 a) (BitVec.ofNat 32 n)) (IntOp.addi (BitVec.ofNat 32 b) (BitVec.ofNat 32 n))) x y
      = if a ≤ b then x else y := by
  have e : IntOp.cmpi .sle (IntOp.addi (BitVec.ofNat 32 a) (BitVec.ofNat 32 n)) (IntOp.addi (BitVec.ofNat 32 b) (BitVec.ofNat 32 n)) = if a ≤ b then 1#1 else 0#1 := by
    show BitVec.ofBool (BitVec.sle (BitVec.ofNat 32 a + BitVec.ofNat 32 n) (BitVec.ofNat 32 b + BitVec.ofNat 32 n)) = _
    rw [← BitVec.ofNat_add, ← BitVec.ofNat_add]
    have h : BitVec.sle (BitVec.ofNat 32 (a + n)) (BitVec.ofNat 32 (b + n)) = decide (a ≤ b) := by
      rw [BitVec.sle]
      have w (x : ℕ) (hx : x < 2048) : (BitVec.ofNat 32 x).toInt = x := by
        rw [BitVec.toInt_eq_toNat_of_lt (by rw [BitVec.toNat_ofNat]; omega), BitVec.toNat_ofNat, Nat.mod_eq_of_lt (by omega)]
      rw [w _ (by omega), w _ (by omega)]
      simp
    rw [h]
    by_cases hab : a ≤ b <;> simp [hab]
  rw [e]
  by_cases hab : a ≤ b
  · rw [if_pos hab, if_pos hab]; rfl
  · rw [if_neg hab, if_neg hab]; rfl

/-- The probabilities of the first half of the keys. -/
theorem pay16_apply (q : Vec Ideal S1x1024x256 .bf16) (k : Vec Ideal S1x512x256 .bf16) (l : Vec Ideal S1x1x1024 .f32) (r : Fin 512) (c : Fin 1024) :
    k0_pay16 q k l (ix2 r c) = Ideal.exp2 ((if r.val ≤ c.val then ∑ d : Fin 256, k (ix3 0 r d) * q (ix3 0 c d) else ⊥) - l (ix3 0 0 c)) := by
  unfold k0_pay16 k0_pay15 k0_pay13
  pointwise
  rw [named_mask]
  exact congrArg (fun s => Ideal.exp2 (s - l (ix3 0 0 c))) (select_le 0 r.val c.val (by omega) c.isLt (by omega) _ _)

/-- The masked products of the second half of the keys. -/
theorem pay27_apply (q : Vec Ideal S1x512x256 .bf16) (k : Vec Ideal S1x512x256 .bf16) (r c : Fin 512) :
    k0_pay27 q k (ix2 r c) = if r.val ≤ c.val then ∑ d : Fin 256, k (ix3 0 r d) * q (ix3 0 c d) else ⊥ := by
  unfold k0_pay27 k0_pay25 k0_pay23
  pointwise
  rw [named_mask]
  exact select_le 512 r.val c.val (by omega) (by omega) (by omega) _ _

/-- The probabilities of the second half of the keys. -/
theorem pay2_apply (s : FVec Ideal S512x512 .f32) (l : Vec Ideal S1x1x1024 .f32) (r c : Fin 512) :
    k0_pay2 s l (ix2 r c) = Ideal.exp2 (s (ix2 r c) - l (ix3 0 0 ⟨512 + c.val, by omega⟩)) := by
  unfold k0_pay2
  pointwise
  rfl

/-- The probabilities of a block below the diagonal. -/
theorem pay31_apply (q k : Vec Ideal S1x1024x256 .bf16) (l : Vec Ideal S1x1x1024 .f32) (r c : Fin 1024) :
    k0_pay31 q k l (ix2 r c) = Ideal.exp2 ((∑ d : Fin 256, k (ix3 0 r d) * q (ix3 0 c d)) - l (ix3 0 0 c)) := by
  unfold k0_pay31 k0_pay30 k0_pay28
  pointwise
  rfl

/-- The scores' gradient of the first half of the keys. -/
theorem pay18_apply (q : Vec Ideal S1x1024x256 .bf16) (g : Vec Ideal S1024x128 .bf16) (k : Vec Ideal S1x512x256 .bf16) (v : Vec Ideal S1x512x128 .bf16)
    (l d : Vec Ideal S1x1x1024 .f32) (r : Fin 512) (c : Fin 1024) :
    k0_pay18 q g k v l d (ix2 r c) = k0_pay16 q k l (ix2 r c) * ((∑ e : Fin 128, v (ix3 0 r e) * g (ix2 c e)) - d (ix3 0 0 c)) := by
  unfold k0_pay18 k0_pay14
  pointwise

/-- The scores' gradient of the second half of the keys. -/
theorem pay3_apply (g : Vec Ideal S512x128 .bf16) (v : Vec Ideal S1x512x128 .bf16) (s : FVec Ideal S512x512 .f32)
    (l d : Vec Ideal S1x1x1024 .f32) (r c : Fin 512) :
    k0_pay3 (k0_pay24 g) (k0_pay26 v) s l d (ix2 r c)
      = k0_pay2 s l (ix2 r c) * ((∑ e : Fin 128, v (ix3 0 r e) * g (ix2 c e)) - d (ix3 0 0 ⟨512 + c.val, by omega⟩)) := by
  unfold k0_pay3 k0_pay24 k0_pay26
  pointwise

/-- The scores' gradient of a block below the diagonal. -/
theorem pay33_apply (q : Vec Ideal S1x1024x256 .bf16) (g : Vec Ideal S1024x128 .bf16) (k : Vec Ideal S1x1024x256 .bf16) (v : Vec Ideal S1x1024x128 .bf16)
    (l d : Vec Ideal S1x1x1024 .f32) (r c : Fin 1024) :
    k0_pay33 q g k v l d (ix2 r c) = k0_pay31 q k l (ix2 r c) * ((∑ e : Fin 128, v (ix3 0 r e) * g (ix2 c e)) - d (ix3 0 0 c)) := by
  unfold k0_pay33 k0_pay29
  pointwise

/-- The keys' gradient of the first half. -/
theorem pay21_apply (q : Vec Ideal S1x1024x256 .bf16) (g : Vec Ideal S1024x128 .bf16) (k : Vec Ideal S1x512x256 .bf16) (v : Vec Ideal S1x512x128 .bf16)
    (l d : Vec Ideal S1x1x1024 .f32) (r : Fin 512) (j : Fin 256) :
    k0_pay21 (k0_pay19 q g k v l d) (ix2 r j) = ∑ c : Fin 1024, k0_pay18 q g k v l d (ix2 r c) * q (ix3 0 c j) := by
  unfold k0_pay21 k0_pay19 k0_pay13
  pointwise

/-- The keys' gradient of the second half. -/
theorem pay5_apply (q : Vec Ideal S1x512x256 .bf16) (g v : FVec Ideal S512x128 .bf16) (s : FVec Ideal S512x512 .f32)
    (l d : Vec Ideal S1x1x1024 .f32) (r : Fin 512) (j : Fin 256) :
    k0_pay5 (k0_pay23 q) g v s l d (ix2 r j) = ∑ c : Fin 512, k0_pay3 g v s l d (ix2 r c) * q (ix3 0 c j) := by
  unfold k0_pay5 k0_pay23
  pointwise

/-- The values' gradient of the first half. -/
theorem pay22_apply (q : Vec Ideal S1x1024x256 .bf16) (g : Vec Ideal S1024x128 .bf16) (k : Vec Ideal S1x512x256 .bf16)
    (l : Vec Ideal S1x1x1024 .f32) (r : Fin 512) (j : Fin 128) :
    k0_pay22 (k0_pay17 q g k l) (ix2 r j) = ∑ c : Fin 1024, k0_pay16 q k l (ix2 r c) * g (ix2 c j) := by
  unfold k0_pay22 k0_pay17 k0_pay14
  pointwise

/-- The values' gradient of the second half. -/
theorem pay6_apply (g : Vec Ideal S512x128 .bf16) (s : FVec Ideal S512x512 .f32) (l : Vec Ideal S1x1x1024 .f32) (r : Fin 512) (j : Fin 128) :
    k0_pay6 (k0_pay24 g) s l (ix2 r j) = ∑ c : Fin 512, k0_pay2 s l (ix2 r c) * g (ix2 c j) := by
  unfold k0_pay6 k0_pay24
  pointwise

/-- What the first half of the keys adds to the queries' gradient. -/
theorem pay20_apply (k : Vec Ideal S1x512x256 .bf16) (s : FVec Ideal S512x1024 .bf16) (a : Vec Ideal S1024x256 .f32) (c : Fin 1024) (j : Fin 256) :
    k0_pay20 (k0_pay15 k) s a (ix2 c j) = a (ix2 c j) + ∑ r : Fin 512, s (ix2 r c) * k (ix3 0 r j) := by
  unfold k0_pay20 k0_pay15
  pointwise

/-- What the second half of the keys adds to the queries' gradient. -/
theorem pay4_apply (g v : FVec Ideal S512x128 .bf16) (k : Vec Ideal S1x512x256 .bf16) (s : FVec Ideal S512x512 .f32)
    (l d : Vec Ideal S1x1x1024 .f32) (a : Vec Ideal S512x256 .f32) (c : Fin 512) (j : Fin 256) :
    k0_pay4 g (k0_pay25 k) v s l d a (ix2 c j) = a (ix2 c j) + ∑ r : Fin 512, k0_pay3 g v s l d (ix2 r c) * k (ix3 0 r j) := by
  unfold k0_pay4 k0_pay25
  pointwise

/-- What a block of keys below the diagonal adds to the queries' gradient. -/
theorem pay7_apply (q : Vec Ideal S1x1024x256 .bf16) (g : Vec Ideal S1024x128 .bf16) (k : Vec Ideal S1x1024x256 .bf16) (v : Vec Ideal S1x1024x128 .bf16)
    (l d : Vec Ideal S1x1x1024 .f32) (a : Vec Ideal S1024x256 .f32) (c : Fin 1024) (j : Fin 256) :
    k0_pay7 (k0_pay35 q g k v l d a) (ix2 c j) = a (ix2 c j) + ∑ r : Fin 1024, k0_pay33 q g k v l d (ix2 r c) * k (ix3 0 r j) := by
  unfold k0_pay7 k0_pay35 k0_pay30
  pointwise

/-- What a block of queries below the diagonal adds to the keys' gradient. -/
theorem pay8_apply (q : Vec Ideal S1x1024x256 .bf16) (g : Vec Ideal S1024x128 .bf16) (k : Vec Ideal S1x1024x256 .bf16) (v : Vec Ideal S1x1024x128 .bf16)
    (l d : Vec Ideal S1x1x1024 .f32) (a : Vec Ideal S1024x256 .f32) (r : Fin 1024) (j : Fin 256) :
    k0_pay8 (k0_pay34 q g k v l d) a (ix2 r j) = a (ix2 r j) + ∑ c : Fin 1024, k0_pay33 q g k v l d (ix2 r c) * q (ix3 0 c j) := by
  unfold k0_pay8 k0_pay34 k0_pay28
  pointwise

/-- What a block of queries below the diagonal adds to the values' gradient. -/
theorem pay9_apply (q : Vec Ideal S1x1024x256 .bf16) (g : Vec Ideal S1024x128 .bf16) (k : Vec Ideal S1x1024x256 .bf16)
    (l : Vec Ideal S1x1x1024 .f32) (a : Vec Ideal S1024x128 .f32) (r : Fin 1024) (j : Fin 128) :
    k0_pay9 (k0_pay32 q g k l) a (ix2 r j) = a (ix2 r j) + ∑ c : Fin 1024, k0_pay31 q k l (ix2 r c) * g (ix2 c j) := by
  unfold k0_pay9 k0_pay32 k0_pay29
  pointwise

/-- The queries' gradient starts at zero. -/
theorem pay1_apply (c : Fin 8192) (j : Fin 256) : k0_pay1 (F := Ideal) (ix2 c j) = 0 := by
  unfold k0_pay1
  pointwise

/-- The keys' gradient as it is stored. -/
theorem pay10_apply (a : Vec Ideal S1024x256 .f32) (r : Fin 1024) (j : Fin 256) :
    k0_pay10 a (ix3 0 r j) = a (ix2 r j) * ((Real.log 2 : ℝ) : EReal) := by
  unfold k0_pay10
  pointwise
  rw [named_ln2]
/-- The values' gradient as it is stored. -/
theorem pay11_apply (a : Vec Ideal S1024x128 .f32) (r : Fin 1024) (j : Fin 128) : k0_pay11 a (ix3 0 r j) = a (ix2 r j) := by
  unfold k0_pay11
  pointwise
/-- The queries' gradient as it is stored. -/
theorem pay12_apply (a : Vec Ideal S8192x256 .f32) (r : Fin 8192) (j : Fin 256) : k0_pay12 a (ix3 0 r j) = a (ix2 r j) := by
  unfold k0_pay12
  pointwise

end Cert.Proof.AttnForms

end
-- ==== Proof.AttnStep.lean ====
module

public import proofs.«01_k».proof.Proof.AttnRun
public import proofs.«01_k».proof.Proof.AttnForms

@[expose] public section

set_option maxRecDepth 16384

noncomputable section

namespace Cert.Proof.AttnStep

open Cert.Kernel6Ideal Cert.Kernel6Ideal.Gen Cert.Proof.AttnRun Cert.Proof.AttnForms Idealize.ShloMosaic Idealize.ShloMosaic.TcCoe Idealize.SL.Sem

/-! ## One point, entry by entry -/

section forms

variable (b : Bool) (x0 x1 : Vec Ideal S1x1024x256 .bf16) (x2 : Vec Ideal S1x1024x128 .bf16) (x3 : Vec Ideal S1024x128 .bf16) (x4 x5 : Vec Ideal S1x1x1024 .f32)

/-- The probability of a block's key and query; on the diagonal later keys have none. -/
def pB (r c : Fin 1024) : EReal :=
  Ideal.exp2 ((if b = false ∨ r.val ≤ c.val then ∑ d : Fin 256, x1 (ix3 0 r d) * x0 (ix3 0 c d) else ⊥) - x4 (ix3 0 0 c))
/-- The gradient of a block's score. -/
def dsB (r c : Fin 1024) : EReal := pB b x0 x1 x4 r c * ((∑ e : Fin 128, x2 (ix3 0 r e) * x3 (ix2 c e)) - x5 (ix3 0 0 c))

/-- A later key has probability zero. -/
theorem pB_above (r c : Fin 1024) (h : c.val < r.val) : pB true x0 x1 x4 r c = 0 := by
  unfold pB
  rw [if_neg (by simp; omega), EReal.bot_sub, Ideal.exp2_bot]
/-- A later key has no gradient. -/
theorem dsB_above (r c : Fin 1024) (h : c.val < r.val) : dsB true x0 x1 x2 x3 x4 x5 r c = 0 := by
  unfold dsB
  rw [pB_above x0 x1 x4 r c h, zero_mul]

/-- A position of the first half. -/
abbrev lo (r : Fin 512) : Fin 1024 := ⟨r.val, by omega⟩
/-- A position of the second half. -/
abbrev hi (r : Fin 512) : Fin 1024 := ⟨512 + r.val, by omega⟩

/-- The whole of a block. -/
theorem ld_rQ (r : Fin 1024) (d : Fin 256) : View.ld (Val := Elt Ideal) x0 rQ (ix3 0 r d) = x0 (ix3 0 r d) :=
  congrArg x0 (funext fun a => by fin_cases a <;> exact Fin.ext (by simp [LoadRect.idx, Rect.unit]))
/-- The first half of a block. -/
theorem ld_rQ0 (r : Fin 512) (d : Fin 256) : View.ld (Val := Elt Ideal) x0 rQ0 (ix3 0 r d) = x0 (ix3 0 (lo r) d) :=
  congrArg x0 (funext fun a => by fin_cases a <;> exact Fin.ext (by simp [LoadRect.idx, Rect.unit]))
/-- The second half of a block. -/
theorem ld_rQ1 (r : Fin 512) (d : Fin 256) : View.ld (Val := Elt Ideal) x0 rQ1 (ix3 0 r d) = x0 (ix3 0 (hi r) d) :=
  congrArg x0 (funext fun a => by fin_cases a <;> exact Fin.ext (by simp [LoadRect.idx, Rect.unit]))
/-- The whole of a block of values. -/
theorem ld_rV (r : Fin 1024) (d : Fin 128) : View.ld (Val := Elt Ideal) x2 rV (ix3 0 r d) = x2 (ix3 0 r d) :=
  congrArg x2 (funext fun a => by fin_cases a <;> exact Fin.ext (by simp [LoadRect.idx, Rect.unit]))
/-- The first half of a block of values. -/
theorem ld_rV0 (r : Fin 512) (d : Fin 128) : View.ld (Val := Elt Ideal) x2 rV0 (ix3 0 r d) = x2 (ix3 0 (lo r) d) :=
  congrArg x2 (funext fun a => by fin_cases a <;> exact Fin.ext (by simp [LoadRect.idx, Rect.unit]))
/-- The second half of a block of values. -/
theorem ld_rV1 (r : Fin 512) (d : Fin 128) : View.ld (Val := Elt Ideal) x2 rV1 (ix3 0 r d) = x2 (ix3 0 (hi r) d) :=
  congrArg x2 (funext fun a => by fin_cases a <;> exact Fin.ext (by simp [LoadRect.idx, Rect.unit]))
/-- The whole of a block of the cotangent. -/
theorem ld_rO (r : Fin 1024) (d : Fin 128) : View.ld (Val := Elt Ideal) x3 rO (ix2 r d) = x3 (ix2 r d) :=
  congrArg x3 (funext fun a => by fin_cases a <;> exact Fin.ext (by simp [LoadRect.idx, Rect.unit]))
/-- The second half of a block of the cotangent. -/
theorem ld_rO1 (r : Fin 512) (d : Fin 128) : View.ld (Val := Elt Ideal) x3 rO1 (ix2 r d) = x3 (ix2 (hi r) d) :=
  congrArg x3 (funext fun a => by fin_cases a <;> exact Fin.ext (by simp [LoadRect.idx, Rect.unit]))
/-- The whole of a block of row numbers. -/
theorem ld_rL (r : Fin 1024) : View.ld (Val := Elt Ideal) x4 rL (ix3 0 0 r) = x4 (ix3 0 0 r) :=
  congrArg x4 (funext fun a => by fin_cases a <;> exact Fin.ext (by simp [LoadRect.idx, Rect.unit]))

/-! ### The scores' gradients of the halves and of a whole block -/

/-- The first half's probabilities. -/
theorem p_lo (r : Fin 512) (c : Fin 1024) :
    k0_pay16 (View.ld x0 rQ) (View.ld x1 rQ0) (View.ld x4 rL) (ix2 r c) = pB true x0 x1 x4 (lo r) c := by
  rw [pay16_apply, pB, ld_rL, Finset.sum_congr rfl fun d _ => congrArg₂ (· * ·) (ld_rQ0 x1 r d) (ld_rQ x0 c d)]
  simp
/-- The second half's probabilities. -/
theorem p_hi (r c : Fin 512) :
    k0_pay2 (k0_pay27 (View.ld x0 rQ1) (View.ld x1 rQ1)) (View.ld x4 rL) (ix2 r c) = pB true x0 x1 x4 (hi r) (hi c) := by
  rw [pay2_apply, pay27_apply, pB, ld_rL, Finset.sum_congr rfl fun d _ => congrArg₂ (· * ·) (ld_rQ1 x1 r d) (ld_rQ1 x0 c d)]
  simp
/-- A whole block's probabilities. -/
theorem p_off (r c : Fin 1024) : k0_pay31 (View.ld x0 rQ) (View.ld x1 rQ) (View.ld x4 rL) (ix2 r c) = pB false x0 x1 x4 r c := by
  rw [pay31_apply, pB, ld_rL, Finset.sum_congr rfl fun d _ => congrArg₂ (· * ·) (ld_rQ x1 r d) (ld_rQ x0 c d)]
  simp
/-- The first half's gradients. -/
theorem ds_lo (r : Fin 512) (c : Fin 1024) :
    k0_pay18 (View.ld x0 rQ) (View.ld x3 rO) (View.ld x1 rQ0) (View.ld x2 rV0) (View.ld x4 rL) (View.ld x5 rL) (ix2 r c)
      = dsB true x0 x1 x2 x3 x4 x5 (lo r) c := by
  rw [pay18_apply, p_lo, dsB, ld_rL, Finset.sum_congr rfl fun e _ => congrArg₂ (· * ·) (ld_rV0 x2 r e) (ld_rO x3 c e)]
/-- The second half's gradients. -/
theorem ds_hi (r c : Fin 512) :
    k0_pay3 (k0_pay24 (View.ld x3 rO1)) (k0_pay26 (View.ld x2 rV1)) (k0_pay27 (View.ld x0 rQ1) (View.ld x1 rQ1)) (View.ld x4 rL) (View.ld x5 rL) (ix2 r c)
      = dsB true x0 x1 x2 x3 x4 x5 (hi r) (hi c) := by
  rw [pay3_apply, p_hi, dsB, ld_rL, Finset.sum_congr rfl fun e _ => congrArg₂ (· * ·) (ld_rV1 x2 r e) (ld_rO1 x3 c e)]
/-- A whole block's gradients. -/
theorem ds_off (r c : Fin 1024) :
    k0_pay33 (View.ld x0 rQ) (View.ld x3 rO) (View.ld x1 rQ) (View.ld x2 rV) (View.ld x4 rL) (View.ld x5 rL) (ix2 r c)
      = dsB false x0 x1 x2 x3 x4 x5 r c := by
  rw [pay33_apply, p_off, dsB, ld_rL, Finset.sum_congr rfl fun e _ => congrArg₂ (· * ·) (ld_rV x2 r e) (ld_rO x3 c e)]

/-- A sum over a block whose first half vanishes is the sum over the second half. -/
theorem sum_hi (f : Fin 1024 → EReal) (h : ∀ c : Fin 512, f (lo c) = 0) : ∑ c : Fin 512, f (hi c) = ∑ c, f c := by
  refine Eq.symm ((Fin.sum_univ_add (a := 512) (b := 512) f).trans ?_)
  refine (congrArg (· + _) (Finset.sum_eq_zero fun c _ => h c)).trans ?_
  exact zero_add _
/-- A sum over a block is the sum over its halves. -/
theorem sum_halves (f : Fin 1024 → EReal) : (∑ c : Fin 512, f (lo c)) + ∑ c : Fin 512, f (hi c) = ∑ c, f c :=
  (Fin.sum_univ_add (a := 512) (b := 512) f).symm
/-- A sum over a block whose second half vanishes is the sum over the first half. -/
theorem sum_lo (f : Fin 1024 → EReal) (h : ∀ c : Fin 512, f (hi c) = 0) : ∑ c : Fin 512, f (lo c) = ∑ c, f c := by
  rw [← sum_halves, Finset.sum_eq_zero (fun c _ => h c) (f := fun c => f (hi c)), add_zero]

/-! ### The keys' and the values' gradients after a point -/

/-- Every position is in one of the halves. -/
theorem half_cases (r : Fin 1024) : (∃ s : Fin 512, r = lo s) ∨ ∃ s : Fin 512, r = hi s := by
  rcases Nat.lt_or_ge r.val 512 with h | h
  · exact Or.inl ⟨⟨r.val, h⟩, rfl⟩
  · exact Or.inr ⟨⟨r.val - 512, by omega⟩, Fin.ext (by show r.val = 512 + (r.val - 512); omega)⟩

/-- On the diagonal the keys' gradient is the block's. -/
theorem dkDiag_apply (r : Fin 1024) (j : Fin 256) :
    sc0.view.read (Elt Ideal) (dkDiag x0 x1 x2 x3 x4 x5) (ix2 r j) = ∑ c : Fin 1024, dsB true x0 x1 x2 x3 x4 x5 r c * x0 (ix3 0 c j) := by
  unfold dkDiag
  rcases half_cases r with ⟨s, rfl⟩ | ⟨s, rfl⟩
  · refine (View.read_writes_cons_miss_of_axis _ _ _ _ _ 0 512 512 rfl rfl rfl (Or.inl s.isLt)).trans ?_
    refine (View.read_writes_cons_hit_of_coords _ _ _ _ _ (ix2 s j) _ (fun a => by fin_cases a <;> simp [Rect.unit])).trans ?_
    rw [pay21_apply]
    exact Finset.sum_congr rfl fun c _ => congrArg₂ (· * ·) (ds_lo x0 x1 x2 x3 x4 x5 s c) (ld_rQ x0 c j)
  · refine (View.read_writes_cons_hit_of_coords _ _ _ _ _ (ix2 s j) _ (fun a => by fin_cases a <;> simp [Rect.unit])).trans ?_
    rw [pay5_apply]
    refine (Finset.sum_congr rfl fun c _ => congrArg₂ (· * ·) (ds_hi x0 x1 x2 x3 x4 x5 s c) (ld_rQ1 x0 c j)).trans ?_
    exact sum_hi (fun c => dsB true x0 x1 x2 x3 x4 x5 (hi s) c * x0 (ix3 0 c j)) fun c => by
      show dsB true x0 x1 x2 x3 x4 x5 (hi s) (lo c) * _ = 0
      rw [dsB_above x0 x1 x2 x3 x4 x5 (hi s) (lo c) (by show c.val < 512 + s.val; omega), zero_mul]

/-- On the diagonal the values' gradient is the block's. -/
theorem dvDiag_apply (r : Fin 1024) (j : Fin 128) :
    sc1.view.read (Elt Ideal) (dvDiag x0 x1 x3 x4) (ix2 r j) = ∑ c : Fin 1024, pB true x0 x1 x4 r c * x3 (ix2 c j) := by
  unfold dvDiag
  rcases half_cases r with ⟨s, rfl⟩ | ⟨s, rfl⟩
  · refine (View.read_writes_cons_miss_of_axis _ _ _ _ _ 0 512 512 rfl rfl rfl (Or.inl s.isLt)).trans ?_
    refine (View.read_writes_cons_hit_of_coords _ _ _ _ _ (ix2 s j) _ (fun a => by fin_cases a <;> simp [Rect.unit])).trans ?_
    rw [pay22_apply]
    exact Finset.sum_congr rfl fun c _ => congrArg₂ (· * ·) (p_lo x0 x1 x4 s c) (ld_rO x3 c j)
  · refine (View.read_writes_cons_hit_of_coords _ _ _ _ _ (ix2 s j) _ (fun a => by fin_cases a <;> simp [Rect.unit])).trans ?_
    rw [pay6_apply]
    refine (Finset.sum_congr rfl fun c _ => congrArg₂ (· * ·) (p_hi x0 x1 x4 s c) (ld_rO1 x3 c j)).trans ?_
    exact sum_hi (fun c => pB true x0 x1 x4 (hi s) c * x3 (ix2 c j)) fun c => by
      show pB true x0 x1 x4 (hi s) (lo c) * _ = 0
      rw [pB_above x0 x1 x4 (hi s) (lo c) (by show c.val < 512 + s.val; omega), zero_mul]

/-- Below the diagonal the keys' gradient grows by the block's. -/
theorem dkOff_apply (a : sc0.view.ty.Contents (Elt Ideal)) (r : Fin 1024) (j : Fin 256) :
    sc0.view.read (Elt Ideal) (dkOff x0 x1 x2 x3 x4 x5 a) (ix2 r j)
      = sc0.view.read (Elt Ideal) a (ix2 r j) + ∑ c : Fin 1024, dsB false x0 x1 x2 x3 x4 x5 r c * x0 (ix3 0 c j) := by
  unfold dkOff
  refine (View.read_writes_cons_hit_of_coords _ _ _ _ _ (ix2 r j) _ (fun a => by fin_cases a <;> simp [Rect.unit])).trans ?_
  rw [pay8_apply]
  refine congrArg₂ (fun u v : EReal => u + v) ?_ (Finset.sum_congr rfl fun c _ => congrArg₂ (· * ·) (ds_off x0 x1 x2 x3 x4 x5 r c) (ld_rQ x0 c j))
  exact congrArg (sc0.view.read (Elt Ideal) a) (funext fun a => by fin_cases a <;> exact Fin.ext (by simp [LoadRect.idx, Rect.unit]))

/-- Below the diagonal the values' gradient grows by the block's. -/
theorem dvOff_apply (a : sc1.view.ty.Contents (Elt Ideal)) (r : Fin 1024) (j : Fin 128) :
    sc1.view.read (Elt Ideal) (dvOff x0 x1 x3 x4 a) (ix2 r j)
      = sc1.view.read (Elt Ideal) a (ix2 r j) + ∑ c : Fin 1024, pB false x0 x1 x4 r c * x3 (ix2 c j) := by
  unfold dvOff
  refine (View.read_writes_cons_hit_of_coords _ _ _ _ _ (ix2 r j) _ (fun a => by fin_cases a <;> simp [Rect.unit])).trans ?_
  rw [pay9_apply]
  refine congrArg₂ (fun u v : EReal => u + v) ?_ (Finset.sum_congr rfl fun c _ => congrArg₂ (· * ·) (p_off x0 x1 x4 r c) (ld_rO x3 c j))
  exact congrArg (sc1.view.read (Elt Ideal) a) (funext fun a => by fin_cases a <;> exact Fin.ext (by simp [LoadRect.idx, Rect.unit]))

/-! ### The queries' gradient after a point -/

/-- The position of a block's query in the sequence. -/
abbrev gi (a : Fin 8) (c : Fin 1024) : Fin 8192 := ⟨1024 * a.val + c.val, by omega⟩

variable (v1 v3 : BitVec 32) (w : k0_chk1 v1 v3) (a : Fin 8)

/-- The first store of the diagonal, at one of its rows. -/
theorem piece1_hit (h : k0_cond2 v1 v3 = 1#1) (h2 : k0_off2 v1 = ![1024 * a.val, 0]) (f : sc2.view.ty.Contents (Elt Ideal)) (L : List (View.Piece (Elt Ideal) S8192x256 .f32))
    (c : Fin 1024) (j : Fin 256) :
    sc2.view.read (Elt Ideal) (sc2.view.writes (Elt Ideal) f (dqPiece1 x0 x1 x2 x3 x4 x5 v1 v3 w h (sc2.view.writes (Elt Ideal) f L) :: L)) (ix2 (gi a c) j)
      = sc2.view.read (Elt Ideal) (sc2.view.writes (Elt Ideal) f L) (ix2 (gi a c) j)
        + ∑ r : Fin 512, dsB true x0 x1 x2 x3 x4 x5 (lo r) c * x1 (ix3 0 (lo r) j) := by
  unfold dqPiece1
  refine (View.read_writes_cons_hit_of_coords _ _ _ _ _ (ix2 c j) _ (fun b => by
    fin_cases b
    · show 1024 * a.val + c.val = k0_off2 v1 0 + 1 * c.val
      rw [h2]; simp
    · show j.val = k0_off2 v1 1 + 1 * j.val
      rw [h2]; simp)).trans ?_
  refine (pay20_apply _ _ _ c j).trans ?_
  refine congrArg₂ (fun u v : EReal => u + v) ?_ (Finset.sum_congr rfl fun r _ => congrArg₂ (· * ·) (ds_lo x0 x1 x2 x3 x4 x5 r c) (ld_rQ0 x1 r j))
  refine congrArg (sc2.view.read (Elt Ideal) _) (funext fun b => ?_)
  fin_cases b
  · refine Fin.ext ?_
    show k0_off2 v1 0 + 1 * c.val = 1024 * a.val + c.val
    rw [h2]; simp
  · refine Fin.ext ?_
    show k0_off2 v1 1 + 1 * j.val = j.val
    rw [h2]; simp

/-- On the diagonal, a row of the block. -/
theorem dqDiag_hit (h : k0_cond2 v1 v3 = 1#1) (h2 : k0_off2 v1 = ![1024 * a.val, 0]) (h3 : k0_off3 v1 = ![1024 * a.val + 512, 0])
    (f : sc2.view.ty.Contents (Elt Ideal)) (L : List (View.Piece (Elt Ideal) S8192x256 .f32)) (c : Fin 1024) (j : Fin 256) :
    sc2.view.read (Elt Ideal) (dqDiag x0 x1 x2 x3 x4 x5 v1 v3 w h f L) (ix2 (gi a c) j)
      = sc2.view.read (Elt Ideal) (sc2.view.writes (Elt Ideal) f L) (ix2 (gi a c) j)
        + ∑ r : Fin 1024, dsB true x0 x1 x2 x3 x4 x5 r c * x1 (ix3 0 r j) := by
  unfold dqDiag
  rcases half_cases c with ⟨s, rfl⟩ | ⟨s, rfl⟩
  · refine (View.read_writes_cons_miss_of_axis _ _ (dqPiece2 x0 x1 x2 x3 x4 x5 v1 v3 w h _) _ _ 0 (k0_off3 v1 0) 512 rfl rfl rfl (Or.inl ?_)).trans ?_
    · rw [h3]; show 1024 * a.val + s.val < 1024 * a.val + 512; omega
    refine (piece1_hit x0 x1 x2 x3 x4 x5 v1 v3 w a h h2 f L (lo s) j).trans ?_
    refine congrArg _ (sum_lo (fun r => dsB true x0 x1 x2 x3 x4 x5 r (lo s) * x1 (ix3 0 r j)) fun r => ?_)
    show dsB true x0 x1 x2 x3 x4 x5 (hi r) (lo s) * _ = 0
    rw [dsB_above x0 x1 x2 x3 x4 x5 (hi r) (lo s) (by show s.val < 512 + r.val; omega), zero_mul]
  · unfold dqPiece2
    refine (View.read_writes_cons_hit_of_coords _ _ _ _ _ (ix2 s j) _ (fun b => by
      fin_cases b
      · show 1024 * a.val + (512 + s.val) = k0_off3 v1 0 + 1 * s.val
        rw [h3]; simp; omega
      · show j.val = k0_off3 v1 1 + 1 * j.val
        rw [h3]; simp)).trans ?_
    refine (pay4_apply _ _ _ _ _ _ _ s j).trans ?_
    refine (congrArg₂ (fun u v : EReal => u + v) ((congrArg (sc2.view.read (Elt Ideal) _) (funext fun b => ?_)).trans
      (piece1_hit x0 x1 x2 x3 x4 x5 v1 v3 w a h h2 f L (hi s) j))
      (Finset.sum_congr rfl fun r _ => congrArg₂ (· * ·) (ds_hi x0 x1 x2 x3 x4 x5 r s) (ld_rQ1 x1 r j))).trans ?_
    · fin_cases b
      · refine Fin.ext ?_
        show k0_off3 v1 0 + 1 * s.val = 1024 * a.val + (512 + s.val)
        rw [h3]; simp; omega
      · refine Fin.ext ?_
        show k0_off3 v1 1 + 1 * j.val = j.val
        rw [h3]; simp
    · refine (add_assoc _ _ _).trans (congrArg _ ?_)
      exact sum_halves fun r => dsB true x0 x1 x2 x3 x4 x5 r (hi s) * x1 (ix3 0 r j)

/-- On the diagonal, a row of another block. -/
theorem dqDiag_miss (h : k0_cond2 v1 v3 = 1#1) (h2 : k0_off2 v1 = ![1024 * a.val, 0]) (h3 : k0_off3 v1 = ![1024 * a.val + 512, 0])
    (f : sc2.view.ty.Contents (Elt Ideal)) (L : List (View.Piece (Elt Ideal) S8192x256 .f32)) (b : Fin 8) (hb : b ≠ a) (c : Fin 1024) (j : Fin 256) :
    sc2.view.read (Elt Ideal) (dqDiag x0 x1 x2 x3 x4 x5 v1 v3 w h f L) (ix2 (gi b c) j)
      = sc2.view.read (Elt Ideal) (sc2.view.writes (Elt Ideal) f L) (ix2 (gi b c) j) := by
  have hb' : b.val ≠ a.val := fun e => hb (Fin.ext e)
  unfold dqDiag
  refine (View.read_writes_cons_miss_of_axis _ _ (dqPiece2 x0 x1 x2 x3 x4 x5 v1 v3 w h _) _ _ 0 (k0_off3 v1 0) 512 rfl rfl rfl ?_).trans ?_
  · rw [h3]; show 1024 * b.val + c.val < 1024 * a.val + 512 ∨ 1024 * a.val + 512 + 512 ≤ 1024 * b.val + c.val; omega
  refine View.read_writes_cons_miss_of_axis _ _ (dqPiece1 x0 x1 x2 x3 x4 x5 v1 v3 w h _) _ _ 0 (k0_off2 v1 0) 1024 rfl rfl rfl ?_
  rw [h2]; show 1024 * b.val + c.val < 1024 * a.val ∨ 1024 * a.val + 1024 ≤ 1024 * b.val + c.val; omega

/-- Below the diagonal, a row of the block. -/
theorem dqOff_hit (h : k0_cond3 v1 v3 = 1#1) (h4 : k0_off4 v1 = ![1024 * a.val, 0]) (f : sc2.view.ty.Contents (Elt Ideal)) (c : Fin 1024) (j : Fin 256) :
    sc2.view.read (Elt Ideal) (dqOff x0 x1 x2 x3 x4 x5 v1 v3 w h f) (ix2 (gi a c) j)
      = sc2.view.read (Elt Ideal) f (ix2 (gi a c) j) + ∑ r : Fin 1024, dsB false x0 x1 x2 x3 x4 x5 r c * x1 (ix3 0 r j) := by
  unfold dqOff
  refine (View.read_writes_cons_hit_of_coords _ _ _ _ _ (ix2 c j) _ (fun b => by
    fin_cases b
    · show 1024 * a.val + c.val = k0_off4 v1 0 + 1 * c.val
      rw [h4]; simp
    · show j.val = k0_off4 v1 1 + 1 * j.val
      rw [h4]; simp)).trans ?_
  refine (pay7_apply _ _ _ _ _ _ _ c j).trans ?_
  refine congrArg₂ (fun u v : EReal => u + v) ?_ (Finset.sum_congr rfl fun r _ => congrArg₂ (· * ·) (ds_off x0 x1 x2 x3 x4 x5 r c) (ld_rQ x1 r j))
  refine congrArg (sc2.view.read (Elt Ideal) _) (funext fun b => ?_)
  fin_cases b
  · refine Fin.ext ?_
    show k0_off4 v1 0 + 1 * c.val = 1024 * a.val + c.val
    rw [h4]; simp
  · refine Fin.ext ?_
    show k0_off4 v1 1 + 1 * j.val = j.val
    rw [h4]; simp

/-- Below the diagonal, a row of another block. -/
theorem dqOff_miss (h : k0_cond3 v1 v3 = 1#1) (h4 : k0_off4 v1 = ![1024 * a.val, 0]) (f : sc2.view.ty.Contents (Elt Ideal)) (b : Fin 8) (hb : b ≠ a) (c : Fin 1024) (j : Fin 256) :
    sc2.view.read (Elt Ideal) (dqOff x0 x1 x2 x3 x4 x5 v1 v3 w h f) (ix2 (gi b c) j) = sc2.view.read (Elt Ideal) f (ix2 (gi b c) j) := by
  have hb' : b.val ≠ a.val := fun e => hb (Fin.ext e)
  unfold dqOff
  refine View.read_writes_cons_miss_of_axis _ _ ⟨Rect.unit (s := S8192x256) (k0_off4 v1) S1024x256.size _, _⟩ [] _ 0 (k0_off4 v1 0) 1024 rfl rfl rfl ?_
  rw [h4]; show 1024 * b.val + c.val < 1024 * a.val ∨ 1024 * a.val + 1024 ≤ 1024 * b.val + c.val; omega

/-- A head begins with no gradient of its queries. -/
theorem fresh_zero (f : sc2.view.ty.Contents (Elt Ideal)) (R : Fin 8192) (j : Fin 256) :
    sc2.view.read (Elt Ideal) (sc2.view.writes (Elt Ideal) f [⟨rG, k0_pay1 (F := Ideal)⟩]) (ix2 R j) = 0 := by
  refine (View.read_writes_cons_hit_of_coords _ _ _ _ _ (ix2 R j) _ (fun a => by fin_cases a <;> simp [Rect.unit])).trans ?_
  exact pay1_apply R j

end forms

end Cert.Proof.AttnStep

end
-- ==== Proof.AttnBlocks.lean ====
module

public import proofs.«01_k».proof.Proof.AttnPipe
public import proofs.«01_k».proof.Proof.AttnStep
public import Idealize.ShloMosaic.Lib.Pipeline.ValueKit

@[expose] public section

set_option maxRecDepth 16384
set_option Elab.async false

noncomputable section

namespace Cert.Proof.AttnBlocks

open Cert.Kernel6Ideal Cert.Kernel6Ideal.Gen Cert.Proof.AttnRun Cert.Proof.AttnForms Cert.Proof.AttnStep
open Idealize.ShloMosaic Idealize.ShloMosaic.TcCoe Idealize.SL.Sem

/-! ## The points of a head -/

/-- The block of queries of a head's point. -/
abbrev qb (p : Fin 36) : ℕ := (lit0 p).toNat
/-- The block of keys of a head's point. -/
abbrev kb (p : Fin 36) : ℕ := (lit1 p).toNat

/-- No block of keys lies after its queries. -/
theorem kb_le : ∀ p : Fin 36, kb p ≤ qb p ∧ qb p < 8 := by decide +kernel
/-- The first point is the first block of both. -/
theorem first_point : qb 0 = 0 ∧ kb 0 = 0 := by decide +kernel
/-- The next point takes the next block of queries, or begins the next column. -/
theorem next_point : ∀ p q : Fin 36, q.val = p.val + 1 →
    (qb p < 7 ∧ qb q = qb p + 1 ∧ kb q = kb p) ∨ (qb p = 7 ∧ kb q = kb p + 1 ∧ qb q = kb q) := by decide +kernel
/-- The body's way on the diagonal. -/
theorem diag_iff : ∀ p : Fin 36, k0_cond2 (lit0 p) (lit1 p) = 1#1 ↔ qb p = kb p := by decide +kernel
/-- The body's way below the diagonal. -/
theorem off_iff : ∀ p : Fin 36, k0_cond3 (lit0 p) (lit1 p) = 1#1 ↔ qb p ≠ kb p := by decide +kernel
/-- A column ends with the last block of queries. -/
theorem end_iff : ∀ p : Fin 36, k0_cond4 (lit0 p) = 1#1 ↔ qb p = 7 := by decide +kernel
/-- Where a point's rows of the queries' gradient lie. -/
theorem offs : ∀ p : Fin 36, k0_off2 (lit0 p) = ![1024 * qb p, 0] ∧ k0_off3 (lit0 p) = ![1024 * qb p + 512, 0]
    ∧ k0_off4 (lit0 p) = ![1024 * qb p, 0] := by decide +kernel
/-- A head's first and last point. -/
theorem ends : ∀ i : grid0.Coords, (First i ↔ (i 1).val = 0) ∧ (k0_cond5 i = 1#1 ↔ (i 1).val = 35) := by unfold First; decide +kernel
/-- A point's head and place in it. -/
theorem coords_val : ∀ t : Fin grid0.N, (grid0.coords t 0).val = t.val / 36 ∧ (grid0.coords t 1).val = t.val % 36 := by decide +kernel
/-- The last column's last point. -/
theorem last_point : ∀ p : Fin 36, p = 35 → qb p = 7 ∧ kb p = 7 := by decide +kernel

/-- The blocks of the windows at each point. -/
theorem idx : ∀ t : Fin (cfgA (F := Ideal)).N,
    ((cfgA (F := Ideal)).win 0).index t = ![(grid0.coords t 0).val, qb (grid0.coords t 1), 0]
    ∧ ((cfgA (F := Ideal)).win 1).index t = ![(grid0.coords t 0).val, kb (grid0.coords t 1), 0]
    ∧ ((cfgA (F := Ideal)).win 2).index t = ![(grid0.coords t 0).val, kb (grid0.coords t 1), 0]
    ∧ ((cfgA (F := Ideal)).win 3).index t = ![qb (grid0.coords t 1), (grid0.coords t 0).val]
    ∧ ((cfgA (F := Ideal)).win 4).index t = ![(grid0.coords t 0).val, 0, qb (grid0.coords t 1)]
    ∧ ((cfgA (F := Ideal)).win 5).index t = ![(grid0.coords t 0).val, 0, qb (grid0.coords t 1)]
    ∧ ((cfgA (F := Ideal)).win 6).index t = ![(grid0.coords t 0).val, 0, 0]
    ∧ ((cfgA (F := Ideal)).win 7).index t = ![(grid0.coords t 0).val, kb (grid0.coords t 1), 0]
    ∧ ((cfgA (F := Ideal)).win 8).index t = ![(grid0.coords t 0).val, kb (grid0.coords t 1), 0] :=
  of_decide_eq_true (by sl_kernel_rfl)

/-! ## The blocks' entries -/

variable (m : (ℓ : Loc nD τ sig) → Buf (Elt Ideal) ℓ) (c : Dev nD)

/-- The head of a point. -/
abbrev hd (t : Fin (cfgA (F := Ideal)).N) : Fin 8 := grid0.coords t 0
/-- The block of queries of a point. -/
abbrev qB (t : Fin (cfgA (F := Ideal)).N) : Fin 8 := ⟨qb (grid0.coords t 1), (kb_le _).2⟩
/-- The block of keys of a point. -/
abbrev kB (t : Fin (cfgA (F := Ideal)).N) : Fin 8 := ⟨kb (grid0.coords t 1), lt_of_le_of_lt (kb_le _).1 (kb_le _).2⟩

/-- A point's queries. -/
theorem blk0 (t : Fin (cfgA (F := Ideal)).N) (r : Fin 1024) (d : Fin 256) :
    (iblk m c 0 t : Vec Ideal S1x1024x256 .bf16) (ix3 0 r d) = V m c main_v38 (ix3 (hd t) (gi (qB t) r) d) := by
  refine congrArg (V m c main_v38) (funext fun a => ?_)
  have e := (idx t).1
  fin_cases a
  · refine Fin.ext ?_
    show ((cfgA (F := Ideal)).win 0).index t 0 * 1 + 1 * 0 = (grid0.coords t 0).val
    rw [e]; simp
  · refine Fin.ext ?_
    show ((cfgA (F := Ideal)).win 0).index t 1 * 1024 + 1 * r.val = 1024 * qb (grid0.coords t 1) + r.val
    rw [e]; show qb (grid0.coords t 1) * 1024 + 1 * r.val = _; omega
  · refine Fin.ext ?_
    show ((cfgA (F := Ideal)).win 0).index t 2 * 256 + 1 * d.val = d.val
    rw [e]; simp

/-- A point's keys. -/
theorem blk1 (t : Fin (cfgA (F := Ideal)).N) (r : Fin 1024) (d : Fin 256) :
    (iblk m c 1 t : Vec Ideal S1x1024x256 .bf16) (ix3 0 r d) = V m c main_v41 (ix3 (hd t) (gi (kB t) r) d) := by
  refine congrArg (V m c main_v41) (funext fun a => ?_)
  have e := (idx t).2.1
  fin_cases a
  · refine Fin.ext ?_
    show ((cfgA (F := Ideal)).win 1).index t 0 * 1 + 1 * 0 = (grid0.coords t 0).val
    rw [e]; simp
  · refine Fin.ext ?_
    show ((cfgA (F := Ideal)).win 1).index t 1 * 1024 + 1 * r.val = 1024 * kb (grid0.coords t 1) + r.val
    rw [e]; show kb (grid0.coords t 1) * 1024 + 1 * r.val = _; omega
  · refine Fin.ext ?_
    show ((cfgA (F := Ideal)).win 1).index t 2 * 256 + 1 * d.val = d.val
    rw [e]; simp

/-- A point's values. -/
theorem blk2 (t : Fin (cfgA (F := Ideal)).N) (r : Fin 1024) (d : Fin 128) :
    (iblk m c 2 t : Vec Ideal S1x1024x128 .bf16) (ix3 0 r d) = V m c main_v43 (ix3 (hd t) (gi (kB t) r) d) := by
  refine congrArg (V m c main_v43) (funext fun a => ?_)
  have e := (idx t).2.2.1
  fin_cases a
  · refine Fin.ext ?_
    show ((cfgA (F := Ideal)).win 2).index t 0 * 1 + 1 * 0 = (grid0.coords t 0).val
    rw [e]; simp
  · refine Fin.ext ?_
    show ((cfgA (F := Ideal)).win 2).index t 1 * 1024 + 1 * r.val = 1024 * kb (grid0.coords t 1) + r.val
    rw [e]; show kb (grid0.coords t 1) * 1024 + 1 * r.val = _; omega
  · refine Fin.ext ?_
    show ((cfgA (F := Ideal)).win 2).index t 2 * 128 + 1 * d.val = d.val
    rw [e]; simp

/-- The column of a head's cotangent. -/
abbrev hcol (h : Fin 8) (e : Fin 128) : Fin 1024 := ⟨128 * h.val + e.val, by omega⟩

/-- A point's cotangent. -/
theorem blk3 (t : Fin (cfgA (F := Ideal)).N) (r : Fin 1024) (d : Fin 128) :
    (iblk m c 3 t : Vec Ideal S1024x128 .bf16) (ix2 r d) = V m c main_v45 (ix2 (gi (qB t) r) (hcol (hd t) d)) := by
  refine congrArg (V m c main_v45) (funext fun a => ?_)
  have e := (idx t).2.2.2.1
  fin_cases a
  · refine Fin.ext ?_
    show ((cfgA (F := Ideal)).win 3).index t 0 * 1024 + 1 * r.val = 1024 * qb (grid0.coords t 1) + r.val
    rw [e]; show qb (grid0.coords t 1) * 1024 + 1 * r.val = _; omega
  · refine Fin.ext ?_
    show ((cfgA (F := Ideal)).win 3).index t 1 * 128 + 1 * d.val = 128 * (grid0.coords t 0).val + d.val
    rw [e]; show (grid0.coords t 0).val * 128 + 1 * d.val = _; omega

/-- A point's row log-sums. -/
theorem blk4 (t : Fin (cfgA (F := Ideal)).N) (r : Fin 1024) :
    (iblk m c 4 t : Vec Ideal S1x1x1024 .f32) (ix3 0 0 r) = V m c main_v27 (ix3 (hd t) 0 (gi (qB t) r)) := by
  refine congrArg (V m c main_v27) (funext fun a => ?_)
  have e := (idx t).2.2.2.2.1
  fin_cases a
  · refine Fin.ext ?_
    show ((cfgA (F := Ideal)).win 4).index t 0 * 1 + 1 * 0 = (grid0.coords t 0).val
    rw [e]; simp
  · refine Fin.ext ?_
    show ((cfgA (F := Ideal)).win 4).index t 1 * 1 + 1 * 0 = 0
    rw [e]; simp
  · refine Fin.ext ?_
    show ((cfgA (F := Ideal)).win 4).index t 2 * 1024 + 1 * r.val = 1024 * qb (grid0.coords t 1) + r.val
    rw [e]; show qb (grid0.coords t 1) * 1024 + 1 * r.val = _; omega

/-- A point's row sums. -/
theorem blk5 (t : Fin (cfgA (F := Ideal)).N) (r : Fin 1024) :
    (iblk m c 5 t : Vec Ideal S1x1x1024 .f32) (ix3 0 0 r) = V m c main_v31 (ix3 (hd t) 0 (gi (qB t) r)) := by
  refine congrArg (V m c main_v31) (funext fun a => ?_)
  have e := (idx t).2.2.2.2.2.1
  fin_cases a
  · refine Fin.ext ?_
    show ((cfgA (F := Ideal)).win 5).index t 0 * 1 + 1 * 0 = (grid0.coords t 0).val
    rw [e]; simp
  · refine Fin.ext ?_
    show ((cfgA (F := Ideal)).win 5).index t 1 * 1 + 1 * 0 = 0
    rw [e]; simp
  · refine Fin.ext ?_
    show ((cfgA (F := Ideal)).win 5).index t 2 * 1024 + 1 * r.val = 1024 * qb (grid0.coords t 1) + r.val
    rw [e]; show qb (grid0.coords t 1) * 1024 + 1 * r.val = _; omega

end Cert.Proof.AttnBlocks

end
-- ==== Proof.AttnGrads.lean ====
module

public import proofs.«01_k».proof.Proof.AttnBlocks
public import proofs.«01_k».proof.Proof.AttnStep
public import Idealize.ShloMosaic.Lib.Pipeline.ValueKit

@[expose] public section

set_option maxRecDepth 16384
set_option Elab.async false

noncomputable section

namespace Cert.Proof.AttnGrads

open Cert.Kernel6Ideal Cert.Kernel6Ideal.Gen Cert.Proof.AttnRun Cert.Proof.AttnForms Cert.Proof.AttnStep Cert.Proof.AttnBlocks
open Idealize.ShloMosaic Idealize.ShloMosaic.TcCoe Idealize.SL.Sem

/-! ## What the whole arrays give -/

section arrays

variable (qs kp : FVec Ideal S8x8192x256 .bf16) (vp : FVec Ideal S8x8192x128 .bf16) (g : FVec Ideal S8192x1024 .bf16) (lse dlt : FVec Ideal S8x1x8192 .f32)

/-- The probability of a key for a query; later keys have none. -/
def pG (h : Fin 8) (q k : Fin 8192) : EReal :=
  Ideal.exp2 ((if k.val ≤ q.val then ∑ d : Fin 256, kp (ix3 h k d) * qs (ix3 h q d) else ⊥) - lse (ix3 h 0 q))
/-- The gradient of a score. -/
def dsG (h : Fin 8) (q k : Fin 8192) : EReal :=
  pG qs kp lse h q k * ((∑ e : Fin 128, vp (ix3 h k e) * g (ix2 q (hcol h e))) - dlt (ix3 h 0 q))

/-- A later key has no probability. -/
theorem pG_above (h : Fin 8) (q k : Fin 8192) (hk : q.val < k.val) : pG qs kp lse h q k = 0 := by
  rw [pG, if_neg (by omega), EReal.bot_sub, Ideal.exp2_bot]
/-- A later key has no gradient. -/
theorem dsG_above (h : Fin 8) (q k : Fin 8192) (hk : q.val < k.val) : dsG qs kp vp g lse dlt h q k = 0 := by
  rw [dsG, pG_above qs kp lse h q k hk, zero_mul]

/-- What a block of queries gives of the keys' gradient. -/
def DK (h b : Fin 8) (k : Fin 8192) (d : Fin 256) : EReal := ∑ q : Fin 1024, dsG qs kp vp g lse dlt h (gi b q) k * qs (ix3 h (gi b q) d)
/-- What a block of queries gives of the values' gradient. -/
def DV (h b : Fin 8) (k : Fin 8192) (e : Fin 128) : EReal := ∑ q : Fin 1024, pG qs kp lse h (gi b q) k * g (ix2 (gi b q) (hcol h e))
/-- What a block of keys gives of the queries' gradient. -/
def DQ (h j : Fin 8) (q : Fin 8192) (d : Fin 256) : EReal := ∑ r : Fin 1024, dsG qs kp vp g lse dlt h q (gi j r) * kp (ix3 h (gi j r) d)

/-- An earlier block lies before a later one. -/
theorem gi_lt (b j : Fin 8) (hb : b < j) (q r : Fin 1024) : (gi b q).val < (gi j r).val := by
  show 1024 * b.val + q.val < 1024 * j.val + r.val
  have : b.val < j.val := hb
  omega
/-- A block of queries before the key gives nothing. -/
theorem DK_above (h b j : Fin 8) (hb : b < j) (r : Fin 1024) (d : Fin 256) : DK qs kp vp g lse dlt h b (gi j r) d = 0 :=
  Finset.sum_eq_zero fun q _ => by rw [dsG_above qs kp vp g lse dlt h _ _ (gi_lt b j hb q r), zero_mul]
/-- A block of queries before the key gives nothing. -/
theorem DV_above (h b j : Fin 8) (hb : b < j) (r : Fin 1024) (d : Fin 128) : DV qs kp g lse h b (gi j r) d = 0 :=
  Finset.sum_eq_zero fun q _ => by rw [pG_above qs kp lse h _ _ (gi_lt b j hb q r), zero_mul]
/-- A block of keys after the query gives nothing. -/
theorem DQ_above (h b j : Fin 8) (hb : b < j) (q : Fin 1024) (d : Fin 256) : DQ qs kp vp g lse dlt h j (gi b q) d = 0 :=
  Finset.sum_eq_zero fun r _ => by rw [dsG_above qs kp vp g lse dlt h _ _ (gi_lt b j hb q r), zero_mul]

/-- Products of equal factors. -/
theorem mul_eq {a b u v : EReal} (h : a = u) (k : b = v) : a * b = u * v := by rw [h, k]

section block

variable (x0 x1 : Vec Ideal S1x1024x256 .bf16) (x2 : Vec Ideal S1x1024x128 .bf16) (x3 : Vec Ideal S1024x128 .bf16) (x4 x5 : Vec Ideal S1x1x1024 .f32)
  (h a j : Fin 8) (haj : j ≤ a) (b : Bool) (hb : b = true ↔ a = j)
  (e0 : ∀ r d, x0 (ix3 0 r d) = qs (ix3 h (gi a r) d)) (e1 : ∀ r d, x1 (ix3 0 r d) = kp (ix3 h (gi j r) d)) (e2 : ∀ r d, x2 (ix3 0 r d) = vp (ix3 h (gi j r) d))
  (e3 : ∀ r d, x3 (ix2 r d) = g (ix2 (gi a r) (hcol h d))) (e4 : ∀ r, x4 (ix3 0 0 r) = lse (ix3 h 0 (gi a r))) (e5 : ∀ r, x5 (ix3 0 0 r) = dlt (ix3 h 0 (gi a r)))

include haj hb e0 e1 e4 in
/-- A block's probabilities. -/
theorem pB_eq (r q : Fin 1024) : pB b x0 x1 x4 r q = pG qs kp lse h (gi a q) (gi j r) := by
  have hiff : (b = false ∨ r.val ≤ q.val) ↔ (gi j r).val ≤ (gi a q).val := by
    show _ ↔ 1024 * j.val + r.val ≤ 1024 * a.val + q.val
    have hle : j.val ≤ a.val := haj
    cases b
    · have : j.val ≠ a.val := fun e => by simpa using hb.2 (Fin.ext e.symm)
      simp; omega
    · have : a.val = j.val := congrArg Fin.val (hb.1 rfl)
      simp; omega
  unfold pB pG
  simp only [hiff, e4, e0, e1]

include haj hb e0 e1 e2 e3 e4 e5 in
/-- A block's gradients. -/
theorem dsB_eq (r q : Fin 1024) : dsB b x0 x1 x2 x3 x4 x5 r q = dsG qs kp vp g lse dlt h (gi a q) (gi j r) := by
  unfold dsB dsG
  rw [pB_eq qs kp lse x0 x1 x4 h a j haj b hb e0 e1 e4]
  simp only [e2, e3, e5]

include haj hb e0 e1 e2 e3 e4 e5 in
/-- A point's block of the keys' gradient. -/
theorem dk_blk (r : Fin 1024) (d : Fin 256) : ∑ q : Fin 1024, dsB b x0 x1 x2 x3 x4 x5 r q * x0 (ix3 0 q d) = DK qs kp vp g lse dlt h a (gi j r) d :=
  Finset.sum_congr rfl fun q _ => mul_eq (dsB_eq qs kp vp g lse dlt x0 x1 x2 x3 x4 x5 h a j haj b hb e0 e1 e2 e3 e4 e5 r q) (e0 q d)
include haj hb e0 e1 e3 e4 in
/-- A point's block of the values' gradient. -/
theorem dv_blk (r : Fin 1024) (e : Fin 128) : ∑ q : Fin 1024, pB b x0 x1 x4 r q * x3 (ix2 q e) = DV qs kp g lse h a (gi j r) e :=
  Finset.sum_congr rfl fun q _ => mul_eq (pB_eq qs kp lse x0 x1 x4 h a j haj b hb e0 e1 e4 r q) (e3 q e)
include haj hb e0 e1 e2 e3 e4 e5 in
/-- A point's block of the queries' gradient. -/
theorem dq_blk (q : Fin 1024) (d : Fin 256) : ∑ r : Fin 1024, dsB b x0 x1 x2 x3 x4 x5 r q * x1 (ix3 0 r d) = DQ qs kp vp g lse dlt h j (gi a q) d :=
  Finset.sum_congr rfl fun r _ => mul_eq (dsB_eq qs kp vp g lse dlt x0 x1 x2 x3 x4 x5 h a j haj b hb e0 e1 e2 e3 e4 e5 r q) (e1 r d)

end block

/-- A sum over the blocks before one more. -/
theorem sum_lt_succ (f : Fin 8 → EReal) (n : Fin 8) :
    (∑ b : Fin 8, if b.val < n.val + 1 then f b else 0) = (∑ b : Fin 8, if b.val < n.val then f b else 0) + f n := by
  fin_cases n <;> simp [Fin.sum_univ_eight]

/-- A sum over the blocks before one more, where it alone gives something. -/
theorem sum_first (f : Fin 8 → EReal) (n : Fin 8) (h : ∀ b, b < n → f b = 0) :
    f n = ∑ b : Fin 8, if b.val < n.val + 1 then f b else 0 := by
  rw [sum_lt_succ, Finset.sum_eq_zero fun b _ => ?_, zero_add]
  split
  · rename_i hb; exact h b hb
  · rfl

/-- What the scratch buffers hold after the point of the blocks `a` of queries and `j` of keys. -/
def Holds (h a j : Fin 8) (dk : sc0.view.ty.Contents (Elt Ideal)) (dv : sc1.view.ty.Contents (Elt Ideal)) (dq : sc2.view.ty.Contents (Elt Ideal)) : Prop :=
  (∀ r d, sc0.view.read (Elt Ideal) dk (ix2 r d) = ∑ b : Fin 8, if b.val < a.val + 1 then DK qs kp vp g lse dlt h b (gi j r) d else 0)
  ∧ (∀ r e, sc1.view.read (Elt Ideal) dv (ix2 r e) = ∑ b : Fin 8, if b.val < a.val + 1 then DV qs kp g lse h b (gi j r) e else 0)
  ∧ (∀ (b : Fin 8) (q : Fin 1024) d, sc2.view.read (Elt Ideal) dq (ix2 (gi b q) d)
      = ∑ i : Fin 8, if i.val < (if b.val ≤ a.val then j.val + 1 else j.val) then DQ qs kp vp g lse dlt h i (gi b q) d else 0)

section step

variable (x0 x1 : Vec Ideal S1x1024x256 .bf16) (x2 : Vec Ideal S1x1024x128 .bf16) (x3 : Vec Ideal S1024x128 .bf16) (x4 x5 : Vec Ideal S1x1x1024 .f32)
  (h a j : Fin 8)
  (e0 : ∀ r d, x0 (ix3 0 r d) = qs (ix3 h (gi a r) d)) (e1 : ∀ r d, x1 (ix3 0 r d) = kp (ix3 h (gi j r) d)) (e2 : ∀ r d, x2 (ix3 0 r d) = vp (ix3 h (gi j r) d))
  (e3 : ∀ r d, x3 (ix2 r d) = g (ix2 (gi a r) (hcol h d))) (e4 : ∀ r, x4 (ix3 0 0 r) = lse (ix3 h 0 (gi a r))) (e5 : ∀ r, x5 (ix3 0 0 r) = dlt (ix3 h 0 (gi a r)))
  (v1 v3 : BitVec 32) (w : k0_chk1 v1 v3)

include e0 e1 e2 e3 e4 e5 in
/-- A point of the diagonal, from what the earlier columns left. -/
theorem holds_diag (haj : a = j) (h2 : k0_cond2 v1 v3 = 1#1) (o2 : k0_off2 v1 = ![1024 * a.val, 0]) (o3 : k0_off3 v1 = ![1024 * a.val + 512, 0])
    (f : sc2.view.ty.Contents (Elt Ideal)) (L : List (View.Piece (Elt Ideal) S8192x256 .f32))
    (old : ∀ (b : Fin 8) (q : Fin 1024) d, sc2.view.read (Elt Ideal) (sc2.view.writes (Elt Ideal) f L) (ix2 (gi b q) d)
      = ∑ i : Fin 8, if i.val < j.val then DQ qs kp vp g lse dlt h i (gi b q) d else 0) :
    Holds qs kp vp g lse dlt h a j (dkDiag x0 x1 x2 x3 x4 x5) (dvDiag x0 x1 x3 x4) (dqDiag x0 x1 x2 x3 x4 x5 v1 v3 w h2 f L) := by
  subst haj
  refine ⟨fun r d => ?_, fun r e => ?_, fun b q d => ?_⟩
  · rw [dkDiag_apply, dk_blk qs kp vp g lse dlt x0 x1 x2 x3 x4 x5 h a a le_rfl true (by simp) e0 e1 e2 e3 e4 e5 r d]
    exact sum_first (fun b => DK qs kp vp g lse dlt h b (gi a r) d) a fun b hb => DK_above qs kp vp g lse dlt h b a hb r d
  · rw [dvDiag_apply, dv_blk qs kp g lse x0 x1 x3 x4 h a a le_rfl true (by simp) e0 e1 e3 e4 r e]
    exact sum_first (fun b => DV qs kp g lse h b (gi a r) e) a fun b hb => DV_above qs kp g lse h b a hb r e
  · by_cases hba : b = a
    · subst hba
      rw [if_pos le_rfl, sum_lt_succ (fun i => DQ qs kp vp g lse dlt h i (gi b q) d), dqDiag_hit x0 x1 x2 x3 x4 x5 v1 v3 w b h2 o2 o3 f L q d, old, dq_blk qs kp vp g lse dlt x0 x1 x2 x3 x4 x5 h b b le_rfl true (by simp) e0 e1 e2 e3 e4 e5 q d]
    · rw [dqDiag_miss x0 x1 x2 x3 x4 x5 v1 v3 w a h2 o2 o3 f L b hba q d, old]
      have hne : b.val ≠ a.val := fun e => hba (Fin.ext e)
      by_cases hlt : b.val ≤ a.val
      · rw [if_pos hlt, sum_lt_succ (fun i => DQ qs kp vp g lse dlt h i (gi b q) d), DQ_above qs kp vp g lse dlt h b a (show b.val < a.val by omega) q d, add_zero]
      · rw [if_neg hlt]

include e0 e1 e2 e3 e4 e5 in
/-- A point below the diagonal, from the point before it. -/
theorem holds_off (p : Fin 8) (hp : a.val = p.val + 1) (hj : j.val ≤ p.val) (h3 : k0_cond3 v1 v3 = 1#1) (o4 : k0_off4 v1 = ![1024 * a.val, 0]) (dk : sc0.view.ty.Contents (Elt Ideal)) (dv : sc1.view.ty.Contents (Elt Ideal)) (dq : sc2.view.ty.Contents (Elt Ideal))
    (old : Holds qs kp vp g lse dlt h p j dk dv dq) :
    Holds qs kp vp g lse dlt h a j (dkOff x0 x1 x2 x3 x4 x5 dk) (dvOff x0 x1 x3 x4 dv) (dqOff x0 x1 x2 x3 x4 x5 v1 v3 w h3 dq) := by
  have hja : j ≤ a := show j.val ≤ a.val by omega
  have hb : false = true ↔ a = j := ⟨fun e => by simp at e, fun e => by have := congrArg Fin.val e; omega⟩
  refine ⟨fun r d => ?_, fun r e => ?_, fun b q d => ?_⟩
  · rw [dkOff_apply, old.1, sum_lt_succ (fun b => DK qs kp vp g lse dlt h b (gi j r) d) a, hp, dk_blk qs kp vp g lse dlt x0 x1 x2 x3 x4 x5 h a j hja false hb e0 e1 e2 e3 e4 e5 r d]
  · rw [dvOff_apply, old.2.1, sum_lt_succ (fun b => DV qs kp g lse h b (gi j r) e) a, hp, dv_blk qs kp g lse x0 x1 x3 x4 h a j hja false hb e0 e1 e3 e4 r e]
  · by_cases hba : b = a
    · subst hba
      rw [if_pos le_rfl, sum_lt_succ (fun i => DQ qs kp vp g lse dlt h i (gi b q) d), dqOff_hit x0 x1 x2 x3 x4 x5 v1 v3 w b h3 o4 dq q d, old.2.2, if_neg (show ¬ b.val ≤ p.val by omega), dq_blk qs kp vp g lse dlt x0 x1 x2 x3 x4 x5 h b j hja false hb e0 e1 e2 e3 e4 e5 q d]
    · rw [dqOff_miss x0 x1 x2 x3 x4 x5 v1 v3 w a h3 o4 dq b hba q d, old.2.2]
      have hne : b.val ≠ a.val := fun e => hba (Fin.ext e)
      by_cases hlt : b.val ≤ p.val
      · rw [if_pos hlt, if_pos (show b.val ≤ a.val by omega)]
      · rw [if_neg hlt, if_neg (show ¬ b.val ≤ a.val by omega)]

end step

end arrays

/-! ## Every point -/

variable (m : (ℓ : Loc nD τ sig) → Buf (Elt Ideal) ℓ) (c : Dev nD)

/-- What the scratch buffers hold after a point. -/
abbrev HoldsAt (t : Fin (cfgA (F := Ideal)).N) (s : St Ideal) : Prop :=
  Holds (V m c main_v38) (V m c main_v41) (V m c main_v43) (V m c main_v45) (V m c main_v27) (V m c main_v31) (hd t) (qB t) (kB t) s.dk s.dv s.dq

/-- A head's first point. -/
theorem holds_start (t : Fin (cfgA (F := Ideal)).N) (h0 : (grid0.coords t 1).val = 0) (s : St Ideal) : HoldsAt m c t (stepAt m c t s) := by
  have hp : grid0.coords t 1 = (0 : Fin 36) := Fin.ext h0
  have hq : qB t = 0 := Fin.ext (by show qb (grid0.coords t 1) = 0; rw [hp]; exact first_point.1)
  have hk : kB t = 0 := Fin.ext (by show kb (grid0.coords t 1) = 0; rw [hp]; exact first_point.2)
  have h2 : k0_cond2 (wq (grid0.coords t)) (wk (grid0.coords t)) = 1#1 := (diag_iff _).2 (by rw [hp]; exact first_point.1.trans first_point.2.symm)
  unfold HoldsAt stepAt
  rw [step_diag_first _ _ _ _ _ _ _ _ _ _ _ h2 ((ends _).1.2 h0)]
  dsimp only
  refine holds_diag (V m c main_v38) (V m c main_v41) (V m c main_v43) (V m c main_v45) (V m c main_v27) (V m c main_v31) (iblk m c 0 t) (iblk m c 1 t) (iblk m c 2 t) (iblk m c 3 t) (iblk m c 4 t) (iblk m c 5 t)
    (hd t) (qB t) (kB t) (blk0 m c t) (blk1 m c t) (blk2 m c t) (blk3 m c t) (blk4 m c t) (blk5 m c t) _ _ _ (hq.trans hk.symm) h2 (offs _).1 (offs _).2.1 _ _ fun b q d => ?_
  refine (fresh_zero _ (gi b q) d).trans (Finset.sum_eq_zero fun i _ => if_neg ?_).symm
  rw [hk]; exact Nat.not_lt_zero _

/-- A later point of a head. -/
theorem holds_next (t u : Fin (cfgA (F := Ideal)).N) (hu : u.val = t.val + 1) (h0 : (grid0.coords u 1).val ≠ 0) (s : St Ideal) (hs : HoldsAt m c t s) :
    HoldsAt m c u (stepAt m c u s) := by
  have hd' : hd u = hd t := Fin.ext (by
    show (grid0.coords u 0).val = (grid0.coords t 0).val
    have a := coords_val u; have b := coords_val t
    rw [a.1, b.1]; rw [a.2] at h0; omega)
  have hpl : (grid0.coords u 1).val = (grid0.coords t 1).val + 1 := by
    have a := coords_val u; have b := coords_val t
    rw [a.2, b.2]; rw [a.2] at h0; omega
  rcases next_point (grid0.coords t 1) (grid0.coords u 1) hpl with ⟨h7, hq, hk⟩ | ⟨h7, hk, hq⟩
  · have hk' : kB u = kB t := Fin.ext hk
    have hle := (kb_le (grid0.coords t 1)).1
    have hne : qb (grid0.coords u 1) ≠ kb (grid0.coords u 1) := by omega
    have h2 : ¬ k0_cond2 (wq (grid0.coords u)) (wk (grid0.coords u)) = 1#1 := fun h => hne ((diag_iff _).1 h)
    have h3 : k0_cond3 (wq (grid0.coords u)) (wk (grid0.coords u)) = 1#1 := (off_iff _).2 hne
    unfold HoldsAt stepAt
    rw [step_off _ _ _ _ _ _ _ _ _ _ _ h2 h3]
    dsimp only
    unfold HoldsAt at hs
    rw [← hd', ← hk'] at hs
    exact holds_off (V m c main_v38) (V m c main_v41) (V m c main_v43) (V m c main_v45) (V m c main_v27) (V m c main_v31) (iblk m c 0 u) (iblk m c 1 u) (iblk m c 2 u) (iblk m c 3 u) (iblk m c 4 u) (iblk m c 5 u)
      (hd u) (qB u) (kB u) (blk0 m c u) (blk1 m c u) (blk2 m c u) (blk3 m c u) (blk4 m c u) (blk5 m c u) _ _ _ (qB t) hq (by rw [hk']; exact hle) h3 (offs _).2.2 _ _ _ hs
  · have h2 : k0_cond2 (wq (grid0.coords u)) (wk (grid0.coords u)) = 1#1 := (diag_iff _).2 hq
    unfold HoldsAt stepAt
    rw [step_diag _ _ _ _ _ _ _ _ _ _ _ h2 (fun h => h0 ((ends _).1.1 h))]
    dsimp only
    unfold HoldsAt at hs
    rw [← hd'] at hs
    refine holds_diag (V m c main_v38) (V m c main_v41) (V m c main_v43) (V m c main_v45) (V m c main_v27) (V m c main_v31) (iblk m c 0 u) (iblk m c 1 u) (iblk m c 2 u) (iblk m c 3 u) (iblk m c 4 u) (iblk m c 5 u)
      (hd u) (qB u) (kB u) (blk0 m c u) (blk1 m c u) (blk2 m c u) (blk3 m c u) (blk4 m c u) (blk5 m c u) _ _ _ (Fin.ext hq) h2 (offs _).1 (offs _).2.1 _ _ fun b q d => ?_
    refine (hs.2.2 b q d).trans ?_
    rw [if_pos (show b.val ≤ (qB t).val by show b.val ≤ qb (grid0.coords t 1); omega), show (kB u).val = (kB t).val + 1 from hk]

/-- After every point the scratch buffers hold the sums of the blocks so far. -/
theorem holds_of_reach : ∀ (n : ℕ) (hn : n < (cfgA (F := Ideal)).N) (s : St Ideal), Reach m c (n + 1) s → HoldsAt m c ⟨n, hn⟩ s := by
  intro n
  induction n with
  | zero =>
    rintro hn s ⟨hn', s', -, rfl⟩
    exact holds_start m c ⟨0, hn⟩ (coords_val ⟨0, hn⟩).2 s'
  | succ n ih =>
    rintro hn s ⟨hn', s', hs, rfl⟩
    by_cases h0 : (grid0.coords ⟨n + 1, hn⟩ 1).val = 0
    · exact holds_start m c ⟨n + 1, hn⟩ h0 s'
    · exact holds_next m c ⟨n, by omega⟩ ⟨n + 1, hn⟩ rfl h0 s' (ih (by omega) s' hs)

end Cert.Proof.AttnGrads

end
-- ==== Proof.AttnFinal.lean ====
module

public import proofs.«01_k».proof.Proof.AttnGrads
public import Idealize.ShloMosaic.Lib.Pipeline.ArrRel

@[expose] public section

set_option maxRecDepth 16384
set_option Elab.async false

noncomputable section

namespace Cert.Proof.AttnFinal

open Cert.Kernel6Ideal Cert.Kernel6Ideal.Gen Cert.Proof.AttnRun Cert.Proof.AttnForms Cert.Proof.AttnStep Cert.Proof.AttnBlocks Cert.Proof.AttnGrads
open Idealize.ShloMosaic Idealize.ShloMosaic.TcCoe Idealize.SL.Sem
open Idealize.ShloMosaic.Pipeline (Dat RDat)

/-! ## The arrays after the call -/

/-- Every place of the queries' gradient is written back. -/
theorem cov6 : ((cfgA (F := Ideal)).win 6).Covers := of_decide_eq_true (by sl_kernel_rfl)
/-- Every place of the keys' gradient is written back. -/
theorem cov7 : ((cfgA (F := Ideal)).win 7).Covers := of_decide_eq_true (by sl_kernel_rfl)
/-- Every place of the values' gradient is written back. -/
theorem cov8 : ((cfgA (F := Ideal)).win 8).Covers := of_decide_eq_true (by sl_kernel_rfl)

/-- Where a point's block of the queries' gradient lies. -/
theorem emb6 (t : Fin (cfgA (F := Ideal)).N) (y : S1x8192x256.Idx) :
    ((((cfgA (F := Ideal)).win 6).blk t).view.emb y : S8x8192x256.Idx) = ix3 (hd t) (y 1) (y 2) := by
  funext a
  have e := (idx t).2.2.2.2.2.2.1
  fin_cases a
  · refine Fin.ext ?_
    show ((cfgA (F := Ideal)).win 6).index t 0 * 1 + 1 * (y 0).val = (grid0.coords t 0).val
    rw [e, Nat.lt_one_iff.1 (y 0).isLt]; simp
  · refine Fin.ext ?_
    show ((cfgA (F := Ideal)).win 6).index t 1 * 8192 + 1 * (y 1).val = (y 1).val
    rw [e]; simp
  · refine Fin.ext ?_
    show ((cfgA (F := Ideal)).win 6).index t 2 * 256 + 1 * (y 2).val = (y 2).val
    rw [e]; simp
/-- Where a point's block of the keys' gradient lies. -/
theorem emb7 (t : Fin (cfgA (F := Ideal)).N) (y : S1x1024x256.Idx) :
    ((((cfgA (F := Ideal)).win 7).blk t).view.emb y : S8x8192x256.Idx) = ix3 (hd t) (gi (kB t) (y 1)) (y 2) := by
  funext a
  have e := (idx t).2.2.2.2.2.2.2.1
  fin_cases a
  · refine Fin.ext ?_
    show ((cfgA (F := Ideal)).win 7).index t 0 * 1 + 1 * (y 0).val = (grid0.coords t 0).val
    rw [e, Nat.lt_one_iff.1 (y 0).isLt]; simp
  · refine Fin.ext ?_
    show ((cfgA (F := Ideal)).win 7).index t 1 * 1024 + 1 * (y 1).val = 1024 * kb (grid0.coords t 1) + (y 1).val
    rw [e]; show kb (grid0.coords t 1) * 1024 + 1 * (y 1).val = _; omega
  · refine Fin.ext ?_
    show ((cfgA (F := Ideal)).win 7).index t 2 * 256 + 1 * (y 2).val = (y 2).val
    rw [e]; simp
/-- Where a point's block of the values' gradient lies. -/
theorem emb8 (t : Fin (cfgA (F := Ideal)).N) (y : S1x1024x128.Idx) :
    ((((cfgA (F := Ideal)).win 8).blk t).view.emb y : S8x8192x128.Idx) = ix3 (hd t) (gi (kB t) (y 1)) (y 2) := by
  funext a
  have e := (idx t).2.2.2.2.2.2.2.2
  fin_cases a
  · refine Fin.ext ?_
    show ((cfgA (F := Ideal)).win 8).index t 0 * 1 + 1 * (y 0).val = (grid0.coords t 0).val
    rw [e, Nat.lt_one_iff.1 (y 0).isLt]; simp
  · refine Fin.ext ?_
    show ((cfgA (F := Ideal)).win 8).index t 1 * 1024 + 1 * (y 1).val = 1024 * kb (grid0.coords t 1) + (y 1).val
    rw [e]; show kb (grid0.coords t 1) * 1024 + 1 * (y 1).val = _; omega
  · refine Fin.ext ?_
    show ((cfgA (F := Ideal)).win 8).index t 2 * 128 + 1 * (y 2).val = (y 2).val
    rw [e]; simp

/-! ### What a point writes back -/

/-- The queries' gradient that a point writes back. -/
theorem out6_apply (s : St Ideal) (y : S1x8192x256.Idx) : out6 s y = sc2.view.read (Elt Ideal) s.dq (ix2 (y 1) (y 2)) := by
  have hy : rGo.emb y = y := funext fun a => by fin_cases a <;> exact Fin.ext (by simp [Rect.emb, LoadRect.idx, Rect.unit])
  have h := View.canon_cons_emb (Val := Elt Ideal) (e := .bf16) rGo (k0_pay12 (View.readAt (Elt Ideal) sc2.view rG.toLoadRect s.dq)) [] y
  rw [hy] at h
  have h0 : y = ix3 0 (y 1) (y 2) := funext fun a => by
    fin_cases a
    · exact Fin.ext (Nat.lt_one_iff.1 (y 0).isLt)
    · rfl
    · rfl
  refine h.trans ((congrArg _ h0).trans ((pay12_apply _ (y 1) (y 2)).trans ?_))
  exact congrArg (sc2.view.read (Elt Ideal) s.dq) (funext fun a => by fin_cases a <;> exact Fin.ext (by simp [LoadRect.idx, Rect.unit]))

/-- The keys' gradient that a point writes back. -/
theorem out7_apply (s : St Ideal) (y : S1x1024x256.Idx) : out7 s y = sc0.view.read (Elt Ideal) s.dk (ix2 (y 1) (y 2)) * ((Real.log 2 : ℝ) : EReal) := by
  have hy : rQ.emb y = y := funext fun a => by fin_cases a <;> exact Fin.ext (by simp [Rect.emb, LoadRect.idx, Rect.unit])
  have h := View.canon_cons_emb (Val := Elt Ideal) (e := .bf16) rQ (k0_pay10 (View.readAt (Elt Ideal) sc0.view rK.toLoadRect s.dk)) [] y
  rw [hy] at h
  have h0 : y = ix3 0 (y 1) (y 2) := funext fun a => by
    fin_cases a
    · exact Fin.ext (Nat.lt_one_iff.1 (y 0).isLt)
    · rfl
    · rfl
  refine h.trans ((congrArg _ h0).trans ((pay10_apply _ (y 1) (y 2)).trans (congrArg (fun x : EReal => x * _) ?_)))
  exact congrArg (sc0.view.read (Elt Ideal) s.dk) (funext fun a => by fin_cases a <;> exact Fin.ext (by simp [LoadRect.idx, Rect.unit]))

/-- The values' gradient that a point writes back. -/
theorem out8_apply (s : St Ideal) (y : S1x1024x128.Idx) : out8 s y = sc1.view.read (Elt Ideal) s.dv (ix2 (y 1) (y 2)) := by
  have hy : rV.emb y = y := funext fun a => by fin_cases a <;> exact Fin.ext (by simp [Rect.emb, LoadRect.idx, Rect.unit])
  have h := View.canon_cons_emb (Val := Elt Ideal) (e := .bf16) rV (k0_pay11 (View.readAt (Elt Ideal) sc1.view rO.toLoadRect s.dv)) [] y
  rw [hy] at h
  have h0 : y = ix3 0 (y 1) (y 2) := funext fun a => by
    fin_cases a
    · exact Fin.ext (Nat.lt_one_iff.1 (y 0).isLt)
    · rfl
    · rfl
  refine h.trans ((congrArg _ h0).trans ((pay11_apply _ (y 1) (y 2)).trans ?_))
  exact congrArg (sc1.view.read (Elt Ideal) s.dv) (funext fun a => by fin_cases a <;> exact Fin.ext (by simp [LoadRect.idx, Rect.unit]))

variable (m : (ℓ : Loc nD τ sig) → Buf (Elt Ideal) ℓ) (c : Dev nD)

/-- All blocks lie before the end. -/
theorem sum_all (f : Fin 8 → EReal) (n : ℕ) (hn : n = 8) : (∑ b : Fin 8, if b.val < n then f b else 0) = ∑ b, f b :=
  Finset.sum_congr rfl fun b _ => if_pos (hn ▸ b.isLt)

/-- The keys' gradient after the call. -/
def dkOut (i : S8x8192x256.Idx) : EReal := (∑ b : Fin 8, DK (V m c main_v38) (V m c main_v41) (V m c main_v43) (V m c main_v45) (V m c main_v27) (V m c main_v31) (i 0) b (i 1) (i 2)) * ((Real.log 2 : ℝ) : EReal)

/-- The keys' gradient after the call is the sum over all blocks. -/
theorem final7 (G : S8x8192x256.Idx → EReal) (hG : (rdat m c).ArrAt 7 (cfgA (F := Ideal)).N G) (i : S8x8192x256.Idx) : G i = dkOut m c i := by
  obtain ⟨after', hL, hA⟩ := RDat.ArrAt.exists_exact hG
  obtain ⟨aft, haft⟩ : ∃ aft : (w : Fin (cfgA (F := Ideal)).W) → Fin (cfgA (F := Ideal)).N → ((cfgA (F := Ideal)).win w).block.Idx → Elt Ideal ((cfgA (F := Ideal)).win w).elt, aft 7 = after' :=
    ⟨Function.update (fun _ _ _ => Classical.arbitrary _) 7 after', Function.update_self ..⟩
  have hA' := hA aft fun u _ _ => by rw [haft]
  rw [hA']
  refine Dat.arrAt_forall_of_covers ((rdat m c).withAfter aft) 7 (fun (i : S8x8192x256.Idx) (v : Elt Ideal .bf16) => v = dkOut m c i) cov7 (fun t hf y => ?_) i
  obtain ⟨Y, -, hX⟩ := hL t t.isLt hf
  obtain ⟨s, hs, hX⟩ := hX ((flush_eq t).2.1.1 hf)
  have hH := holds_of_reach m c t.val t.isLt s hs
  have h7 : qb (grid0.coords t 1) = 7 := (end_iff _).1 ((flush_eq t).2.1.1 hf)
  rw [emb7 t y]
  show aft 7 t y = _
  rw [haft, hX]
  refine (out7_apply s y).trans (congrArg (fun x : EReal => x * _) ((hH.1 (y 1) (y 2)).trans ?_))
  exact sum_all _ _ (by show qb (grid0.coords t 1) + 1 = 8; omega)

/-- The values' gradient after the call. -/
def dvOut (i : S8x8192x128.Idx) : EReal := ∑ b : Fin 8, DV (V m c main_v38) (V m c main_v41) (V m c main_v45) (V m c main_v27) (i 0) b (i 1) (i 2)

/-- The values' gradient after the call is the sum over all blocks. -/
theorem final8 (G : S8x8192x128.Idx → EReal) (hG : (rdat m c).ArrAt 8 (cfgA (F := Ideal)).N G) (i : S8x8192x128.Idx) : G i = dvOut m c i := by
  obtain ⟨after', hL, hA⟩ := RDat.ArrAt.exists_exact hG
  obtain ⟨aft, haft⟩ : ∃ aft : (w : Fin (cfgA (F := Ideal)).W) → Fin (cfgA (F := Ideal)).N → ((cfgA (F := Ideal)).win w).block.Idx → Elt Ideal ((cfgA (F := Ideal)).win w).elt, aft 8 = after' :=
    ⟨Function.update (fun _ _ _ => Classical.arbitrary _) 8 after', Function.update_self ..⟩
  have hA' := hA aft fun u _ _ => by rw [haft]
  rw [hA']
  refine Dat.arrAt_forall_of_covers ((rdat m c).withAfter aft) 8 (fun (i : S8x8192x128.Idx) (v : Elt Ideal .bf16) => v = dvOut m c i) cov8 (fun t hf y => ?_) i
  obtain ⟨Y, -, hX⟩ := hL t t.isLt hf
  obtain ⟨s, hs, hX⟩ := hX ((flush_eq t).2.2.1 hf)
  have hH := holds_of_reach m c t.val t.isLt s hs
  have h7 : qb (grid0.coords t 1) = 7 := (end_iff _).1 ((flush_eq t).2.2.1 hf)
  rw [emb8 t y]
  show aft 8 t y = _
  rw [haft, hX]
  refine (out8_apply s y).trans ((hH.2.1 (y 1) (y 2)).trans ?_)
  exact sum_all _ _ (by show qb (grid0.coords t 1) + 1 = 8; omega)

/-- The queries' gradient after the call. -/
def dqOut (i : S8x8192x256.Idx) : EReal := ∑ j : Fin 8, DQ (V m c main_v38) (V m c main_v41) (V m c main_v43) (V m c main_v45) (V m c main_v27) (V m c main_v31) (i 0) j (i 1) (i 2)

/-- The queries' gradient after the call is the sum over all blocks. -/
theorem final6 (G : S8x8192x256.Idx → EReal) (hG : (rdat m c).ArrAt 6 (cfgA (F := Ideal)).N G) (i : S8x8192x256.Idx) : G i = dqOut m c i := by
  obtain ⟨after', hL, hA⟩ := RDat.ArrAt.exists_exact hG
  obtain ⟨aft, haft⟩ : ∃ aft : (w : Fin (cfgA (F := Ideal)).W) → Fin (cfgA (F := Ideal)).N → ((cfgA (F := Ideal)).win w).block.Idx → Elt Ideal ((cfgA (F := Ideal)).win w).elt, aft 6 = after' :=
    ⟨Function.update (fun _ _ _ => Classical.arbitrary _) 6 after', Function.update_self ..⟩
  have hA' := hA aft fun u _ _ => by rw [haft]
  rw [hA']
  refine Dat.arrAt_forall_of_covers ((rdat m c).withAfter aft) 6 (fun (i : S8x8192x256.Idx) (v : Elt Ideal .bf16) => v = dqOut m c i) cov6 (fun t hf y => ?_) i
  obtain ⟨Y, -, hX⟩ := hL t t.isLt hf
  obtain ⟨s, hs, hX⟩ := hX ((flush_eq t).1.1 hf)
  have hH := holds_of_reach m c t.val t.isLt s hs
  have hp := last_point (grid0.coords t 1) (Fin.ext ((ends _).2.1 ((flush_eq t).1.1 hf)))
  rw [emb6 t y]
  show aft 6 t y = _
  rw [haft, hX]
  refine (out6_apply s y).trans ?_
  obtain ⟨b, q, e⟩ : ∃ (b : Fin 8) (q : Fin 1024), y 1 = gi b q :=
    ⟨⟨(y 1).val / 1024, by have : (y 1).val < 8192 := (y 1).isLt; omega⟩, ⟨(y 1).val % 1024, by omega⟩, Fin.ext (by show (y 1).val = 1024 * ((y 1).val / 1024) + (y 1).val % 1024; omega)⟩
  rw [e]
  refine (hH.2.2 b q (y 2)).trans ?_
  rw [if_pos (show b.val ≤ (qB t).val by show b.val ≤ qb (grid0.coords t 1); omega)]
  exact sum_all _ _ (by show kb (grid0.coords t 1) + 1 = 8; omega)

end Cert.Proof.AttnFinal

end
-- ==== Proof.AttnReal.lean ====
module

public import proofs.«01_k».proof.Proof.AttnGrads

@[expose] public section

set_option maxRecDepth 16384
set_option Elab.async false

noncomputable section

/-! Causal attention over the real numbers, and the kernel's formulas at real arguments. -/

namespace Cert.Proof.AttnReal

open Cert.Kernel6Ideal Cert.Proof.AttnStep Cert.Proof.AttnBlocks Cert.Proof.AttnGrads
open Idealize.ShloMosaic

/-- A real sum, read in the extended reals. -/
theorem coe_sum {ι : Type} (s : Finset ι) (f : ι → ℝ) : ((∑ x ∈ s, f x : ℝ) : EReal) = ∑ x ∈ s, (f x : EReal) :=
  map_sum (⟨⟨Real.toEReal, EReal.coe_zero⟩, EReal.coe_add⟩ : ℝ →+ EReal) _ _

/-- The maximum over a row in which one entry is real and no entry is `⊤` is real. -/
theorem fold_real {n : ℕ} (f : Fin n → EReal) (i : Fin n) (hi : f i ≠ ⊥) (hf : ∀ j, f j ≠ ⊤) :
    Finset.fold max ⊥ f Finset.univ = ((Finset.fold max ⊥ f Finset.univ).toReal : EReal) := by
  refine (EReal.coe_toReal ?_ ?_).symm
  · refine ne_of_lt ?_
    show Finset.univ.sup f < ⊤
    rw [Finset.sup_lt_iff bot_lt_top]
    exact fun j _ => lt_top_iff_ne_top.2 (hf j)
  · have : f i ≤ Finset.univ.sup f := Finset.le_sup (Finset.mem_univ i)
    exact fun h => hi (le_bot_iff.1 (h ▸ this))

variable (q k : Fin 8192 → Fin 8 → Fin 192 → ℝ) (v g : Fin 8192 → Fin 8 → Fin 128 → ℝ) (a : ℝ)

/-- The score of a query at a key: the scaled query times the key. -/
def sc (h : Fin 8) (i j : Fin 8192) : ℝ := ∑ d, q i h d * a * k j h d
/-- The scores of a query with the later keys masked. -/
def msc (h : Fin 8) (i j : Fin 8192) : EReal := if j.val ≤ i.val then ((sc q k a h i j : ℝ) : EReal) else ⊥
/-- The largest score of a query. -/
def mx (h : Fin 8) (i : Fin 8192) : ℝ := (Finset.fold max ⊥ (msc q k a h i) Finset.univ).toReal
/-- The exponential of a score below the largest one; none at a later key. -/
def ex (h : Fin 8) (i j : Fin 8192) : ℝ := if j.val ≤ i.val then Real.exp (sc q k a h i j - mx q k a h i) else 0
/-- The softmax's denominator. -/
def den (h : Fin 8) (i : Fin 8192) : ℝ := ∑ j, ex q k a h i j
/-- The softmax. -/
def pr (h : Fin 8) (i j : Fin 8192) : ℝ := ex q k a h i j / den q k a h i
/-- The cotangent of the softmax: the output's cotangent times the value. -/
def dp (h : Fin 8) (i j : Fin 8192) : ℝ := ∑ e, v j h e * g i h e
/-- The softmax's cotangent averaged over the keys. -/
def dl (h : Fin 8) (i : Fin 8192) : ℝ := ∑ j, pr q k a h i j * dp v g h i j
/-- The cotangent of the score. -/
def ds (h : Fin 8) (i j : Fin 8192) : ℝ := pr q k a h i j * (dp v g h i j - dl q k v g a h i)

/-- The largest score of a row, as the maximum over the extended reals. -/
theorem fold_msc (h : Fin 8) (i : Fin 8192) : Finset.fold max ⊥ (msc q k a h i) Finset.univ = (mx q k a h i : EReal) := by
  refine fold_real _ i ?_ fun j => ?_
  · rw [msc, if_pos le_rfl]; exact EReal.coe_ne_bot _
  · unfold msc; split
    · exact EReal.coe_ne_top _
    · exact bot_ne_top

/-- The exponential of a masked score is real. -/
theorem exp_msc (h : Fin 8) (i j : Fin 8192) : Ideal.exp (msc q k a h i j - (mx q k a h i : EReal)) = (ex q k a h i j : EReal) := by
  unfold msc ex
  split
  · rw [← EReal.coe_sub, Ideal.exp_coe]
  · rw [EReal.bot_sub, Ideal.exp_bot, EReal.coe_zero]

/-- The exponentials are not negative. -/
theorem ex_nonneg (h : Fin 8) (i j : Fin 8192) : 0 ≤ ex q k a h i j := by
  unfold ex; split
  · positivity
  · exact le_rfl

/-- The denominator is positive: a query sees its own key. -/
theorem den_pos (h : Fin 8) (i : Fin 8192) : 0 < den q k a h i := by
  refine Finset.sum_pos' (fun j _ => ex_nonneg q k a h i j) ⟨i, Finset.mem_univ i, ?_⟩
  rw [ex, if_pos le_rfl]; positivity

/-- The softmax from the base-two logarithm of the denominator. -/
theorem rpow_lse (s M L : ℝ) (hL : 0 < L) : Real.rpow 2 (s / Real.log 2 - (M + Real.log L) / Real.log 2) = Real.exp (s - M) / L := by
  have h2 : Real.log 2 ≠ 0 := (Real.log_pos one_lt_two).ne'
  rw [Real.rpow_eq_pow, Real.rpow_def_of_pos two_pos, ← sub_div, mul_div_cancel₀ _ h2, sub_add_eq_sub_sub, Real.exp_sub, Real.exp_log hL]

/-- A product of two rows padded from 192 to 256 columns. -/
theorem sum_pad (x y : Fin 192 → ℝ) : (∑ d : Fin 256, (if hd : d.val < 192 then x ⟨d.val, hd⟩ else 0) * (if hd : d.val < 192 then y ⟨d.val, hd⟩ else 0))
    = ∑ d, x d * y d := by
  rw [Fin.sum_univ_add (a := 192) (b := 64)]
  simp

/-- The division by a real number of a real number. -/
theorem div_real (x y : ℝ) (hy : y ≠ 0) : Ideal.div (x : EReal) (y : EReal) = ((x / y : ℝ) : EReal) := by
  rw [Ideal.div_coe hy, ← EReal.coe_mul, mul_one_div]

/-- The kernel's arrays hold the real queries, keys, values, cotangents and saved rows. -/
structure Real6 (qs kp : FVec Ideal S8x8192x256 .bf16) (vp : FVec Ideal S8x8192x128 .bf16) (go : FVec Ideal S8192x1024 .bf16) (lse dlt : FVec Ideal S8x1x8192 .f32) : Prop where
  hqs : ∀ h i d, qs (ix3 h i d) = ((if hd : d.val < 192 then q i h ⟨d.val, hd⟩ * a / Real.log 2 else 0 : ℝ) : EReal)
  hkp : ∀ h j d, kp (ix3 h j d) = ((if hd : d.val < 192 then k j h ⟨d.val, hd⟩ else 0 : ℝ) : EReal)
  hvp : ∀ h j e, vp (ix3 h j e) = (v j h e : EReal)
  hgo : ∀ i h e, go (ix2 i (hcol h e)) = (g i h e : EReal)
  hlse : ∀ h i, lse (ix3 h 0 i) = (((mx q k a h i + Real.log (den q k a h i)) / Real.log 2 : ℝ) : EReal)
  hdlt : ∀ h i, dlt (ix3 h 0 i) = (dl q k v g a h i : EReal)

variable {q k v g a} {qs kp : FVec Ideal S8x8192x256 .bf16} {vp : FVec Ideal S8x8192x128 .bf16} {go : FVec Ideal S8192x1024 .bf16} {lse dlt : FVec Ideal S8x1x8192 .f32}

/-- The kernel's recomputed softmax is the softmax. -/
theorem pG_real (H : Real6 q k v g a qs kp vp go lse dlt) (h : Fin 8) (i j : Fin 8192) : pG qs kp lse h i j = (pr q k a h i j : EReal) := by
  unfold pG pr ex
  rw [H.hlse]
  split
  · rw [Finset.sum_congr rfl fun d _ => (congrArg₂ (· * ·) (H.hkp h j d) (H.hqs h i d)).trans (EReal.coe_mul _ _).symm, ← coe_sum,
      sum_pad (fun d => k j h d) (fun d => q i h d * a / Real.log 2), ← EReal.coe_sub, Ideal.exp2_coe,
      show (∑ d, k j h d * (q i h d * a / Real.log 2)) = sc q k a h i j / Real.log 2 by
        rw [sc, Finset.sum_div]; exact Finset.sum_congr rfl fun d _ => by ring,
      rpow_lse _ _ _ (den_pos q k a h i)]
  · rw [EReal.bot_sub, Ideal.exp2_bot, zero_div, EReal.coe_zero]

/-- The kernel's cotangent of the scores. -/
theorem dsG_real (H : Real6 q k v g a qs kp vp go lse dlt) (h : Fin 8) (i j : Fin 8192) : dsG qs kp vp go lse dlt h i j = (ds q k v g a h i j : EReal) := by
  unfold dsG ds dp
  rw [pG_real H, H.hdlt, Finset.sum_congr rfl fun e _ => (congrArg₂ (· * ·) (H.hvp h j e) (H.hgo i h e)).trans (EReal.coe_mul _ _).symm, ← coe_sum,
    ← EReal.coe_sub, ← EReal.coe_mul]

/-- The eight blocks of 1024 rows are all the rows. -/
theorem sum_blocks (f : Fin 8192 → ℝ) : (∑ b : Fin 8, ∑ c : Fin 1024, f (gi b c)) = ∑ i, f i := by
  refine Fin.sum_mul_add_congr fun b c hl => congrArg f (Fin.ext ?_)
  show 1024 * b.val + c.val = b.val * 1024 + c.val
  omega

/-- The gradient of the values. -/
theorem dv_real (H : Real6 q k v g a qs kp vp go lse dlt) (h : Fin 8) (j : Fin 8192) (e : Fin 128) :
    (∑ b, DV qs kp go lse h b j e) = ((∑ i, pr q k a h i j * g i h e : ℝ) : EReal) := by
  rw [← sum_blocks, coe_sum]
  refine Finset.sum_congr rfl fun b _ => ?_
  rw [coe_sum]
  exact Finset.sum_congr rfl fun c _ => (congrArg₂ (· * ·) (pG_real H h (gi b c) j) (H.hgo (gi b c) h e)).trans (EReal.coe_mul _ _).symm

/-- The gradient of the queries, a column of the padded ones. -/
theorem dq_real (H : Real6 q k v g a qs kp vp go lse dlt) (h : Fin 8) (i : Fin 8192) (d : Fin 256) :
    (∑ b, DQ qs kp vp go lse dlt h b i d) = ((if hd : d.val < 192 then ∑ j, ds q k v g a h i j * k j h ⟨d.val, hd⟩ else 0 : ℝ) : EReal) := by
  have e : (∑ b, DQ qs kp vp go lse dlt h b i d)
      = ((∑ j, ds q k v g a h i j * (if hd : d.val < 192 then k j h ⟨d.val, hd⟩ else 0) : ℝ) : EReal) := by
    rw [← sum_blocks, coe_sum]
    refine Finset.sum_congr rfl fun b _ => ?_
    rw [coe_sum]
    exact Finset.sum_congr rfl fun c _ => (congrArg₂ (· * ·) (dsG_real H h i (gi b c)) (H.hkp h (gi b c) d)).trans (EReal.coe_mul _ _).symm
  rw [e]
  split <;> simp

/-- The gradient of the keys, a column of the padded ones. -/
theorem dk_real (H : Real6 q k v g a qs kp vp go lse dlt) (h : Fin 8) (j : Fin 8192) (d : Fin 256) :
    (∑ b, DK qs kp vp go lse dlt h b j d) * ((Real.log 2 : ℝ) : EReal)
      = ((if hd : d.val < 192 then ∑ i, ds q k v g a h i j * (q i h ⟨d.val, hd⟩ * a) else 0 : ℝ) : EReal) := by
  have h2 : Real.log 2 ≠ 0 := (Real.log_pos one_lt_two).ne'
  have e : (∑ b, DK qs kp vp go lse dlt h b j d)
      = ((∑ i, ds q k v g a h i j * (if hd : d.val < 192 then q i h ⟨d.val, hd⟩ * a / Real.log 2 else 0) : ℝ) : EReal) := by
    rw [← sum_blocks, coe_sum]
    refine Finset.sum_congr rfl fun b _ => ?_
    rw [coe_sum]
    exact Finset.sum_congr rfl fun c _ => (congrArg₂ (· * ·) (dsG_real H h (gi b c) j) (H.hqs h (gi b c) d)).trans (EReal.coe_mul _ _).symm
  rw [e, ← EReal.coe_mul]
  split
  · rw [Finset.sum_mul]
    exact congrArg _ (Finset.sum_congr rfl fun i _ => by field_simp)
  · simp

end Cert.Proof.AttnReal
-- ==== Proof.AttnHost.lean ====
module

public import proofs.«01_k».proof.Proof.AttnFinal
public import proofs.«01_k».proof.Proof.AttnReal
public import Idealize.ShloMosaic.Lib.StableHlo.ReadAt

@[expose] public section

set_option maxRecDepth 16384
set_option Elab.async false

noncomputable section

/-! The arrays that the host lines before the call prepare, at real arguments. -/

namespace Cert.Proof.AttnHost

open Cert.Kernel6Ideal Cert.Kernel6Ideal.Gen Cert.Proof.AttnRun Cert.Proof.AttnBlocks Cert.Proof.AttnReal
open Idealize.ShloMosaic Idealize.ShloMosaic.TcCoe Idealize.SL.Sem

/-- The scale's word. -/
def alpha : ℝ := 9686330 / 134217728
theorem word_alpha : Ideal.ofBits .f32 0x3D93CD3A#32 = (alpha : EReal) := by
  unfold alpha; simp [Ideal.ofBits, Ideal.ieee, -EReal.coe_mul]; norm_num
/-- The mask's word. -/
theorem word_bot : Ideal.ofBits .f32 0xFF800000#32 = ⊥ := by simp [Ideal.ofBits, Ideal.ieee]
/-- The word of two. -/
theorem word_two : Ideal.ofBits .f32 0x40000000#32 = ((2 : ℝ) : EReal) := by
  simp [Ideal.ofBits, Ideal.ieee, -EReal.coe_mul]; norm_num
/-- The logarithm of two on the host. -/
theorem log_two : (id (Host.log (constant S_ .f32 0x40000000#32 : FVec Ideal S_ .f32)) : FVec Ideal S_ .f32) ix0 = ((Real.log 2 : ℝ) : EReal) := by
  show Ideal.log (Ideal.ofBits .f32 0x40000000#32) = _
  rw [word_two, Ideal.log_coe, if_neg (by norm_num)]
/-- The mask compares the places of key and query. -/
theorem mask_at {α : Type} (i j : Fin 8192) (x y : α) :
    Scalar.select (IntOp.cmpi .sge (BitVec.ofNat 32 i.val) (BitVec.ofNat 32 j.val)) x y = if j.val ≤ i.val then x else y := by
  have e : IntOp.cmpi .sge (BitVec.ofNat 32 i.val) (BitVec.ofNat 32 j.val) = BitVec.ofBool (decide (j.val ≤ i.val)) := by
    have hi := i.isLt
    have hj := j.isLt
    simp only [IntOp.cmpi, BitVec.sle]
    congr 1
    rw [BitVec.toInt_eq_toNat_of_lt, BitVec.toInt_eq_toNat_of_lt] <;> simp only [BitVec.toNat_ofNat] <;> first | omega | skip
    rw [Nat.mod_eq_of_lt (by omega), Nat.mod_eq_of_lt (by omega)]
    simp
  rw [e]
  by_cases h : j.val ≤ i.val
  · rw [decide_eq_true h, if_pos h]; rfl
  · rw [decide_eq_false h, if_neg h]; rfl

variable (m : (ℓ : Loc nD τ sig) → Buf (Elt Ideal) ℓ) (c : Dev nD)
  (q k : Fin 8192 → Fin 8 → Fin 192 → ℝ) (v g : Fin 8192 → Fin 8 → Fin 128 → ℝ)

/-- The queries, as the call's first argument holds them. -/
abbrev A0 : FVec Ideal S8192x8x192 .f32 := m ((c.tc : Thread nD τ).loc main_arg0)
/-- The keys. -/
abbrev A1 : FVec Ideal S8192x8x192 .f32 := m ((c.tc : Thread nD τ).loc main_arg1)
/-- The values. -/
abbrev A2 : FVec Ideal S8192x8x128 .f32 := m ((c.tc : Thread nD τ).loc main_arg2)
/-- The output's cotangent. -/
abbrev A3 : FVec Ideal S8192x8x128 .f32 := m ((c.tc : Thread nD τ).loc main_arg3)

/-- The arguments are the real arrays. -/
structure Args : Prop where
  hq : ∀ i h d, A0 m c (ix3 i h d) = (q i h d : EReal)
  hk : ∀ i h d, A1 m c (ix3 i h d) = (k i h d : EReal)
  hv : ∀ i h e, A2 m c (ix3 i h e) = (v i h e : EReal)
  hg : ∀ i h e, A3 m c (ix3 i h e) = (g i h e : EReal)

variable {m c q k v g}

/-- The scaled, padded queries in base-two units. -/
theorem qs_apply (H : Args m c q k v g) (h : Fin 8) (i : Fin 8192) (d : Fin 256) :
    (V m c main_v38 : FVec Ideal S8x8192x256 .bf16) (ix3 h i d)
      = ((if hd : d.val < 192 then q i h ⟨d.val, hd⟩ * alpha / Real.log 2 else 0 : ℝ) : EReal) := by
  have h2 : Real.log 2 ≠ 0 := (Real.log_pos one_lt_two).ne'
  refine Eq.trans (b := (if hd : d.val < 192 then
      Ideal.div (A0 m c (ix3 i h ⟨d.val, hd⟩) * Ideal.ofBits .f32 0x3D93CD3A#32)
        ((id (Host.log (constant S_ .f32 0x40000000#32 : FVec Ideal S_ .f32)) : FVec Ideal S_ .f32) ix0)
      else (FloatOps.sitofp .f32 0#32 : Ideal .f32))) ?_ ?_
  · show StableHlo.after (pre (F := Ideal)).flatten _ _ _ = _
    after_reads_at
  · split
    · rw [log_two, word_alpha, H.hq, ← EReal.coe_mul, div_real _ _ h2]
    · show ((((0#32 : BitVec 32).toInt : ℝ)) : EReal) = _
      simp

/-- The padded keys. -/
theorem kp_apply (H : Args m c q k v g) (h : Fin 8) (i : Fin 8192) (d : Fin 256) :
    (V m c main_v41 : FVec Ideal S8x8192x256 .bf16) (ix3 h i d)
      = ((if hd : d.val < 192 then k i h ⟨d.val, hd⟩ else 0 : ℝ) : EReal) := by
  refine Eq.trans (b := (if hd : d.val < 192 then
      A1 m c (ix3 i h ⟨d.val, hd⟩)
      else (FloatOps.sitofp .f32 0#32 : Ideal .f32))) ?_ ?_
  · show StableHlo.after (pre (F := Ideal)).flatten _ _ _ = _
    after_reads_at
  · split
    · rw [H.hk]
    · show ((((0#32 : BitVec 32).toInt : ℝ)) : EReal) = _
      simp

/-- The values, head by head. -/
theorem vp_apply (H : Args m c q k v g) (h : Fin 8) (i : Fin 8192) (e : Fin 128) :
    (V m c main_v43 : FVec Ideal S8x8192x128 .bf16) (ix3 h i e) = (v i h e : EReal) := by
  rw [← H.hv]
  show StableHlo.after (pre (F := Ideal)).flatten _ _ _ = _
  after_reads_at

/-- The output's cotangent, the heads side by side. -/
theorem go_apply (H : Args m c q k v g) (h : Fin 8) (i : Fin 8192) (e : Fin 128) :
    (V m c main_v45 : FVec Ideal S8192x1024 .bf16) (ix2 i (hcol h e)) = (g i h e : EReal) := by
  rw [← H.hg]
  show StableHlo.after (pre (F := Ideal)).flatten _ _ _ = _
  after_reads_at
  have e1 : (128 * h.val + e.val) / 128 = h.val := by omega
  have e2 : (128 * h.val + e.val) % 128 = e.val := by omega
  exact congrArg (A3 m c) (congrArg₂ (ix3 i) (Fin.ext e1) (Fin.ext e2))

/-- Host lines one after the other. -/
theorem after_append (l₁ l₂ : List (HloOp τ sig (Elt Ideal))) (X : Valuation τ sig (Elt Ideal)) :
    StableHlo.after (l₁ ++ l₂) X = StableHlo.after l₂ (StableHlo.after l₁ X) := by
  induction l₁ generalizing X with
  | nil => rfl
  | cons op l ih => exact ih _

/-- The host lines, cut after the largest score of a row. -/
theorem V_cut (b : Ref sig .tc) : V m c b = StableHlo.after ((pre (F := Ideal)).flatten.drop 19)
    (StableHlo.after ((pre (F := Ideal)).flatten.take 19) fun b => m (c, b)) b := by
  show StableHlo.after _ _ _ = _
  rw [← after_append, List.take_append_drop]

/-- The largest entry of a row. -/
theorem red_max (x : FVec Ideal S8x8192x8192 .f32) (w : BitVec 32) (h : Fin 8) (i : Fin 8192) :
    Host.reduce FloatOps.maximumf x (constant S_ .f32 w) reducesTo_S8x8192x8192_S8x8192_d2 h_S_ (ix2 h i)
      = Finset.fold max (Ideal.ofBits .f32 w) (fun j => x (ix3 h i j)) Finset.univ := by
  pointwise

/-- The sum of a row. -/
theorem red_sum (x : FVec Ideal S8x8192x8192 .f32) (w : BitVec 32) (h : Fin 8) (i : Fin 8192) :
    Host.reduceAdd x (constant S_ .f32 w) reducesTo_S8x8192x8192_S8x8192_d2 h_S_ (ix2 h i) = Ideal.ofBits .f32 w + ∑ j, x (ix3 h i j) := by
  pointwise

/-- The masked scores that the host lines leave. -/
theorem score (H : Args m c q k v g) (h : Fin 8) (i j : Fin 8192) :
    (StableHlo.after ((pre (F := Ideal)).flatten.take 17) (fun b => m (c, b)) main_v9 : FVec Ideal S8x8192x8192 .f32) (ix3 h i j) = msc q k alpha h i j := by
  refine Eq.trans (b := Scalar.select (IntOp.cmpi .sge (BitVec.ofNat 32 i.val) (BitVec.ofNat 32 j.val))
      (∑ d, A0 m c (ix3 i h d) * Ideal.ofBits .f32 0x3D93CD3A#32 * A1 m c (ix3 j h d))
      ((id (constant S_ .f32 0xFF800000#32 : FVec Ideal S_ .f32) : FVec Ideal S_ .f32) ix0)) ?_ ?_
  · after_reads_at
  · rw [mask_at, show (id (constant S_ .f32 0xFF800000#32 : FVec Ideal S_ .f32) : FVec Ideal S_ .f32) ix0 = ⊥ from word_bot, msc, sc, coe_sum]
    simp only [H.hq, H.hk, word_alpha, ← EReal.coe_mul]

/-- The two host lines that take the largest score of a row. -/
theorem cut17 (b : Ref sig .tc) : StableHlo.after ((pre (F := Ideal)).flatten.take 19) (fun b => m (c, b)) b
    = StableHlo.after (((pre (F := Ideal)).flatten.drop 17).take 2) (StableHlo.after ((pre (F := Ideal)).flatten.take 17) fun b => m (c, b)) b := by
  rw [← after_append]
  rfl

/-- They leave the scores as they are. -/
theorem score19 (H : Args m c q k v g) (h : Fin 8) (i j : Fin 8192) :
    (StableHlo.after ((pre (F := Ideal)).flatten.take 19) (fun b => m (c, b)) main_v9 : FVec Ideal S8x8192x8192 .f32) (ix3 h i j) = msc q k alpha h i j := by
  rw [← score H, cut17]
  generalize StableHlo.after ((pre (F := Ideal)).flatten.take 17) (fun b => m (c, b)) = X
  after_reads_simp

/-- The largest score of a row. -/
theorem top19 (H : Args m c q k v g) (h : Fin 8) (i : Fin 8192) :
    (StableHlo.after ((pre (F := Ideal)).flatten.take 19) (fun b => m (c, b)) main_v10 : FVec Ideal S8x8192 .f32) (ix2 h i) = (mx q k alpha h i : EReal) := by
  rw [cut17, ← fold_msc]
  have e := score H h i
  generalize StableHlo.after ((pre (F := Ideal)).flatten.take 17) (fun b => m (c, b)) = X at e ⊢
  after_reads_simp
  refine (red_max _ _ h i).trans ?_
  rw [word_bot]
  exact congrArg (fun f : Fin 8192 → EReal => Finset.fold max ⊥ f Finset.univ) (funext e)

/-- The arguments pass the lines. -/
theorem arg19 : (StableHlo.after ((pre (F := Ideal)).flatten.take 19) (fun b => m (c, b)) main_arg2 = A2 m c)
    ∧ (StableHlo.after ((pre (F := Ideal)).flatten.take 19) (fun b => m (c, b)) main_arg3 = A3 m c) := by
  constructor <;> after_reads_simp

/-- The host lines up to the softmax's denominator. -/
theorem cut25 (b : Ref sig .tc) : StableHlo.after ((pre (F := Ideal)).flatten.take 25) (fun b => m (c, b)) b
    = StableHlo.after (((pre (F := Ideal)).flatten.drop 19).take 6) (StableHlo.after ((pre (F := Ideal)).flatten.take 19) fun b => m (c, b)) b := by
  rw [← after_append]
  rfl

/-- The softmax's denominator. -/
theorem den25 (H : Args m c q k v g) (h : Fin 8) (i : Fin 8192) :
    (StableHlo.after ((pre (F := Ideal)).flatten.take 25) (fun b => m (c, b)) main_v15 : FVec Ideal S8x8192 .f32) (ix2 h i) = (den q k alpha h i : EReal) := by
  rw [cut25, den, coe_sum, Finset.sum_congr rfl fun j _ => (exp_msc q k alpha h i j).symm, ← top19 H, Finset.sum_congr rfl fun j _ => by rw [← score19 H h i j]]
  generalize StableHlo.after ((pre (F := Ideal)).flatten.take 19) (fun b => m (c, b)) = X
  after_reads_simp
  refine (red_sum _ _ h i).trans ?_
  rw [show Ideal.ofBits .f32 0x00000000#32 = 0 by simp [Ideal.ofBits, Ideal.ieee], zero_add]
  refine Finset.sum_congr rfl fun j _ => ?_
  pointwise

/-- The largest score of a row, one more axis. -/
theorem top25 (H : Args m c q k v g) (h : Fin 8) (i : Fin 8192) :
    (StableHlo.after ((pre (F := Ideal)).flatten.take 25) (fun b => m (c, b)) main_v11 : FVec Ideal S8x8192x1 .f32) (ix3 h i 0) = (mx q k alpha h i : EReal) := by
  rw [cut25, ← top19 H]
  generalize StableHlo.after ((pre (F := Ideal)).flatten.take 19) (fun b => m (c, b)) = X
  after_reads_at

/-- The host lines, cut after the softmax's denominator. -/
theorem V_cut25 (b : Ref sig .tc) : V m c b = StableHlo.after ((pre (F := Ideal)).flatten.drop 25)
    (StableHlo.after ((pre (F := Ideal)).flatten.take 25) fun b => m (c, b)) b := by
  show StableHlo.after _ _ _ = _
  rw [← after_append, List.take_append_drop]

/-- The saved row from the largest score and the denominator, before the call's lines. -/
theorem lse_read (X : Valuation τ sig (Elt Ideal)) (h : Fin 8) (i : Fin 8192) (x : FVec Ideal S8x8192x1 .f32) (y : FVec Ideal S8x8192 .f32)
    (hx : X main_v11 = x) (hy : X main_v15 = y) :
    (StableHlo.after ((pre (F := Ideal)).flatten.drop 25) X main_v27 : FVec Ideal S8x1x8192 .f32) (ix3 h 0 i)
      = Ideal.div (x (ix3 h i 0) + Ideal.log (y (ix2 h i))) ((id (Host.log (constant S_ .f32 0x40000000#32 : FVec Ideal S_ .f32)) : FVec Ideal S_ .f32) ix0) := by
  rw [← hx, ← hy]
  after_reads_at

/-- The saved row: the logarithm of the softmax's denominator in base-two units. -/
theorem lse_apply (H : Args m c q k v g) (h : Fin 8) (i : Fin 8192) :
    (V m c main_v27 : FVec Ideal S8x1x8192 .f32) (ix3 h 0 i)
      = (((mx q k alpha h i + Real.log (den q k alpha h i)) / Real.log 2 : ℝ) : EReal) := by
  have h2 : Real.log 2 ≠ 0 := (Real.log_pos one_lt_two).ne'
  refine (congrFun (V_cut25 main_v27) (ix3 h 0 i)).trans ((lse_read _ h i _ _ rfl rfl).trans ?_)
  rw [top25 H, den25 H, log_two, Ideal.log_coe, if_neg (den_pos q k alpha h i).not_ge, ← EReal.coe_add, div_real _ _ h2]

/-- The saved row sum: the output's cotangent times the output. -/
theorem dlt_apply (H : Args m c q k v g) (h : Fin 8) (i : Fin 8192) :
    (V m c main_v31 : FVec Ideal S8x1x8192 .f32) (ix3 h 0 i) = (dl q k v g alpha h i : EReal) := by
  refine Eq.trans (b := ∑ e, A3 m c (ix3 i h e) * ∑ j, A2 m c (ix3 j h e)
        * Ideal.div (Ideal.exp (msc q k alpha h i j - (mx q k alpha h i : EReal)))
          (∑ j, Ideal.exp (msc q k alpha h i j - (mx q k alpha h i : EReal)))) ?_ ?_
  · rw [← top19 H, ← arg19.1, ← arg19.2]
    simp only [← score19 H]
    rw [V_cut]
    generalize StableHlo.after ((pre (F := Ideal)).flatten.take 19) (fun b => m (c, b)) = X
    after_reads_at
  · simp only [exp_msc, H.hg, H.hv]
    rw [← coe_sum, show (∑ j, ex q k alpha h i j) = den q k alpha h i from rfl]
    simp only [div_real _ _ (den_pos q k alpha h i).ne', ← EReal.coe_mul, ← coe_sum]
    refine congrArg _ ?_
    unfold dl dp pr
    simp only [Finset.mul_sum]
    rw [Finset.sum_comm]
    exact Finset.sum_congr rfl fun j _ => Finset.sum_congr rfl fun e _ => by ring

/-- The call's arrays at real arguments. -/
theorem real6 (H : Args m c q k v g) :
    Real6 q k v g alpha (V m c main_v38) (V m c main_v41) (V m c main_v43) (V m c main_v45) (V m c main_v27) (V m c main_v31) :=
  ⟨qs_apply H, kp_apply H, vp_apply H, fun i h e => go_apply H h i e, lse_apply H, dlt_apply H⟩

end Cert.Proof.AttnHost
-- ==== Proof.AttnRef.lean ====
module

public import proofs.«01_k».proof.Defs
public import proofs.«01_k».proof.Proof.Gen.Reference6Ideal.Read
public import Idealize.ShloMosaic.Lib.Pointwise
public import proofs.«01_k».proof.Proof.AttnHost

@[expose] public section

set_option maxRecDepth 16384
set_option Elab.async false

noncomputable section

/-! What the derivative of the attention computes, at real arguments. -/

namespace Cert.Proof.AttnRef

open Cert.Reference6Ideal Cert.Reference6Ideal.Read Cert.Proof.AttnReal Cert.Proof.AttnHost
open Idealize.ShloMosaic Idealize.ShloMosaic.TcCoe Idealize.SL.Sem

/-- The word of zero. -/
theorem word_zero : Ideal.ofBits .f32 0x00000000#32 = 0 := by simp [Ideal.ofBits, Ideal.ieee]
/-- The word of one. -/
theorem word_one : Ideal.ofBits .f32 0x3F800000#32 = ((1 : ℝ) : EReal) := by
  simp [Ideal.ofBits, Ideal.ieee, -EReal.coe_mul]; norm_num

variable {Q K : FVec Ideal S8192x8x192 .f32} {W G : FVec Ideal S8192x8x128 .f32}
  {q k : Fin 8192 → Fin 8 → Fin 192 → ℝ} {v g : Fin 8192 → Fin 8 → Fin 128 → ℝ}

/-- A masked score. -/
theorem v9 (hq : ∀ i h d, Q (ix3 i h d) = (q i h d : EReal)) (hk : ∀ i h d, K (ix3 i h d) = (k i h d : EReal)) (h : Fin 8) (i j : Fin 8192) :
    val_main_v9_0 (F := Ideal) Q K (ix3 h i j) = msc q k alpha h i j := by
  refine Eq.trans (b := Scalar.select (IntOp.cmpi .sge (BitVec.ofNat 32 i.val) (BitVec.ofNat 32 j.val))
      (∑ d, Q (ix3 i h d) * Ideal.ofBits .f32 0x3D93CD3A#32 * K (ix3 j h d))
      ((id (constant S_ .f32 0xFF800000#32 : FVec Ideal S_ .f32) : FVec Ideal S_ .f32) ix0)) ?_ ?_
  · pointwise [val_main_v0, val_main_cst, val_main_v1, val_main_v2, val_main_v3, val_main_v4, val_main_v5, val_main_v6, val_main_v7, val_main_v8, val_main_call0_v0, val_main_cst_0, val_main_call0_v2, val_main_v9_0, val_main_v9_1]
  · rw [mask_at, show (id (constant S_ .f32 0xFF800000#32 : FVec Ideal S_ .f32) : FVec Ideal S_ .f32) ix0 = ⊥ from word_bot, msc, sc, coe_sum]
    simp only [hq, hk, word_alpha, ← EReal.coe_mul]

/-- The mask's bit at a place. -/
theorem v9m {α : Type} (h : Fin 8) (i j : Fin 8192) (x y : α) :
    Scalar.select (val_main_v9_1 (F := Ideal) (ix3 h i j)) x y = if j.val ≤ i.val then x else y := by
  rw [← mask_at]
  pointwise [val_main_v3, val_main_v4, val_main_v5, val_main_v6, val_main_v7, val_main_v8, val_main_v9_1]

/-- The largest entry of a row. -/
theorem red_max (x : FVec Ideal S8x8192x8192 .f32) (w : BitVec 32) (h : Fin 8) (i : Fin 8192) :
    Host.reduce FloatOps.maximumf x (constant S_ .f32 w) Gen.reducesTo_S8x8192x8192_S8x8192_d2 Gen.h_S_ (ix2 h i)
      = Finset.fold max (Ideal.ofBits .f32 w) (fun j => x (ix3 h i j)) Finset.univ := by
  pointwise

/-- The largest score of a row. -/
theorem v10 (hq : ∀ i h d, Q (ix3 i h d) = (q i h d : EReal)) (hk : ∀ i h d, K (ix3 i h d) = (k i h d : EReal)) (h : Fin 8) (i : Fin 8192) :
    val_main_v10 (F := Ideal) Q K (ix2 h i) = (mx q k alpha h i : EReal) := by
  refine (red_max (val_main_v9_0 (F := Ideal) Q K) 0xFF800000#32 h i).trans (Eq.trans ?_ (fold_msc q k alpha h i))
  rw [word_bot]
  exact congrArg (fun f : Fin 8192 → EReal => Finset.fold max ⊥ f Finset.univ) (funext fun j => v9 hq hk h i j)

/-- The exponential of a score. -/
theorem v30 (hq : ∀ i h d, Q (ix3 i h d) = (q i h d : EReal)) (hk : ∀ i h d, K (ix3 i h d) = (k i h d : EReal)) (h : Fin 8) (i j : Fin 8192) :
    val_main_v30 (F := Ideal) Q K (ix3 h i j) = (ex q k alpha h i j : EReal) := by
  refine Eq.trans (b := Ideal.exp (val_main_v9_0 (F := Ideal) Q K (ix3 h i j) - max (Ideal.ofBits .f32 0xFF800000#32) (val_main_v10 (F := Ideal) Q K (ix2 h i)))) ?_ ?_
  · rw [val_main_v30_apply, val_main_v29_apply, val_main_v28_apply, val_main_v27_apply, val_main_v17_apply, val_main_v16_apply,
      show idx_main_v27 (idx_main_v28 (ix3 h i j)) = ix2 h i from funext fun a => by fin_cases a <;> rfl]
    generalize val_main_v10 (F := Ideal) Q K = x
    generalize val_main_v9_0 (F := Ideal) Q K = y
    rfl
  · rw [v9 hq hk, v10 hq hk, word_bot, max_eq_right bot_le, exp_msc]

/-- The softmax's denominator. -/
theorem v31 (hq : ∀ i h d, Q (ix3 i h d) = (q i h d : EReal)) (hk : ∀ i h d, K (ix3 i h d) = (k i h d : EReal)) (h : Fin 8) (i : Fin 8192) :
    val_main_v31 (F := Ideal) Q K (ix2 h i) = (den q k alpha h i : EReal) := by
  refine Eq.trans (b := Ideal.ofBits .f32 0x00000000#32 + ∑ j, val_main_v30 (F := Ideal) Q K (ix3 h i j)) ?_ ?_
  · generalize hx : val_main_v30 (F := Ideal) Q K = x
    pointwise [val_main_v31, val_main_cst_9, hx]
  · rw [word_zero, zero_add, den, coe_sum]
    exact Finset.sum_congr rfl fun j _ => v30 hq hk h i j

/-- The score's cotangent. -/
theorem v56 (hq : ∀ i h d, Q (ix3 i h d) = (q i h d : EReal)) (hk : ∀ i h d, K (ix3 i h d) = (k i h d : EReal))
    (hv : ∀ i h e, W (ix3 i h e) = (v i h e : EReal)) (hg : ∀ i h e, G (ix3 i h e) = (g i h e : EReal)) (h : Fin 8) (i j : Fin 8192) :
    val_main_v56 (F := Ideal) Q K W G (ix3 h i j) = (ds q k v g alpha h i j : EReal) := by
  refine Eq.trans (b := Scalar.select (val_main_v9_1 (F := Ideal) (ix3 h i j))
      ((Ideal.div (∑ e, G (ix3 i h e) * W (ix3 j h e)) (val_main_v31 (F := Ideal) Q K (ix2 h i))
        + (Ideal.ofBits .f32 0x00000000#32 + ∑ z : Fin 1, -(Ideal.ofBits .f32 0x00000000#32 + ∑ x, (∑ e, G (ix3 i h e) * W (ix3 x h e))
            * Ideal.div (Ideal.ofBits .f32 0x3F800000#32) (val_main_v31 (F := Ideal) Q K (ix2 h i) * val_main_v31 (F := Ideal) Q K (ix2 h i))
            * val_main_v30 (F := Ideal) Q K (ix3 h i x))))
        * val_main_v30 (F := Ideal) Q K (ix3 h i j)) (Ideal.ofBits .f32 0x00000000#32)) ?_ ?_
  · generalize hx : val_main_v30 (F := Ideal) Q K = x
    generalize hy : val_main_v31 (F := Ideal) Q K = y
    generalize hz : val_main_v9_1 (F := Ideal) = z
    pointwise [val_main_v32, val_main_v33, val_main_v35, val_main_v36, val_main_v37, val_main_v40, val_main_v41, val_main_v44, val_main_v45, val_main_v46, val_main_v47, val_main_v48, val_main_v49, val_main_v50, val_main_v51, val_main_v52, val_main_v53, val_main_v54, val_main_v55, val_main_v56, val_main_call1_v0, val_main_call1_cst, val_main_cst_10, val_main_cst_11, val_main_cst_12, hx, hy, hz]
  · have hL : den q k alpha h i ≠ 0 := (den_pos q k alpha h i).ne'
    rw [v9m, v31 hq hk, word_zero, word_one, ← EReal.coe_mul, div_real _ _ (mul_ne_zero hL hL)]
    simp only [v30 hq hk, hv, hg, ← EReal.coe_mul, ← coe_sum, div_real _ _ hL, zero_add, ← EReal.coe_neg, ← EReal.coe_add]
    unfold ds pr dl pr
    split
    · refine congrArg _ ?_
      simp only [Finset.univ_unique, Finset.sum_const, Finset.card_singleton, one_smul]
      have e : ∀ x, (∑ e, g i h e * v x h e) = dp v g h i x := fun x => Finset.sum_congr rfl fun e _ => mul_comm _ _
      simp only [e]
      have e2 : (∑ x, dp v g h i x * (1 / (den q k alpha h i * den q k alpha h i)) * ex q k alpha h i x)
          = (∑ x, ex q k alpha h i x / den q k alpha h i * dp v g h i x) / den q k alpha h i := by
        rw [Finset.sum_div]
        exact Finset.sum_congr rfl fun x _ => by field_simp
      rw [e2]
      field_simp
      try ring
    · rename_i hc
      rw [show ex q k alpha h i j = 0 from if_neg hc, zero_div, zero_mul, EReal.coe_zero]

/-- The gradient of the queries. -/
theorem v63 (hq : ∀ i h d, Q (ix3 i h d) = (q i h d : EReal)) (hk : ∀ i h d, K (ix3 i h d) = (k i h d : EReal))
    (hv : ∀ i h e, W (ix3 i h e) = (v i h e : EReal)) (hg : ∀ i h e, G (ix3 i h e) = (g i h e : EReal)) (h : Fin 8) (i : Fin 8192) (d : Fin 256) :
    val_main_v63 (F := Ideal) Q K W G (ix3 h i d) = ((if hd : d.val < 192 then ∑ j, ds q k v g alpha h i j * k j h ⟨d.val, hd⟩ else 0 : ℝ) : EReal) := by
  refine Eq.trans (b := if hd : d.val < 192 then ∑ x, val_main_v56 (F := Ideal) Q K W G (ix3 h i x) * K (ix3 x h ⟨d.val, hd⟩)
      else (FloatOps.sitofp .f32 0#32 : Ideal .f32)) ?_ ?_
  · generalize hx : val_main_v56 (F := Ideal) Q K W G = x
    pointwise [val_main_v59, val_main_v60, val_main_v61, val_main_v62, val_main_v63, val_main_call2_v0, val_main_c, hx]
  · split
    · simp only [v56 hq hk hv hg, hk, ← EReal.coe_mul, ← coe_sum]
    · show ((((0#32 : BitVec 32).toInt : ℝ)) : EReal) = _
      simp

/-- The gradient of the keys. -/
theorem v66 (hq : ∀ i h d, Q (ix3 i h d) = (q i h d : EReal)) (hk : ∀ i h d, K (ix3 i h d) = (k i h d : EReal))
    (hv : ∀ i h e, W (ix3 i h e) = (v i h e : EReal)) (hg : ∀ i h e, G (ix3 i h e) = (g i h e : EReal)) (h : Fin 8) (j : Fin 8192) (d : Fin 256) :
    val_main_v66 (F := Ideal) Q K W G (ix3 h j d) = ((if hd : d.val < 192 then ∑ i, ds q k v g alpha h i j * (q i h ⟨d.val, hd⟩ * alpha) else 0 : ℝ) : EReal) := by
  refine Eq.trans (b := if hd : d.val < 192 then ∑ x, val_main_v56 (F := Ideal) Q K W G (ix3 h x j) * (Q (ix3 x h ⟨d.val, hd⟩) * Ideal.ofBits .f32 0x3D93CD3A#32)
      else (FloatOps.sitofp .f32 0#32 : Ideal .f32)) ?_ ?_
  · generalize hx : val_main_v56 (F := Ideal) Q K W G = x
    pointwise [val_main_v57, val_main_v58, val_main_v64, val_main_v65, val_main_v66, val_main_v1, val_main_v0, val_main_cst, val_main_call3_v0, val_main_c_13, hx]
  · split
    · simp only [v56 hq hk hv hg, hq, word_alpha, ← EReal.coe_mul, ← coe_sum]
    · show ((((0#32 : BitVec 32).toInt : ℝ)) : EReal) = _
      simp

/-- The gradient of the values. -/
theorem v68 (hq : ∀ i h d, Q (ix3 i h d) = (q i h d : EReal)) (hk : ∀ i h d, K (ix3 i h d) = (k i h d : EReal))
    (hg : ∀ i h e, G (ix3 i h e) = (g i h e : EReal)) (h : Fin 8) (j : Fin 8192) (e : Fin 128) :
    val_main_v68 (F := Ideal) Q K G (ix3 h j e) = ((∑ i, pr q k alpha h i j * g i h e : ℝ) : EReal) := by
  refine Eq.trans (b := ∑ x, G (ix3 x h e) * Ideal.div (val_main_v30 (F := Ideal) Q K (ix3 h x j)) (val_main_v31 (F := Ideal) Q K (ix2 h x))) ?_ ?_
  · generalize hx : val_main_v30 (F := Ideal) Q K = x
    generalize hy : val_main_v31 (F := Ideal) Q K = y
    pointwise [val_main_v42, val_main_v43, val_main_v34, val_main_v33, val_main_v32, val_main_v40, val_main_v67, val_main_v68, hx, hy]
  · rw [coe_sum]
    refine Finset.sum_congr rfl fun i _ => ?_
    rw [v30 hq hk, v31 hq hk, hg, div_real _ _ (den_pos q k alpha h i).ne', ← EReal.coe_mul, mul_comm, pr]

end Cert.Proof.AttnRef
-- ==== Proof.AttnFrame.lean ====
module

public import proofs.«01_k».proof.Proof.Gen.Kernel6Ideal.Launch
public import proofs.«01_k».proof.Proof.Gen.Kernel6Ideal.Skeleton
public import proofs.«01_k».proof.Proof.AttnPipe
public import proofs.«01_k».proof.Proof.Gen.Kernel6.Launch
public import proofs.«01_k».proof.Defs
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Proof.AttnRun

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg)

variable {F : FTy → Type} [FloatOps F] [Named F]

local notation "𝕄" => MT nD τ sig Unit (Elt F) ℕ (UR sig nD τ) ℕ

/-- Every named constant read as its word. -/
@[reducible] def words : Named Bits := ⟨fun _ _ {φ} b => FloatOps.ofBits φ b⟩

set_option maxHeartbeats 2000000 in
/-- The printed program is the idealized one with every named constant read as its word. -/
theorem same_bits : @Cert.quiescent_Kernel6 Cert.Kernel6.Gen.facts = (letI := words; ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) ∧ r.2.sem = fun _ => 0)) := by
  sl_kernel_rfl

/-- The frame of the printed program. -/
theorem frame_bits : Cert.quiescent_Kernel6 (hKernel6 := Cert.Kernel6.Gen.facts) := by
  rw [same_bits]
  exact fun m g _ => letI := words; frame (F := Bits) m g

/-- The frame of the idealized program. -/
theorem frame_ideal : Cert.quiescent_Kernel6Ideal (hKernel6Ideal := Cert.Kernel6Ideal.Gen.facts) := fun m g _ => frame (F := Ideal) m g

end Cert.Proof.AttnRun

end
-- ==== Proof.AttnValue.lean ====
module

public import proofs.«01_k».proof.Proof.AttnRef
public import proofs.«01_k».proof.Proof.AttnFrame
public import proofs.«01_k».proof.Proof.Gen.Reference6Ideal.Run
public import Idealize.ShloMosaic.Lib.ReduceAll
public import Idealize.ShloMosaic.Lib.Claim

@[expose] public section

set_option maxRecDepth 16384
set_option Elab.async false

noncomputable section

/-! The attention's backward call ends with the derivative's results. -/

namespace Cert.Proof.AttnValue

open Cert.Kernel6Ideal Cert.Kernel6Ideal.Gen Cert.Proof.AttnRun Cert.Proof.AttnReal Cert.Proof.AttnHost Cert.Proof.AttnFinal
open Idealize.ShloMosaic Idealize.ShloMosaic.TcCoe Idealize.SL.Sem
open Idealize.ShloMosaic.Pipeline (Dat RDat)

/-- The side conditions of the precondition's lines. -/
theorem pre_facts : Cert.Pre_finite_qkv.Facts where
  bcast_S_S8192x8x192 := by decide
  reducesTo_S8192x8x192_S_d0_1_2 := by decide
  h_S_ := by decide
  bcast_S_S8192x8x128 := by decide
  reducesTo_S8192x8x128_S_d0_1_2 := by decide

/-- The word of the precondition's bound is infinity. -/
theorem word_top : Ideal.ofBits .f32 0x7F800000#32 = (⊤ : EReal) := by simp [Ideal.ofBits, Ideal.ieee]

/-- A value below infinity in size is real. -/
theorem real_of_abs {x : EReal} (h : Ideal.cmp .olt (max x (-x)) ⊤ = 1#1) : x = (x.toReal : EReal) := by
  induction x with
  | bot => simp [Ideal.cmp] at h
  | top => simp [Ideal.cmp] at h
  | coe y => rfl

variable (m : (ℓ : Loc nD τ sig) → Buf (Elt Ideal) ℓ)

/-- What the precondition says: the queries, keys, values and the output's cotangent are real everywhere. -/
theorem args_of_pre (h : @Cert.Pre_Kernel6Ideal_finite_qkv pre_facts m) (c : Dev nD) :
    Args m c (fun i h d => (A0 m c (ix3 i h d)).toReal) (fun i h d => (A1 m c (ix3 i h d)).toReal)
      (fun i h d => (A2 m c (ix3 i h d)).toReal) (fun i h d => (A3 m c (ix3 i h d)).toReal) := by
  letI := pre_facts
  have e := congrFun (h c) (fun d => d.elim0)
  have hs : Subsingleton Cert.Pre_finite_qkv.S_.Idx := ⟨fun a b => funext fun d => d.elim0⟩
  unfold Cert.Pre_finite_qkv.fn Cert.Pre_finite_qkv.fn_part1 at e
  dsimp only at e
  replace e := IntOp.andi_eq_one.mp e
  obtain ⟨e, e3⟩ := e
  replace e := IntOp.andi_eq_one.mp e
  obtain ⟨e, e2⟩ := e
  replace e := IntOp.andi_eq_one.mp e
  obtain ⟨e0, e1⟩ := e
  refine ⟨fun i h d => real_of_abs ?_, fun i h d => real_of_abs ?_, fun i h d => real_of_abs ?_, fun i h d => real_of_abs ?_⟩
  · rw [← word_top]; exact Host.reduce_andi_all _ _ _ _ _ e0 (ix3 i h d)
  · rw [← word_top]; exact Host.reduce_andi_all _ _ _ _ _ e1 (ix3 i h d)
  · rw [← word_top]; exact Host.reduce_andi_all _ _ _ _ _ e2 (ix3 i h d)
  · rw [← word_top]; exact Host.reduce_andi_all _ _ _ _ _ e3 (ix3 i h d)

open Cert.Reference6Ideal.Read in
/-- The queries' gradient, whole. -/
theorem whole6 {c : Dev nD} {q k : Fin 8192 → Fin 8 → Fin 192 → ℝ} {v g : Fin 8192 → Fin 8 → Fin 128 → ℝ} (H : Args m c q k v g)
    (G : S8x8192x256.Idx → EReal) (hG : (rdat m c).ArrAt 6 (cfgA (F := Ideal)).N G) :
    G = (val_main_v63 (F := Ideal) (A0 m c) (A1 m c) (A2 m c) (A3 m c) : FVec Ideal S8x8192x256 .f32) := by
  funext i
  rw [final6 m c G hG i, ← ix3_eta i]
  exact (dq_real (real6 H) _ _ _).trans (AttnRef.v63 H.hq H.hk H.hv H.hg _ _ _).symm

open Cert.Reference6Ideal.Read in
/-- The keys' gradient, whole. -/
theorem whole7 {c : Dev nD} {q k : Fin 8192 → Fin 8 → Fin 192 → ℝ} {v g : Fin 8192 → Fin 8 → Fin 128 → ℝ} (H : Args m c q k v g)
    (G : S8x8192x256.Idx → EReal) (hG : (rdat m c).ArrAt 7 (cfgA (F := Ideal)).N G) :
    G = (val_main_v66 (F := Ideal) (A0 m c) (A1 m c) (A2 m c) (A3 m c) : FVec Ideal S8x8192x256 .f32) := by
  funext i
  rw [final7 m c G hG i, ← ix3_eta i]
  exact (dk_real (real6 H) _ _ _).trans (AttnRef.v66 H.hq H.hk H.hv H.hg _ _ _).symm

open Cert.Reference6Ideal.Read in
/-- The values' gradient, whole. -/
theorem whole8 {c : Dev nD} {q k : Fin 8192 → Fin 8 → Fin 192 → ℝ} {v g : Fin 8192 → Fin 8 → Fin 128 → ℝ} (H : Args m c q k v g)
    (G : S8x8192x128.Idx → EReal) (hG : (rdat m c).ArrAt 8 (cfgA (F := Ideal)).N G) :
    G = (val_main_v68 (F := Ideal) (A0 m c) (A1 m c) (A3 m c) : FVec Ideal S8x8192x128 .bf16) := by
  funext i
  rw [final8 m c G hG i, ← ix3_eta i]
  exact (dv_real (real6 H) _ _ _).trans (AttnRef.v68 H.hq H.hk H.hg _ _ _).symm

open Cert.Reference6Ideal.Read in
/-- From finite arguments the attention's backward call ends with the derivative's gradients of queries, keys and values. -/
theorem claim : Cert.algebraic_Kernel6Ideal_Reference6Ideal_pre_finite_qkv (hKernel6Ideal := Cert.Kernel6Ideal.Gen.facts)
    (hReference6Ideal := Cert.Reference6Ideal.Gen.facts) (hPre_finite_qkv := pre_facts) := by
  intro m g m' g' hpre hagree
  refine ⟨fun c => val_main_v63 (F := Ideal) (A0 m c) (A1 m c) (A2 m c) (A3 m c), fun c => val_main_v66 (F := Ideal) (A0 m c) (A1 m c) (A2 m c) (A3 m c),
    fun c => val_main_v68 (F := Ideal) (A0 m c) (A1 m c) (A3 m c), ?_, ?_⟩
  · exact (θ_run _ _ _).mono (fun r h c => ⟨whole6 m (args_of_pre m hpre c) _ ((h.1 c).1 6), whole7 m (args_of_pre m hpre c) _ ((h.1 c).1 7),
      whole8 m (args_of_pre m hpre c) _ ((h.1 c).1 8), args_kept m h.1 c⟩) (run m g)
  · refine (θ_run _ _ _).mono (fun r h c => ?_) (Cert.Reference6Ideal.Value.run (F := Ideal) m' g')
    obtain ⟨a0, a1, a2, a3⟩ := hagree c
    refine ⟨(h c).1.trans ?_, (h c).2.1.trans ?_, (h c).2.2.1.trans ?_, (h c).2.2.2⟩
    · rw [val_main_v63_eq, a0, a1, a2, a3]
    · rw [val_main_v66_eq, a0, a1, a2, a3]
    · rw [val_main_v68_eq, a0, a1, a3]

end Cert.Proof.AttnValue

end
-- ==== Proof.Up.lean ====
module

public import proofs.«01_k».proof.Defs
public import proofs.«01_k».proof.Proof.Gen.Kernel7Ideal.Frame
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

/-! The up projection and the squared ReLU. -/

namespace Cert.Kernel7Ideal.Up

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The blocks of the four windows at each grid point. -/
theorem idx : ∀ t : Fin cfg0.N, win0_0.index t = ![t.val % 8, 0] ∧ win0_1.index t = ![0, t.val / 8]
    ∧ win0_2.index t = ![t.val % 8, t.val / 8] ∧ win0_3.index t = ![t.val % 8, t.val / 8] :=
  (by decide +kernel : ∀ t : Fin grid0.N, _)

open Cert.Reference7Ideal.Read in
/-- One grid point writes the reference's ReLU at its block. -/
theorem relu_point (c : Dev nD) (t : Fin cfg0.N) (y) : k0_pay1 (iblk m c 0 t) (iblk m c 1 t) y
    = val_main_v1 (F := Ideal) (m ((c : Thread nD τ).loc main_arg0)) (m ((c : Thread nD τ).loc main_arg1))
      (((cfg0.win 3).blk t).view.emb y) := by
  pointwise [k0_pay1, val_main_v0, val_main_v1, val_main_call0_v0, val_main_call0_cst]
  blk_point [iblk, V, idx t] <;>
  · show StableHlo.after hostOps0 _ _ _ = _
    unfold hostOps0
    after_results
    pointwise
    blk_point [idx t]

open Cert.Reference7Ideal.Read in
/-- The second result is the ReLU. -/
theorem final3 (c : Dev nD) : (dats m 0 c).arrAt 3 (cfgs 0).N
    = val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact relu_point m c t y

open Cert.Reference7Ideal.Read in
/-- The first result is its square. -/
theorem final2 (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact congrArg (fun r : EReal => r * r) (relu_point m c t y)

/-- `up`: from the same arguments the call and the squared ReLU end with equal results. -/
theorem claim : Cert.algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
  · run_from Cert.Reference7Ideal.Value.run m' g'
    · exact (final2 m c).symm
    · exact (final3 m c).symm

end Cert.Kernel7Ideal.Up

end
-- ==== Proof.NormMix.lean ====
module

public import proofs.«01_k».proof.Defs
public import proofs.«01_k».proof.Proof.Gen.Kernel8Ideal.Frame
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

/-! The first norm. -/

namespace Cert.Kernel8Ideal.NormMix

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The blocks of the three windows at each grid point. -/
theorem idx : ∀ t : Fin cfg0.N, win0_0.index t = ![t.val, 0] ∧ win0_1.index t = ![0, 0] ∧ win0_2.index t = ![t.val, 0] :=
  (by decide +kernel : ∀ t : Fin grid0.N, _)

open Cert.Reference8Ideal.Read in
/-- One grid point writes the reference's normed rows at its block. -/
theorem point (c : Dev nD) (t : Fin cfg0.N) (y) : k0_pay1 (iblk m c 0 t) (iblk m c 1 t) y
    = val_main_v13 (F := Ideal) (m ((c : Thread nD τ).loc main_arg0)) (m ((c : Thread nD τ).loc main_arg1))
      (((cfg0.win 2).blk t).view.emb y) := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  blk_point [iblk, V, idx t] <;>
  · show StableHlo.after hostOps0 _ _ _ = _
    unfold hostOps0
    after_results
    pointwise
    blk_point [idx t]

/-- The call's result array is the reference's. -/
theorem final (c : Dev nD) : (dats m 0 c).arrAt 2 (cfgs 0).N
    = Cert.Reference8Ideal.Read.val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- `norm_mix`: from the same arguments the call and the norm end with equal results. -/
theorem claim : Cert.algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · run_from Cert.Reference8Ideal.Value.run m' g'
    · exact (final m c).symm

end Cert.Kernel8Ideal.NormMix

end
-- ==== Proof.AdamWIn.lean ====
module
public import proofs.«01_k».proof.Defs
public import proofs.«01_k».proof.Proof.Gen.Kernel9Ideal.Frame
public import proofs.«01_k».proof.Proof.Gen.Reference9Ideal.Read
public import Idealize.ShloMosaic.Lib.Pipeline.ValueKit
public import Idealize.ShloMosaic.Lib.Pointwise
public import Idealize.ShloMosaic.Lib.Claim

@[expose] public section

set_option maxRecDepth 16384

noncomputable section

/-! One step of AdamW on one device's shard of a weight. -/

namespace Cert.Kernel9Ideal.AdamWIn

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The blocks of the windows at each grid point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The block of the parts at a grid point, one device at a time. -/
theorem part (c : Dev nD) (t : Fin cfg0.N) (y : S256x584.Idx) (j : Fin 8) : iblk m c 3 t (ix3 j (y 0) (y 1))
    = m ((c : Thread nD τ).loc main_arg3) (ix3 j ((((cfg0.win 4).blk t).view.emb y) 0) ((((cfg0.win 4).blk t).view.emb y) 1)) := by
  blk_point [iblk, V, idx t] <;>
  · show StableHlo.after hostOps0 _ _ _ = _
    unfold hostOps0
    after_results
    pointwise
    blk_point [idx t]

open Cert.Reference9Ideal.Read in
/-- At one grid point the sum of the eight parts is the reference's sum at that block. -/
theorem gsum (c : Dev nD) (t : Fin cfg0.N) (y : S256x584.Idx) : k0_pay5 (iblk m c 0 t) (iblk m c 1 t) (iblk m c 2 t) (iblk m c 3 t) y
    = val_main_v0 (F := Ideal) (m ((c : Thread nD τ).loc main_arg3)) (((cfg0.win 4).blk t).view.emb y) := by
  unfold k0_pay5
  pointwise [k0_pay4, val_main_v0, val_main_cst]
  rw [Fin.sum_univ_eight]
  rw [part m c t y 0, part m c t y 1, part m c t y 2, part m c t y 3, part m c t y 4, part m c t y 5, part m c t y 6, part m c t y 7]

/-- The weight's, first moment's and second moment's blocks at a grid point. -/
theorem rows (c : Dev nD) (t : Fin cfg0.N) (y : S256x584.Idx) :
    iblk m c 0 t y = m ((c : Thread nD τ).loc main_arg0) (((cfg0.win 4).blk t).view.emb y)
    ∧ iblk m c 1 t y = m ((c : Thread nD τ).loc main_arg1) (((cfg0.win 4).blk t).view.emb y)
    ∧ iblk m c 2 t y = m ((c : Thread nD τ).loc main_arg2) (((cfg0.win 4).blk t).view.emb y) := by
  refine ⟨?_, ?_, ?_⟩
  · blk_point [iblk, V, idx t]
  · blk_point [iblk, V, idx t]
  · blk_point [iblk, V, idx t]

open Cert.Reference9Ideal.Read in
/-- The gradient is the sum of the devices' parts. -/
theorem final4 (c : Dev nD) : (dats m 0 c).arrAt 4 (cfgs 0).N
    = val_main_v0 (F := Ideal) (m ((c : Thread nD τ).loc main_arg3)) := by
  refine (dats m 0 c).arrAt_eq_of_covers 4 _ (by decide +kernel) fun t _ y => ?_
  blk_simp
  rw [after0_4]; frame_out
  exact gsum m c t y

open Cert.Reference9Ideal.Read in
/-- The new first moment. -/
theorem final6 (c : Dev nD) : (dats m 0 c).arrAt 6 (cfgs 0).N
    = val_main_v5 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  obtain ⟨_, h1, _⟩ := rows m c t y
  pointwise [k0_pay1, val_main_cst_0, val_main_v2, val_main_v1, val_main_cst_1, val_main_v3, val_main_v4, val_main_v5]
  rw [gsum m c t y, h1]
  rfl

open Cert.Reference9Ideal.Read in
/-- The new second moment. -/
theorem final7 (c : Dev nD) : (dats m 0 c).arrAt 7 (cfgs 0).N
    = val_main_v11 (F := Ideal) (m ((c : Thread nD τ).loc main_arg2)) (m ((c : Thread nD τ).loc main_arg3)) := by
  refine (dats m 0 c).arrAt_eq_of_covers 7 _ (by decide +kernel) fun t _ y => ?_
  blk_simp
  rw [after0_7]; frame_out
  obtain ⟨_, _, h2⟩ := rows m c t y
  pointwise [k0_pay2, val_main_cst_2, val_main_v6, val_main_v7, val_main_v8, val_main_cst_3, val_main_v9, val_main_v10, val_main_v11]
  rw [gsum m c t y, h2]
  rfl

open Cert.Reference9Ideal.Read in
/-- The update that is added to the weight. -/
theorem final5 (c : Dev nD) : (dats m 0 c).arrAt 5 (cfgs 0).N
    = val_main_v24 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]; frame_out
  obtain ⟨h0, h1, h2⟩ := rows m c t y
  pointwise [k0_pay3, k0_pay1, k0_pay2, val_main_cst_0, val_main_v2, val_main_v1, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [gsum m c t y, h0, h1, h2]
  rfl

set_option maxHeartbeats 4000000 in
/-- `adamw_w_in`: from the same arguments the call and one step of AdamW end with equal gradient, update and moments. -/
theorem claim : Cert.algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
  · run_from Cert.Reference9Ideal.Value.run m' g'
    · exact (final4 m c).symm
    · exact (final5 m c).symm
    · exact (final6 m c).symm
    · exact (final7 m c).symm

end Cert.Kernel9Ideal.AdamWIn

end
-- ==== Proof.AdamWUq.lean ====
module
public import proofs.«01_k».proof.Defs
public import proofs.«01_k».proof.Proof.Gen.Kernel10Ideal.Frame
public import proofs.«01_k».proof.Proof.Gen.Reference10Ideal.Read
public import Idealize.ShloMosaic.Lib.Pipeline.ValueKit
public import Idealize.ShloMosaic.Lib.Pointwise
public import Idealize.ShloMosaic.Lib.Claim

@[expose] public section

set_option maxRecDepth 16384

noncomputable section

/-! One step of AdamW on one device's shard of a weight. -/

namespace Cert.Kernel10Ideal.AdamWUq

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The blocks of the windows at each grid point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The block of the parts at a grid point, one device at a time. -/
theorem part (c : Dev nD) (t : Fin cfg0.N) (y : S128x192.Idx) (j : Fin 8) : iblk m c 3 t (ix3 j (y 0) (y 1))
    = m ((c : Thread nD τ).loc main_arg3) (ix3 j ((((cfg0.win 4).blk t).view.emb y) 0) ((((cfg0.win 4).blk t).view.emb y) 1)) := by
  blk_point [iblk, V, idx t] <;>
  · show StableHlo.after hostOps0 _ _ _ = _
    unfold hostOps0
    after_results
    pointwise
    blk_point [idx t]

open Cert.Reference10Ideal.Read in
/-- At one grid point the sum of the eight parts is the reference's sum at that block. -/
theorem gsum (c : Dev nD) (t : Fin cfg0.N) (y : S128x192.Idx) : k0_pay5 (iblk m c 0 t) (iblk m c 1 t) (iblk m c 2 t) (iblk m c 3 t) y
    = val_main_v0 (F := Ideal) (m ((c : Thread nD τ).loc main_arg3)) (((cfg0.win 4).blk t).view.emb y) := by
  unfold k0_pay5
  pointwise [k0_pay4, val_main_v0, val_main_cst]
  rw [Fin.sum_univ_eight]
  rw [part m c t y 0, part m c t y 1, part m c t y 2, part m c t y 3, part m c t y 4, part m c t y 5, part m c t y 6, part m c t y 7]

/-- The weight's, first moment's and second moment's blocks at a grid point. -/
theorem rows (c : Dev nD) (t : Fin cfg0.N) (y : S128x192.Idx) :
    iblk m c 0 t y = m ((c : Thread nD τ).loc main_arg0) (((cfg0.win 4).blk t).view.emb y)
    ∧ iblk m c 1 t y = m ((c : Thread nD τ).loc main_arg1) (((cfg0.win 4).blk t).view.emb y)
    ∧ iblk m c 2 t y = m ((c : Thread nD τ).loc main_arg2) (((cfg0.win 4).blk t).view.emb y) := by
  refine ⟨?_, ?_, ?_⟩
  · blk_point [iblk, V, idx t]
  · blk_point [iblk, V, idx t]
  · blk_point [iblk, V, idx t]

open Cert.Reference10Ideal.Read in
/-- The gradient is the sum of the devices' parts. -/
theorem final4 (c : Dev nD) : (dats m 0 c).arrAt 4 (cfgs 0).N
    = val_main_v0 (F := Ideal) (m ((c : Thread nD τ).loc main_arg3)) := by
  refine (dats m 0 c).arrAt_eq_of_covers 4 _ (by decide +kernel) fun t _ y => ?_
  blk_simp
  rw [after0_4]; frame_out
  exact gsum m c t y

open Cert.Reference10Ideal.Read in
/-- The new first moment. -/
theorem final6 (c : Dev nD) : (dats m 0 c).arrAt 6 (cfgs 0).N
    = val_main_v5 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  obtain ⟨_, h1, _⟩ := rows m c t y
  pointwise [k0_pay1, val_main_cst_0, val_main_v2, val_main_v1, val_main_cst_1, val_main_v3, val_main_v4, val_main_v5]
  rw [gsum m c t y, h1]
  rfl

open Cert.Reference10Ideal.Read in
/-- The new second moment. -/
theorem final7 (c : Dev nD) : (dats m 0 c).arrAt 7 (cfgs 0).N
    = val_main_v11 (F := Ideal) (m ((c : Thread nD τ).loc main_arg2)) (m ((c : Thread nD τ).loc main_arg3)) := by
  refine (dats m 0 c).arrAt_eq_of_covers 7 _ (by decide +kernel) fun t _ y => ?_
  blk_simp
  rw [after0_7]; frame_out
  obtain ⟨_, _, h2⟩ := rows m c t y
  pointwise [k0_pay2, val_main_cst_2, val_main_v6, val_main_v7, val_main_v8, val_main_cst_3, val_main_v9, val_main_v10, val_main_v11]
  rw [gsum m c t y, h2]
  rfl

open Cert.Reference10Ideal.Read in
/-- The update that is added to the weight. -/
theorem final5 (c : Dev nD) : (dats m 0 c).arrAt 5 (cfgs 0).N
    = val_main_v24 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]; frame_out
  obtain ⟨h0, h1, h2⟩ := rows m c t y
  pointwise [k0_pay3, k0_pay1, k0_pay2, val_main_cst_0, val_main_v2, val_main_v1, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [gsum m c t y, h0, h1, h2]
  rfl

set_option maxHeartbeats 4000000 in
/-- `adamw_w_uq`: from the same arguments the call and one step of AdamW end with equal gradient, update and moments. -/
theorem claim : Cert.algebraic_Kernel10Ideal_Reference10Ideal (hKernel10Ideal := Cert.Kernel10Ideal.Gen.facts)
    (hReference10Ideal := Cert.Reference10Ideal.Gen.facts) := by
  pair_intro
  · run_from Cert.Kernel10Ideal.Gen.run_main m g
  · run_from Cert.Reference10Ideal.Value.run m' g'
    · exact (final4 m c).symm
    · exact (final5 m c).symm
    · exact (final6 m c).symm
    · exact (final7 m c).symm

end Cert.Kernel10Ideal.AdamWUq

end
-- ==== Proof.AdamWUkv.lean ====
module
public import proofs.«01_k».proof.Defs
public import proofs.«01_k».proof.Proof.Gen.Kernel11Ideal.Frame
public import proofs.«01_k».proof.Proof.Gen.Reference11Ideal.Read
public import Idealize.ShloMosaic.Lib.Pipeline.ValueKit
public import Idealize.ShloMosaic.Lib.Pointwise
public import Idealize.ShloMosaic.Lib.Claim

@[expose] public section

set_option maxRecDepth 16384

noncomputable section

/-! One step of AdamW on one device's shard of a weight. -/

namespace Cert.Kernel11Ideal.AdamWUkv

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The blocks of the windows at each grid point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The block of the parts at a grid point, one device at a time. -/
theorem part (c : Dev nD) (t : Fin cfg0.N) (y : S128x256.Idx) (j : Fin 8) : iblk m c 3 t (ix3 j (y 0) (y 1))
    = m ((c : Thread nD τ).loc main_arg3) (ix3 j ((((cfg0.win 4).blk t).view.emb y) 0) ((((cfg0.win 4).blk t).view.emb y) 1)) := by
  blk_point [iblk, V, idx t] <;>
  · show StableHlo.after hostOps0 _ _ _ = _
    unfold hostOps0
    after_results
    pointwise
    blk_point [idx t]

open Cert.Reference11Ideal.Read in
/-- At one grid point the sum of the eight parts is the reference's sum at that block. -/
theorem gsum (c : Dev nD) (t : Fin cfg0.N) (y : S128x256.Idx) : k0_pay5 (iblk m c 0 t) (iblk m c 1 t) (iblk m c 2 t) (iblk m c 3 t) y
    = val_main_v0 (F := Ideal) (m ((c : Thread nD τ).loc main_arg3)) (((cfg0.win 4).blk t).view.emb y) := by
  unfold k0_pay5
  pointwise [k0_pay4, val_main_v0, val_main_cst]
  rw [Fin.sum_univ_eight]
  rw [part m c t y 0, part m c t y 1, part m c t y 2, part m c t y 3, part m c t y 4, part m c t y 5, part m c t y 6, part m c t y 7]

/-- The weight's, first moment's and second moment's blocks at a grid point. -/
theorem rows (c : Dev nD) (t : Fin cfg0.N) (y : S128x256.Idx) :
    iblk m c 0 t y = m ((c : Thread nD τ).loc main_arg0) (((cfg0.win 4).blk t).view.emb y)
    ∧ iblk m c 1 t y = m ((c : Thread nD τ).loc main_arg1) (((cfg0.win 4).blk t).view.emb y)
    ∧ iblk m c 2 t y = m ((c : Thread nD τ).loc main_arg2) (((cfg0.win 4).blk t).view.emb y) := by
  refine ⟨?_, ?_, ?_⟩
  · blk_point [iblk, V, idx t]
  · blk_point [iblk, V, idx t]
  · blk_point [iblk, V, idx t]

open Cert.Reference11Ideal.Read in
/-- The gradient is the sum of the devices' parts. -/
theorem final4 (c : Dev nD) : (dats m 0 c).arrAt 4 (cfgs 0).N
    = val_main_v0 (F := Ideal) (m ((c : Thread nD τ).loc main_arg3)) := by
  refine (dats m 0 c).arrAt_eq_of_covers 4 _ (by decide +kernel) fun t _ y => ?_
  blk_simp
  rw [after0_4]; frame_out
  exact gsum m c t y

open Cert.Reference11Ideal.Read in
/-- The new first moment. -/
theorem final6 (c : Dev nD) : (dats m 0 c).arrAt 6 (cfgs 0).N
    = val_main_v5 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  obtain ⟨_, h1, _⟩ := rows m c t y
  pointwise [k0_pay1, val_main_cst_0, val_main_v2, val_main_v1, val_main_cst_1, val_main_v3, val_main_v4, val_main_v5]
  rw [gsum m c t y, h1]
  rfl

open Cert.Reference11Ideal.Read in
/-- The new second moment. -/
theorem final7 (c : Dev nD) : (dats m 0 c).arrAt 7 (cfgs 0).N
    = val_main_v11 (F := Ideal) (m ((c : Thread nD τ).loc main_arg2)) (m ((c : Thread nD τ).loc main_arg3)) := by
  refine (dats m 0 c).arrAt_eq_of_covers 7 _ (by decide +kernel) fun t _ y => ?_
  blk_simp
  rw [after0_7]; frame_out
  obtain ⟨_, _, h2⟩ := rows m c t y
  pointwise [k0_pay2, val_main_cst_2, val_main_v6, val_main_v7, val_main_v8, val_main_cst_3, val_main_v9, val_main_v10, val_main_v11]
  rw [gsum m c t y, h2]
  rfl

open Cert.Reference11Ideal.Read in
/-- The update that is added to the weight. -/
theorem final5 (c : Dev nD) : (dats m 0 c).arrAt 5 (cfgs 0).N
    = val_main_v24 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]; frame_out
  obtain ⟨h0, h1, h2⟩ := rows m c t y
  pointwise [k0_pay3, k0_pay1, k0_pay2, val_main_cst_0, val_main_v2, val_main_v1, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [gsum m c t y, h0, h1, h2]
  rfl

set_option maxHeartbeats 4000000 in
/-- `adamw_w_ukv`: from the same arguments the call and one step of AdamW end with equal gradient, update and moments. -/
theorem claim : Cert.algebraic_Kernel11Ideal_Reference11Ideal (hKernel11Ideal := Cert.Kernel11Ideal.Gen.facts)
    (hReference11Ideal := Cert.Reference11Ideal.Gen.facts) := by
  pair_intro
  · run_from Cert.Kernel11Ideal.Gen.run_main m g
  · run_from Cert.Reference11Ideal.Value.run m' g'
    · exact (final4 m c).symm
    · exact (final5 m c).symm
    · exact (final6 m c).symm
    · exact (final7 m c).symm

end Cert.Kernel11Ideal.AdamWUkv

end
-- ==== Proof.AdamWOut.lean ====
module
public import proofs.«01_k».proof.Defs
public import proofs.«01_k».proof.Proof.Gen.Kernel12Ideal.Frame
public import proofs.«01_k».proof.Proof.Gen.Reference12Ideal.Read
public import Idealize.ShloMosaic.Lib.Pipeline.ValueKit
public import Idealize.ShloMosaic.Lib.Pointwise
public import Idealize.ShloMosaic.Lib.Claim

@[expose] public section

set_option maxRecDepth 16384

noncomputable section

/-! One step of AdamW on one device's shard of a weight. -/

namespace Cert.Kernel12Ideal.AdamWOut

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- The blocks of the windows at each grid point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The block of the parts at a grid point, one device at a time. -/
theorem part (c : Dev nD) (t : Fin cfg0.N) (y : S64x1024.Idx) (j : Fin 8) : iblk m c 3 t (ix3 j (y 0) (y 1))
    = m ((c : Thread nD τ).loc main_arg3) (ix3 j ((((cfg0.win 4).blk t).view.emb y) 0) ((((cfg0.win 4).blk t).view.emb y) 1)) := by
  blk_point [iblk, V, idx t] <;>
  · show StableHlo.after hostOps0 _ _ _ = _
    unfold hostOps0
    after_results
    pointwise
    blk_point [idx t]

open Cert.Reference12Ideal.Read in
/-- At one grid point the sum of the eight parts is the reference's sum at that block. -/
theorem gsum (c : Dev nD) (t : Fin cfg0.N) (y : S64x1024.Idx) : k0_pay5 (iblk m c 0 t) (iblk m c 1 t) (iblk m c 2 t) (iblk m c 3 t) y
    = val_main_v0 (F := Ideal) (m ((c : Thread nD τ).loc main_arg3)) (((cfg0.win 4).blk t).view.emb y) := by
  unfold k0_pay5
  pointwise [k0_pay4, val_main_v0, val_main_cst]
  rw [Fin.sum_univ_eight]
  rw [part m c t y 0, part m c t y 1, part m c t y 2, part m c t y 3, part m c t y 4, part m c t y 5, part m c t y 6, part m c t y 7]

/-- The weight's, first moment's and second moment's blocks at a grid point. -/
theorem rows (c : Dev nD) (t : Fin cfg0.N) (y : S64x1024.Idx) :
    iblk m c 0 t y = m ((c : Thread nD τ).loc main_arg0) (((cfg0.win 4).blk t).view.emb y)
    ∧ iblk m c 1 t y = m ((c : Thread nD τ).loc main_arg1) (((cfg0.win 4).blk t).view.emb y)
    ∧ iblk m c 2 t y = m ((c : Thread nD τ).loc main_arg2) (((cfg0.win 4).blk t).view.emb y) := by
  refine ⟨?_, ?_, ?_⟩
  · blk_point [iblk, V, idx t]
  · blk_point [iblk, V, idx t]
  · blk_point [iblk, V, idx t]

open Cert.Reference12Ideal.Read in
/-- The gradient is the sum of the devices' parts. -/
theorem final4 (c : Dev nD) : (dats m 0 c).arrAt 4 (cfgs 0).N
    = val_main_v0 (F := Ideal) (m ((c : Thread nD τ).loc main_arg3)) := by
  refine (dats m 0 c).arrAt_eq_of_covers 4 _ (by decide +kernel) fun t _ y => ?_
  blk_simp
  rw [after0_4]; frame_out
  exact gsum m c t y

open Cert.Reference12Ideal.Read in
/-- The new first moment. -/
theorem final6 (c : Dev nD) : (dats m 0 c).arrAt 6 (cfgs 0).N
    = val_main_v5 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  obtain ⟨_, h1, _⟩ := rows m c t y
  pointwise [k0_pay1, val_main_cst_0, val_main_v2, val_main_v1, val_main_cst_1, val_main_v3, val_main_v4, val_main_v5]
  rw [gsum m c t y, h1]
  rfl

open Cert.Reference12Ideal.Read in
/-- The new second moment. -/
theorem final7 (c : Dev nD) : (dats m 0 c).arrAt 7 (cfgs 0).N
    = val_main_v11 (F := Ideal) (m ((c : Thread nD τ).loc main_arg2)) (m ((c : Thread nD τ).loc main_arg3)) := by
  refine (dats m 0 c).arrAt_eq_of_covers 7 _ (by decide +kernel) fun t _ y => ?_
  blk_simp
  rw [after0_7]; frame_out
  obtain ⟨_, _, h2⟩ := rows m c t y
  pointwise [k0_pay2, val_main_cst_2, val_main_v6, val_main_v7, val_main_v8, val_main_cst_3, val_main_v9, val_main_v10, val_main_v11]
  rw [gsum m c t y, h2]
  rfl

open Cert.Reference12Ideal.Read in
/-- The update that is added to the weight. -/
theorem final5 (c : Dev nD) : (dats m 0 c).arrAt 5 (cfgs 0).N
    = val_main_v24 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]; frame_out
  obtain ⟨h0, h1, h2⟩ := rows m c t y
  pointwise [k0_pay3, k0_pay1, k0_pay2, val_main_cst_0, val_main_v2, val_main_v1, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [gsum m c t y, h0, h1, h2]
  rfl

set_option maxHeartbeats 4000000 in
/-- `adamw_w_out`: from the same arguments the call and one step of AdamW end with equal gradient, update and moments. -/
theorem claim : Cert.algebraic_Kernel12Ideal_Reference12Ideal (hKernel12Ideal := Cert.Kernel12Ideal.Gen.facts)
    (hReference12Ideal := Cert.Reference12Ideal.Gen.facts) := by
  pair_intro
  · run_from Cert.Kernel12Ideal.Gen.run_main m g
  · run_from Cert.Reference12Ideal.Value.run m' g'
    · exact (final4 m c).symm
    · exact (final5 m c).symm
    · exact (final6 m c).symm
    · exact (final7 m c).symm

end Cert.Kernel12Ideal.AdamWOut

end
-- ==== Proof.AdamWUp.lean ====
module
public import proofs.«01_k».proof.Defs
public import proofs.«01_k».proof.Proof.Gen.Kernel13Ideal.Frame
public import proofs.«01_k».proof.Proof.Gen.Reference13Ideal.Read
public import Idealize.ShloMosaic.Lib.Pipeline.ValueKit
public import Idealize.ShloMosaic.Lib.Pointwise
public import Idealize.ShloMosaic.Lib.Claim

@[expose] public section

set_option maxRecDepth 16384

noncomputable section

/-! One step of AdamW on one device's shard of a weight. -/

namespace Cert.Kernel13Ideal.AdamWUp

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- The blocks of the windows at each grid point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The block of the parts at a grid point, one device at a time. -/
theorem part (c : Dev nD) (t : Fin cfg0.N) (y : S256x512.Idx) (j : Fin 8) : iblk m c 3 t (ix3 j (y 0) (y 1))
    = m ((c : Thread nD τ).loc main_arg3) (ix3 j ((((cfg0.win 4).blk t).view.emb y) 0) ((((cfg0.win 4).blk t).view.emb y) 1)) := by
  blk_point [iblk, V, idx t] <;>
  · show StableHlo.after hostOps0 _ _ _ = _
    unfold hostOps0
    after_results
    pointwise
    blk_point [idx t]

open Cert.Reference13Ideal.Read in
/-- At one grid point the sum of the eight parts is the reference's sum at that block. -/
theorem gsum (c : Dev nD) (t : Fin cfg0.N) (y : S256x512.Idx) : k0_pay5 (iblk m c 0 t) (iblk m c 1 t) (iblk m c 2 t) (iblk m c 3 t) y
    = val_main_v0 (F := Ideal) (m ((c : Thread nD τ).loc main_arg3)) (((cfg0.win 4).blk t).view.emb y) := by
  unfold k0_pay5
  pointwise [k0_pay4, val_main_v0, val_main_cst]
  rw [Fin.sum_univ_eight]
  rw [part m c t y 0, part m c t y 1, part m c t y 2, part m c t y 3, part m c t y 4, part m c t y 5, part m c t y 6, part m c t y 7]

/-- The weight's, first moment's and second moment's blocks at a grid point. -/
theorem rows (c : Dev nD) (t : Fin cfg0.N) (y : S256x512.Idx) :
    iblk m c 0 t y = m ((c : Thread nD τ).loc main_arg0) (((cfg0.win 4).blk t).view.emb y)
    ∧ iblk m c 1 t y = m ((c : Thread nD τ).loc main_arg1) (((cfg0.win 4).blk t).view.emb y)
    ∧ iblk m c 2 t y = m ((c : Thread nD τ).loc main_arg2) (((cfg0.win 4).blk t).view.emb y) := by
  refine ⟨?_, ?_, ?_⟩
  · blk_point [iblk, V, idx t]
  · blk_point [iblk, V, idx t]
  · blk_point [iblk, V, idx t]

open Cert.Reference13Ideal.Read in
/-- The gradient is the sum of the devices' parts. -/
theorem final4 (c : Dev nD) : (dats m 0 c).arrAt 4 (cfgs 0).N
    = val_main_v0 (F := Ideal) (m ((c : Thread nD τ).loc main_arg3)) := by
  refine (dats m 0 c).arrAt_eq_of_covers 4 _ (by decide +kernel) fun t _ y => ?_
  blk_simp
  rw [after0_4]; frame_out
  exact gsum m c t y

open Cert.Reference13Ideal.Read in
/-- The new first moment. -/
theorem final6 (c : Dev nD) : (dats m 0 c).arrAt 6 (cfgs 0).N
    = val_main_v5 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  obtain ⟨_, h1, _⟩ := rows m c t y
  pointwise [k0_pay1, val_main_cst_0, val_main_v2, val_main_v1, val_main_cst_1, val_main_v3, val_main_v4, val_main_v5]
  rw [gsum m c t y, h1]
  rfl

open Cert.Reference13Ideal.Read in
/-- The new second moment. -/
theorem final7 (c : Dev nD) : (dats m 0 c).arrAt 7 (cfgs 0).N
    = val_main_v11 (F := Ideal) (m ((c : Thread nD τ).loc main_arg2)) (m ((c : Thread nD τ).loc main_arg3)) := by
  refine (dats m 0 c).arrAt_eq_of_covers 7 _ (by decide +kernel) fun t _ y => ?_
  blk_simp
  rw [after0_7]; frame_out
  obtain ⟨_, _, h2⟩ := rows m c t y
  pointwise [k0_pay2, val_main_cst_2, val_main_v6, val_main_v7, val_main_v8, val_main_cst_3, val_main_v9, val_main_v10, val_main_v11]
  rw [gsum m c t y, h2]
  rfl

open Cert.Reference13Ideal.Read in
/-- The update that is added to the weight. -/
theorem final5 (c : Dev nD) : (dats m 0 c).arrAt 5 (cfgs 0).N
    = val_main_v24 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]; frame_out
  obtain ⟨h0, h1, h2⟩ := rows m c t y
  pointwise [k0_pay3, k0_pay1, k0_pay2, val_main_cst_0, val_main_v2, val_main_v1, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [gsum m c t y, h0, h1, h2]
  rfl

set_option maxHeartbeats 4000000 in
/-- `adamw_w_up`: from the same arguments the call and one step of AdamW end with equal gradient, update and moments. -/
theorem claim : Cert.algebraic_Kernel13Ideal_Reference13Ideal (hKernel13Ideal := Cert.Kernel13Ideal.Gen.facts)
    (hReference13Ideal := Cert.Reference13Ideal.Gen.facts) := by
  pair_intro
  · run_from Cert.Kernel13Ideal.Gen.run_main m g
  · run_from Cert.Reference13Ideal.Value.run m' g'
    · exact (final4 m c).symm
    · exact (final5 m c).symm
    · exact (final6 m c).symm
    · exact (final7 m c).symm

end Cert.Kernel13Ideal.AdamWUp

end
-- ==== Proof.AdamWDown.lean ====
module
public import proofs.«01_k».proof.Defs
public import proofs.«01_k».proof.Proof.Gen.Kernel14Ideal.Frame
public import proofs.«01_k».proof.Proof.Gen.Reference14Ideal.Read
public import Idealize.ShloMosaic.Lib.Pipeline.ValueKit
public import Idealize.ShloMosaic.Lib.Pointwise
public import Idealize.ShloMosaic.Lib.Claim

@[expose] public section

set_option maxRecDepth 16384

noncomputable section

/-! One step of AdamW on one device's shard of a weight. -/

namespace Cert.Kernel14Ideal.AdamWDown

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- The blocks of the windows at each grid point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The block of the parts at a grid point, one device at a time. -/
theorem part (c : Dev nD) (t : Fin cfg0.N) (y : S128x1024.Idx) (j : Fin 8) : iblk m c 3 t (ix3 j (y 0) (y 1))
    = m ((c : Thread nD τ).loc main_arg3) (ix3 j ((((cfg0.win 4).blk t).view.emb y) 0) ((((cfg0.win 4).blk t).view.emb y) 1)) := by
  blk_point [iblk, V, idx t] <;>
  · show StableHlo.after hostOps0 _ _ _ = _
    unfold hostOps0
    after_results
    pointwise
    blk_point [idx t]

open Cert.Reference14Ideal.Read in
/-- At one grid point the sum of the eight parts is the reference's sum at that block. -/
theorem gsum (c : Dev nD) (t : Fin cfg0.N) (y : S128x1024.Idx) : k0_pay5 (iblk m c 0 t) (iblk m c 1 t) (iblk m c 2 t) (iblk m c 3 t) y
    = val_main_v0 (F := Ideal) (m ((c : Thread nD τ).loc main_arg3)) (((cfg0.win 4).blk t).view.emb y) := by
  unfold k0_pay5
  pointwise [k0_pay4, val_main_v0, val_main_cst]
  rw [Fin.sum_univ_eight]
  rw [part m c t y 0, part m c t y 1, part m c t y 2, part m c t y 3, part m c t y 4, part m c t y 5, part m c t y 6, part m c t y 7]

/-- The weight's, first moment's and second moment's blocks at a grid point. -/
theorem rows (c : Dev nD) (t : Fin cfg0.N) (y : S128x1024.Idx) :
    iblk m c 0 t y = m ((c : Thread nD τ).loc main_arg0) (((cfg0.win 4).blk t).view.emb y)
    ∧ iblk m c 1 t y = m ((c : Thread nD τ).loc main_arg1) (((cfg0.win 4).blk t).view.emb y)
    ∧ iblk m c 2 t y = m ((c : Thread nD τ).loc main_arg2) (((cfg0.win 4).blk t).view.emb y) := by
  refine ⟨?_, ?_, ?_⟩
  · blk_point [iblk, V, idx t]
  · blk_point [iblk, V, idx t]
  · blk_point [iblk, V, idx t]

open Cert.Reference14Ideal.Read in
/-- The gradient is the sum of the devices' parts. -/
theorem final4 (c : Dev nD) : (dats m 0 c).arrAt 4 (cfgs 0).N
    = val_main_v0 (F := Ideal) (m ((c : Thread nD τ).loc main_arg3)) := by
  refine (dats m 0 c).arrAt_eq_of_covers 4 _ (by decide +kernel) fun t _ y => ?_
  blk_simp
  rw [after0_4]; frame_out
  exact gsum m c t y

open Cert.Reference14Ideal.Read in
/-- The new first moment. -/
theorem final6 (c : Dev nD) : (dats m 0 c).arrAt 6 (cfgs 0).N
    = val_main_v5 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  obtain ⟨_, h1, _⟩ := rows m c t y
  pointwise [k0_pay1, val_main_cst_0, val_main_v2, val_main_v1, val_main_cst_1, val_main_v3, val_main_v4, val_main_v5]
  rw [gsum m c t y, h1]
  rfl

open Cert.Reference14Ideal.Read in
/-- The new second moment. -/
theorem final7 (c : Dev nD) : (dats m 0 c).arrAt 7 (cfgs 0).N
    = val_main_v11 (F := Ideal) (m ((c : Thread nD τ).loc main_arg2)) (m ((c : Thread nD τ).loc main_arg3)) := by
  refine (dats m 0 c).arrAt_eq_of_covers 7 _ (by decide +kernel) fun t _ y => ?_
  blk_simp
  rw [after0_7]; frame_out
  obtain ⟨_, _, h2⟩ := rows m c t y
  pointwise [k0_pay2, val_main_cst_2, val_main_v6, val_main_v7, val_main_v8, val_main_cst_3, val_main_v9, val_main_v10, val_main_v11]
  rw [gsum m c t y, h2]
  rfl

open Cert.Reference14Ideal.Read in
/-- The update that is added to the weight. -/
theorem final5 (c : Dev nD) : (dats m 0 c).arrAt 5 (cfgs 0).N
    = val_main_v24 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]; frame_out
  obtain ⟨h0, h1, h2⟩ := rows m c t y
  pointwise [k0_pay3, k0_pay1, k0_pay2, val_main_cst_0, val_main_v2, val_main_v1, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [gsum m c t y, h0, h1, h2]
  rfl

set_option maxHeartbeats 4000000 in
/-- `adamw_w_down`: from the same arguments the call and one step of AdamW end with equal gradient, update and moments. -/
theorem claim : Cert.algebraic_Kernel14Ideal_Reference14Ideal (hKernel14Ideal := Cert.Kernel14Ideal.Gen.facts)
    (hReference14Ideal := Cert.Reference14Ideal.Gen.facts) := by
  pair_intro
  · run_from Cert.Kernel14Ideal.Gen.run_main m g
  · run_from Cert.Reference14Ideal.Value.run m' g'
    · exact (final4 m c).symm
    · exact (final5 m c).symm
    · exact (final6 m c).symm
    · exact (final7 m c).symm

end Cert.Kernel14Ideal.AdamWDown

end
-- ==== Proof.AdamWConv.lean ====
module
public import proofs.«01_k».proof.Defs
public import proofs.«01_k».proof.Proof.Gen.Kernel15Ideal.Frame
public import proofs.«01_k».proof.Proof.Gen.Reference15Ideal.Read
public import Idealize.ShloMosaic.Lib.Pipeline.ValueKit
public import Idealize.ShloMosaic.Lib.Pointwise
public import Idealize.ShloMosaic.Lib.Claim

@[expose] public section

set_option maxRecDepth 16384

noncomputable section

/-! One step of AdamW on one device's columns of conv_w. -/

namespace Cert.Kernel15Ideal.AdamWConv

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- The blocks of the windows at each grid point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

open Cert.Reference15Ideal.Read in
/-- The one part of the gradient is the reference's sum over the one part. -/
theorem gsum (c : Dev nD) (t : Fin cfg0.N) (y : S8x128.Idx) : k0_pay1 (iblk m c 3 t) y
    = val_main_v0 (F := Ideal) (m ((c : Thread nD τ).loc main_arg3)) (((cfg0.win 4).blk t).view.emb y) := by
  pointwise [k0_pay1, val_main_v0, val_main_cst]
  rw [Fin.sum_univ_one]
  blk_point [iblk, V, idx t]

/-- The weight's, first moment's and second moment's blocks at a grid point. -/
theorem rows (c : Dev nD) (t : Fin cfg0.N) (y : S8x128.Idx) :
    iblk m c 0 t y = m ((c : Thread nD τ).loc main_arg0) (((cfg0.win 4).blk t).view.emb y)
    ∧ iblk m c 1 t y = m ((c : Thread nD τ).loc main_arg1) (((cfg0.win 4).blk t).view.emb y)
    ∧ iblk m c 2 t y = m ((c : Thread nD τ).loc main_arg2) (((cfg0.win 4).blk t).view.emb y) := by
  refine ⟨?_, ?_, ?_⟩
  · blk_point [iblk, V, idx t]
  · blk_point [iblk, V, idx t]
  · blk_point [iblk, V, idx t]

open Cert.Reference15Ideal.Read in
/-- The gradient is the sum of the devices' parts. -/
theorem final4 (c : Dev nD) : (dats m 0 c).arrAt 4 (cfgs 0).N
    = val_main_v0 (F := Ideal) (m ((c : Thread nD τ).loc main_arg3)) := by
  refine (dats m 0 c).arrAt_eq_of_covers 4 _ (by decide +kernel) fun t _ y => ?_
  blk_simp
  rw [after0_4]; frame_out
  exact gsum m c t y

open Cert.Reference15Ideal.Read in
/-- The new first moment. -/
theorem final6 (c : Dev nD) : (dats m 0 c).arrAt 6 (cfgs 0).N
    = val_main_v5 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  obtain ⟨_, h1, _⟩ := rows m c t y
  pointwise [k0_pay2, val_main_cst_0, val_main_v2, val_main_v1, val_main_cst_1, val_main_v3, val_main_v4, val_main_v5]
  rw [gsum m c t y, h1]
  rfl

open Cert.Reference15Ideal.Read in
/-- The new second moment. -/
theorem final7 (c : Dev nD) : (dats m 0 c).arrAt 7 (cfgs 0).N
    = val_main_v11 (F := Ideal) (m ((c : Thread nD τ).loc main_arg2)) (m ((c : Thread nD τ).loc main_arg3)) := by
  refine (dats m 0 c).arrAt_eq_of_covers 7 _ (by decide +kernel) fun t _ y => ?_
  blk_simp
  rw [after0_7]; frame_out
  obtain ⟨_, _, h2⟩ := rows m c t y
  pointwise [k0_pay3, val_main_cst_2, val_main_v6, val_main_v7, val_main_v8, val_main_cst_3, val_main_v9, val_main_v10, val_main_v11]
  rw [gsum m c t y, h2]
  rfl

open Cert.Reference15Ideal.Read in
/-- The update that is added to the weight. -/
theorem final5 (c : Dev nD) : (dats m 0 c).arrAt 5 (cfgs 0).N
    = val_main_v24 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]; frame_out
  obtain ⟨h0, h1, h2⟩ := rows m c t y
  pointwise [k0_pay4, k0_pay2, k0_pay3, val_main_cst_0, val_main_v2, val_main_v1, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]
  rw [gsum m c t y, h0, h1, h2]
  rfl

set_option maxHeartbeats 4000000 in
/-- `adamw_conv_w`: from the same arguments the call and one step of AdamW end with equal gradient, update and moments. -/
theorem claim : Cert.algebraic_Kernel15Ideal_Reference15Ideal (hKernel15Ideal := Cert.Kernel15Ideal.Gen.facts)
    (hReference15Ideal := Cert.Reference15Ideal.Gen.facts) := by
  pair_intro
  · run_from Cert.Kernel15Ideal.Gen.run_main m g
  · run_from Cert.Reference15Ideal.Value.run m' g'
    · exact (final4 m c).symm
    · exact (final5 m c).symm
    · exact (final6 m c).symm
    · exact (final7 m c).symm

end Cert.Kernel15Ideal.AdamWConv

end
-- ==== Proof.AdamWSmallA.lean ====
module

public import proofs.«01_k».proof.Proof.Gen.Kernel16Ideal.Frame
public import proofs.«01_k».proof.Proof.Gen.Reference16Ideal.Read
public import Idealize.ShloMosaic.Lib.Pipeline.ValueKit
public import Idealize.ShloMosaic.Lib.Pointwise
public import Idealize.ShloMosaic.Lib.Claim

@[expose] public section

set_option maxRecDepth 16384

noncomputable section

/-! One step of AdamW on the weights that every device holds whole, one of each kind, and the sums of the devices' parts of the
gradient of conv_w and of the loss. -/

namespace Cert.Kernel16Ideal.AdamWSmallA

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- Every window is one block. -/
theorem idx : ∀ t : Fin cfg0.N, win0_0.index t = ![0, 0] ∧ win0_3.index t = ![0, 0] ∧ win0_6.index t = ![0, 0] ∧ win0_14.index t = ![0, 0] ∧ win0_15.index t = ![0, 0] ∧ win0_16.index t = ![0, 0] ∧ win0_17.index t = ![0, 0] ∧ win0_9.index t = ![0, 0, 0] :=
  (by decide +kernel : ∀ t : Fin grid0.N, _)

/-- The block of the parts, one device at a time: vector of 1024 entries. -/
theorem part0 (c : Dev nD) (t : Fin cfg0.N) (y : S8x128.Idx) (j : Fin 8) : iblk m c 9 t (ix3 j (y 0) (y 1))
    = m ((c : Thread nD τ).loc main_arg9) (ix3 j ((((cfg0.win 14).blk t).view.emb y) 0) ((((cfg0.win 14).blk t).view.emb y) 1)) := by
  blk_point [iblk, V, idx t]

/-- The blocks of the weight and of its moments: vector of 1024 entries. -/
theorem rows0 (c : Dev nD) (t : Fin cfg0.N) (y : S8x128.Idx) :
    iblk m c 0 t y = m ((c : Thread nD τ).loc main_arg0) (((cfg0.win 14).blk t).view.emb y)
    ∧ iblk m c 3 t y = m ((c : Thread nD τ).loc main_arg3) (((cfg0.win 14).blk t).view.emb y)
    ∧ iblk m c 6 t y = m ((c : Thread nD τ).loc main_arg6) (((cfg0.win 14).blk t).view.emb y) := by
  refine ⟨?_, ?_, ?_⟩ <;> blk_point [iblk, V, idx t]

open Cert.Reference16Ideal.Read in
set_option maxHeartbeats 1000000 in
/-- The gradient is the sum of the parts: vector of 1024 entries. -/
theorem final14 (c : Dev nD) : (dats m 0 c).arrAt 14 (cfgs 0).N
    = val_main_v0 (F := Ideal) (m ((c : Thread nD τ).loc main_arg9)) := by
  refine (dats m 0 c).arrAt_eq_of_covers 14 _ (by decide +kernel) fun t _ (y : S8x128.Idx) => ?_
  blk_simp
  rw [after0_14]; frame_out
  obtain ⟨h0, h1, h2⟩ := rows0 m c t y
  pointwise [k0_pay2, k0_pay3, k0_pay4, k0_pay5, k0_pay6, k0_pay25, k0_pay26, val_main_cst, val_main_cst_0, val_main_cst_1, val_main_cst_2, val_main_cst_3, val_main_cst_4, val_main_cst_5, val_main_cst_6, val_main_cst_7, val_main_cst_8, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24]
  rw [Fin.sum_univ_eight]
  have hp := part0 m c t y
  simp only [hp, h0, h1, h2]
  all_goals rfl

open Cert.Reference16Ideal.Read in
set_option maxHeartbeats 1000000 in
/-- The update: vector of 1024 entries. -/
theorem final15 (c : Dev nD) : (dats m 0 c).arrAt 15 (cfgs 0).N
    = val_main_v24 (F := Ideal) (m ((c : Thread nD τ).loc main_arg0)) (m ((c : Thread nD τ).loc main_arg3)) (m ((c : Thread nD τ).loc main_arg6)) (m ((c : Thread nD τ).loc main_arg9)) := by
  refine (dats m 0 c).arrAt_eq_of_covers 15 _ (by decide +kernel) fun t _ (y : S8x128.Idx) => ?_
  blk_simp
  rw [after0_15]; frame_out
  obtain ⟨h0, h1, h2⟩ := rows0 m c t y
  pointwise [k0_pay2, k0_pay3, k0_pay4, k0_pay5, k0_pay6, k0_pay25, k0_pay26, val_main_cst, val_main_cst_0, val_main_cst_1, val_main_cst_2, val_main_cst_3, val_main_cst_4, val_main_cst_5, val_main_cst_6, val_main_cst_7, val_main_cst_8, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24]
  rw [Fin.sum_univ_eight]
  have hp := part0 m c t y
  simp only [hp, h0, h1, h2]
  all_goals rfl

open Cert.Reference16Ideal.Read in
set_option maxHeartbeats 1000000 in
/-- The new first moment: vector of 1024 entries. -/
theorem final16 (c : Dev nD) : (dats m 0 c).arrAt 16 (cfgs 0).N
    = val_main_v5 (F := Ideal) (m ((c : Thread nD τ).loc main_arg3)) (m ((c : Thread nD τ).loc main_arg9)) := by
  refine (dats m 0 c).arrAt_eq_of_covers 16 _ (by decide +kernel) fun t _ (y : S8x128.Idx) => ?_
  blk_simp
  rw [after0_16]; frame_out
  obtain ⟨h0, h1, h2⟩ := rows0 m c t y
  pointwise [k0_pay2, k0_pay3, k0_pay4, k0_pay5, k0_pay6, k0_pay25, k0_pay26, val_main_cst, val_main_cst_0, val_main_cst_1, val_main_cst_2, val_main_cst_3, val_main_cst_4, val_main_cst_5, val_main_cst_6, val_main_cst_7, val_main_cst_8, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24]
  rw [Fin.sum_univ_eight]
  have hp := part0 m c t y
  simp only [hp, h0, h1, h2]
  all_goals rfl

open Cert.Reference16Ideal.Read in
set_option maxHeartbeats 1000000 in
/-- The new second moment: vector of 1024 entries. -/
theorem final17 (c : Dev nD) : (dats m 0 c).arrAt 17 (cfgs 0).N
    = val_main_v11 (F := Ideal) (m ((c : Thread nD τ).loc main_arg6)) (m ((c : Thread nD τ).loc main_arg9)) := by
  refine (dats m 0 c).arrAt_eq_of_covers 17 _ (by decide +kernel) fun t _ (y : S8x128.Idx) => ?_
  blk_simp
  rw [after0_17]; frame_out
  obtain ⟨h0, h1, h2⟩ := rows0 m c t y
  pointwise [k0_pay2, k0_pay3, k0_pay4, k0_pay5, k0_pay6, k0_pay25, k0_pay26, val_main_cst, val_main_cst_0, val_main_cst_1, val_main_cst_2, val_main_cst_3, val_main_cst_4, val_main_cst_5, val_main_cst_6, val_main_cst_7, val_main_cst_8, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24]
  rw [Fin.sum_univ_eight]
  have hp := part0 m c t y
  simp only [hp, h0, h1, h2]
  all_goals rfl

end Cert.Kernel16Ideal.AdamWSmallA

end
-- ==== Proof.AdamWSmallB.lean ====
module

public import proofs.«01_k».proof.Proof.Gen.Kernel16Ideal.Frame
public import proofs.«01_k».proof.Proof.Gen.Reference16Ideal.Read
public import Idealize.ShloMosaic.Lib.Pipeline.ValueKit
public import Idealize.ShloMosaic.Lib.Pointwise
public import Idealize.ShloMosaic.Lib.Claim

@[expose] public section

set_option maxRecDepth 16384

noncomputable section

/-! One step of AdamW on the weights that every device holds whole, one of each kind, and the sums of the devices' parts of the
gradient of conv_w and of the loss. -/

namespace Cert.Kernel16Ideal.AdamWSmallB

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- Every window is one block. -/
theorem idx : ∀ t : Fin cfg0.N, win0_1.index t = ![0, 0] ∧ win0_4.index t = ![0, 0] ∧ win0_7.index t = ![0, 0] ∧ win0_18.index t = ![0, 0] ∧ win0_19.index t = ![0, 0] ∧ win0_20.index t = ![0, 0] ∧ win0_21.index t = ![0, 0] ∧ win0_10.index t = ![0, 0, 0] :=
  (by decide +kernel : ∀ t : Fin grid0.N, _)

/-- The block of the parts, one device at a time: gates of the recurrence. -/
theorem part1 (c : Dev nD) (t : Fin cfg0.N) (y : S1024x128.Idx) (j : Fin 8) : iblk m c 10 t (ix3 j (y 0) (y 1))
    = m ((c : Thread nD τ).loc main_arg10) (ix3 j ((((cfg0.win 18).blk t).view.emb y) 0) ((((cfg0.win 18).blk t).view.emb y) 1)) := by
  blk_point [iblk, V, idx t] <;>
  · show StableHlo.after hostOps0 _ _ _ = _
    unfold hostOps0
    after_results
    pointwise
    blk_point [idx t]

/-- The blocks of the weight and of its moments: gates of the recurrence. -/
theorem rows1 (c : Dev nD) (t : Fin cfg0.N) (y : S1024x128.Idx) :
    iblk m c 1 t y = m ((c : Thread nD τ).loc main_arg1) (((cfg0.win 18).blk t).view.emb y)
    ∧ iblk m c 4 t y = m ((c : Thread nD τ).loc main_arg4) (((cfg0.win 18).blk t).view.emb y)
    ∧ iblk m c 7 t y = m ((c : Thread nD τ).loc main_arg7) (((cfg0.win 18).blk t).view.emb y) := by
  refine ⟨?_, ?_, ?_⟩ <;> blk_point [iblk, V, idx t]

open Cert.Reference16Ideal.Read in
set_option maxHeartbeats 1000000 in
/-- The gradient is the sum of the parts: gates of the recurrence. -/
theorem final18 (c : Dev nD) : (dats m 0 c).arrAt 18 (cfgs 0).N
    = val_main_v25 (F := Ideal) (m ((c : Thread nD τ).loc main_arg10)) := by
  refine (dats m 0 c).arrAt_eq_of_covers 18 _ (by decide +kernel) fun t _ (y : S1024x128.Idx) => ?_
  blk_simp
  rw [after0_18]; frame_out
  obtain ⟨h0, h1, h2⟩ := rows1 m c t y
  pointwise [k0_pay7, k0_pay8, k0_pay9, k0_pay10, k0_pay11, k0_pay12, k0_pay13, k0_pay27, k0_pay28, k0_pay29, k0_pay30, val_main_cst_9, val_main_cst_10, val_main_cst_11, val_main_cst_12, val_main_cst_13, val_main_cst_14, val_main_cst_15, val_main_cst_16, val_main_cst_17, val_main_cst_18, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49]
  rw [Fin.sum_univ_eight]
  have hp := part1 m c t y
  simp only [hp, h0, h1, h2]
  all_goals rfl

open Cert.Reference16Ideal.Read in
set_option maxHeartbeats 1000000 in
/-- The update: gates of the recurrence. -/
theorem final19 (c : Dev nD) : (dats m 0 c).arrAt 19 (cfgs 0).N
    = val_main_v49 (F := Ideal) (m ((c : Thread nD τ).loc main_arg1)) (m ((c : Thread nD τ).loc main_arg4)) (m ((c : Thread nD τ).loc main_arg7)) (m ((c : Thread nD τ).loc main_arg10)) := by
  refine (dats m 0 c).arrAt_eq_of_covers 19 _ (by decide +kernel) fun t _ (y : S1024x128.Idx) => ?_
  blk_simp
  rw [after0_19]; frame_out
  obtain ⟨h0, h1, h2⟩ := rows1 m c t y
  pointwise [k0_pay7, k0_pay8, k0_pay9, k0_pay10, k0_pay11, k0_pay12, k0_pay13, k0_pay27, k0_pay28, k0_pay29, k0_pay30, val_main_cst_9, val_main_cst_10, val_main_cst_11, val_main_cst_12, val_main_cst_13, val_main_cst_14, val_main_cst_15, val_main_cst_16, val_main_cst_17, val_main_cst_18, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49]
  rw [Fin.sum_univ_eight]
  have hp := part1 m c t y
  simp only [hp, h0, h1, h2]
  all_goals rfl

open Cert.Reference16Ideal.Read in
set_option maxHeartbeats 1000000 in
/-- The new first moment: gates of the recurrence. -/
theorem final20 (c : Dev nD) : (dats m 0 c).arrAt 20 (cfgs 0).N
    = val_main_v30 (F := Ideal) (m ((c : Thread nD τ).loc main_arg4)) (m ((c : Thread nD τ).loc main_arg10)) := by
  refine (dats m 0 c).arrAt_eq_of_covers 20 _ (by decide +kernel) fun t _ (y : S1024x128.Idx) => ?_
  blk_simp
  rw [after0_20]; frame_out
  obtain ⟨h0, h1, h2⟩ := rows1 m c t y
  pointwise [k0_pay7, k0_pay8, k0_pay9, k0_pay10, k0_pay11, k0_pay12, k0_pay13, k0_pay27, k0_pay28, k0_pay29, k0_pay30, val_main_cst_9, val_main_cst_10, val_main_cst_11, val_main_cst_12, val_main_cst_13, val_main_cst_14, val_main_cst_15, val_main_cst_16, val_main_cst_17, val_main_cst_18, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49]
  rw [Fin.sum_univ_eight]
  have hp := part1 m c t y
  simp only [hp, h0, h1, h2]
  all_goals rfl

open Cert.Reference16Ideal.Read in
set_option maxHeartbeats 1000000 in
/-- The new second moment: gates of the recurrence. -/
theorem final21 (c : Dev nD) : (dats m 0 c).arrAt 21 (cfgs 0).N
    = val_main_v36 (F := Ideal) (m ((c : Thread nD τ).loc main_arg7)) (m ((c : Thread nD τ).loc main_arg10)) := by
  refine (dats m 0 c).arrAt_eq_of_covers 21 _ (by decide +kernel) fun t _ (y : S1024x128.Idx) => ?_
  blk_simp
  rw [after0_21]; frame_out
  obtain ⟨h0, h1, h2⟩ := rows1 m c t y
  pointwise [k0_pay7, k0_pay8, k0_pay9, k0_pay10, k0_pay11, k0_pay12, k0_pay13, k0_pay27, k0_pay28, k0_pay29, k0_pay30, val_main_cst_9, val_main_cst_10, val_main_cst_11, val_main_cst_12, val_main_cst_13, val_main_cst_14, val_main_cst_15, val_main_cst_16, val_main_cst_17, val_main_cst_18, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49]
  rw [Fin.sum_univ_eight]
  have hp := part1 m c t y
  simp only [hp, h0, h1, h2]
  all_goals rfl

end Cert.Kernel16Ideal.AdamWSmallB

end
-- ==== Proof.AdamWSmallC.lean ====
module

public import proofs.«01_k».proof.Proof.Gen.Kernel16Ideal.Frame
public import proofs.«01_k».proof.Proof.Gen.Reference16Ideal.Read
public import Idealize.ShloMosaic.Lib.Pipeline.ValueKit
public import Idealize.ShloMosaic.Lib.Pointwise
public import Idealize.ShloMosaic.Lib.Claim

@[expose] public section

set_option maxRecDepth 16384

noncomputable section

/-! One step of AdamW on the weights that every device holds whole, one of each kind, and the sums of the devices' parts of the
gradient of conv_w and of the loss. -/

namespace Cert.Kernel16Ideal.AdamWSmallC

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- Every window is one block. -/
theorem idx : ∀ t : Fin cfg0.N, win0_2.index t = ![0, 0] ∧ win0_5.index t = ![0, 0] ∧ win0_8.index t = ![0, 0] ∧ win0_22.index t = ![0, 0] ∧ win0_23.index t = ![0, 0] ∧ win0_24.index t = ![0, 0] ∧ win0_25.index t = ![0, 0] ∧ win0_11.index t = ![0, 0, 0] :=
  (by decide +kernel : ∀ t : Fin grid0.N, _)

/-- The block of the parts, one device at a time: vector of 256 entries. -/
theorem part2 (c : Dev nD) (t : Fin cfg0.N) (y : S2x128.Idx) (j : Fin 8) (h : (y 0).val < 8) (h' : ((((cfg0.win 22).blk t).view.emb y) 0).val < 8) :
    iblk m c 11 t (ix3 j ⟨(y 0).val, h⟩ (y 1)) = m ((c : Thread nD τ).loc main_arg11) (ix3 j ⟨((((cfg0.win 22).blk t).view.emb y) 0).val, h'⟩ ((((cfg0.win 22).blk t).view.emb y) 1)) := by
  blk_point [iblk, V, idx t]

/-- The blocks of the weight and of its moments: vector of 256 entries. -/
theorem rows2 (c : Dev nD) (t : Fin cfg0.N) (y : S2x128.Idx) :
    iblk m c 2 t y = m ((c : Thread nD τ).loc main_arg2) (((cfg0.win 22).blk t).view.emb y)
    ∧ iblk m c 5 t y = m ((c : Thread nD τ).loc main_arg5) (((cfg0.win 22).blk t).view.emb y)
    ∧ iblk m c 8 t y = m ((c : Thread nD τ).loc main_arg8) (((cfg0.win 22).blk t).view.emb y) := by
  refine ⟨?_, ?_, ?_⟩ <;> blk_point [iblk, V, idx t]

open Cert.Reference16Ideal.Read in
set_option maxHeartbeats 1000000 in
/-- The gradient is the sum of the parts: vector of 256 entries. -/
theorem final22 (c : Dev nD) : (dats m 0 c).arrAt 22 (cfgs 0).N
    = val_main_v51 (F := Ideal) (m ((c : Thread nD τ).loc main_arg11)) := by
  refine (dats m 0 c).arrAt_eq_of_covers 22 _ (by decide +kernel) fun t _ (y : S2x128.Idx) => ?_
  blk_simp
  rw [after0_22]; frame_out
  obtain ⟨h0, h1, h2⟩ := rows2 m c t y
  pointwise [k0_pay14, k0_pay15, k0_pay16, k0_pay17, k0_pay18, k0_pay19, k0_pay20, k0_pay31, k0_pay32, val_main_cst_19, val_main_cst_20, val_main_cst_21, val_main_cst_22, val_main_cst_23, val_main_cst_24, val_main_cst_25, val_main_cst_26, val_main_cst_27, val_main_cst_28, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v50]
  rw [Fin.sum_univ_eight]
  have h8 : ((((cfg0.win 22).blk t).view.emb y) 0).val < 8 := lt_of_lt_of_le (Fin.isLt _) (show (2 : ℕ) ≤ 8 by decide)
  have hp := fun j h => part2 m c t y j h h8
  simp only [hp, h0, h1, h2]
  all_goals rfl

open Cert.Reference16Ideal.Read in
set_option maxHeartbeats 1000000 in
/-- The update: vector of 256 entries. -/
theorem final23 (c : Dev nD) : (dats m 0 c).arrAt 23 (cfgs 0).N
    = val_main_v75 (F := Ideal) (m ((c : Thread nD τ).loc main_arg2)) (m ((c : Thread nD τ).loc main_arg5)) (m ((c : Thread nD τ).loc main_arg8)) (m ((c : Thread nD τ).loc main_arg11)) := by
  refine (dats m 0 c).arrAt_eq_of_covers 23 _ (by decide +kernel) fun t _ (y : S2x128.Idx) => ?_
  blk_simp
  rw [after0_23]; frame_out
  obtain ⟨h0, h1, h2⟩ := rows2 m c t y
  pointwise [k0_pay14, k0_pay15, k0_pay16, k0_pay17, k0_pay18, k0_pay19, k0_pay20, k0_pay31, k0_pay32, val_main_cst_19, val_main_cst_20, val_main_cst_21, val_main_cst_22, val_main_cst_23, val_main_cst_24, val_main_cst_25, val_main_cst_26, val_main_cst_27, val_main_cst_28, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v50]
  rw [Fin.sum_univ_eight]
  have h8 : ((((cfg0.win 22).blk t).view.emb y) 0).val < 8 := lt_of_lt_of_le (Fin.isLt _) (show (2 : ℕ) ≤ 8 by decide)
  have hp := fun j h => part2 m c t y j h h8
  simp only [hp, h0, h1, h2]
  all_goals rfl

open Cert.Reference16Ideal.Read in
set_option maxHeartbeats 1000000 in
/-- The new first moment: vector of 256 entries. -/
theorem final24 (c : Dev nD) : (dats m 0 c).arrAt 24 (cfgs 0).N
    = val_main_v56 (F := Ideal) (m ((c : Thread nD τ).loc main_arg5)) (m ((c : Thread nD τ).loc main_arg11)) := by
  refine (dats m 0 c).arrAt_eq_of_covers 24 _ (by decide +kernel) fun t _ (y : S2x128.Idx) => ?_
  blk_simp
  rw [after0_24]; frame_out
  obtain ⟨h0, h1, h2⟩ := rows2 m c t y
  pointwise [k0_pay14, k0_pay15, k0_pay16, k0_pay17, k0_pay18, k0_pay19, k0_pay20, k0_pay31, k0_pay32, val_main_cst_19, val_main_cst_20, val_main_cst_21, val_main_cst_22, val_main_cst_23, val_main_cst_24, val_main_cst_25, val_main_cst_26, val_main_cst_27, val_main_cst_28, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v50]
  rw [Fin.sum_univ_eight]
  have h8 : ((((cfg0.win 22).blk t).view.emb y) 0).val < 8 := lt_of_lt_of_le (Fin.isLt _) (show (2 : ℕ) ≤ 8 by decide)
  have hp := fun j h => part2 m c t y j h h8
  simp only [hp, h0, h1, h2]
  all_goals rfl

open Cert.Reference16Ideal.Read in
set_option maxHeartbeats 1000000 in
/-- The new second moment: vector of 256 entries. -/
theorem final25 (c : Dev nD) : (dats m 0 c).arrAt 25 (cfgs 0).N
    = val_main_v62 (F := Ideal) (m ((c : Thread nD τ).loc main_arg8)) (m ((c : Thread nD τ).loc main_arg11)) := by
  refine (dats m 0 c).arrAt_eq_of_covers 25 _ (by decide +kernel) fun t _ (y : S2x128.Idx) => ?_
  blk_simp
  rw [after0_25]; frame_out
  obtain ⟨h0, h1, h2⟩ := rows2 m c t y
  pointwise [k0_pay14, k0_pay15, k0_pay16, k0_pay17, k0_pay18, k0_pay19, k0_pay20, k0_pay31, k0_pay32, val_main_cst_19, val_main_cst_20, val_main_cst_21, val_main_cst_22, val_main_cst_23, val_main_cst_24, val_main_cst_25, val_main_cst_26, val_main_cst_27, val_main_cst_28, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v50]
  rw [Fin.sum_univ_eight]
  have h8 : ((((cfg0.win 22).blk t).view.emb y) 0).val < 8 := lt_of_lt_of_le (Fin.isLt _) (show (2 : ℕ) ≤ 8 by decide)
  have hp := fun j h => part2 m c t y j h h8
  simp only [hp, h0, h1, h2]
  all_goals rfl

end Cert.Kernel16Ideal.AdamWSmallC

end
-- ==== Proof.AdamWSmall.lean ====
module

public import proofs.«01_k».proof.Defs
public import proofs.«01_k».proof.Proof.AdamWSmallA
public import proofs.«01_k».proof.Proof.AdamWSmallB
public import proofs.«01_k».proof.Proof.AdamWSmallC
public import Idealize.ShloMosaic.Lib.Pipeline.ValueKit
public import Idealize.ShloMosaic.Lib.Pointwise
public import Idealize.ShloMosaic.Lib.Claim

@[expose] public section

set_option maxRecDepth 16384

noncomputable section

/-! One step of AdamW on the weights that every device holds whole, one of each kind, and the sums of the devices' parts of the
gradient of conv_w and of the loss. -/

namespace Cert.Kernel16Ideal.AdamWSmall

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- Every window is one block. -/
theorem idx : ∀ t : Fin cfg0.N, win0_12.index t = ![0, 0, 0] ∧ win0_13.index t = ![0, 0, 0] ∧ win0_26.index t = ![0, 0] ∧ win0_27.index t = ![0, 0] :=
  (by decide +kernel : ∀ t : Fin grid0.N, _)

/-- The block of the parts of the gradient of conv_w, one device at a time. -/
theorem sumPart12 (c : Dev nD) (t : Fin cfg0.N) (y : S64x128.Idx) (j : Fin 8) : iblk m c 12 t (ix3 j (y 0) (y 1))
    = m ((c : Thread nD τ).loc main_arg12) (ix3 j ((((cfg0.win 26).blk t).view.emb y) 0) ((((cfg0.win 26).blk t).view.emb y) 1)) := by
  blk_point [iblk, V, idx t]

open Cert.Reference16Ideal.Read in
set_option maxHeartbeats 2000000 in
/-- The sum of the devices' parts of the gradient of conv_w. -/
theorem final26 (c : Dev nD) : (dats m 0 c).arrAt 26 (cfgs 0).N = val_main_v76 (F := Ideal) (m ((c : Thread nD τ).loc main_arg12)) := by
  refine (dats m 0 c).arrAt_eq_of_covers 26 _ (by decide +kernel) fun t _ (y : S64x128.Idx) => ?_
  blk_simp
  rw [after0_26]; frame_out
  pointwise [k0_pay21, k0_pay22, val_main_cst_29, val_main_v76]
  rw [Fin.sum_univ_eight]
  simp only [sumPart12 m c t y]
  all_goals rfl

/-- The block of the parts of the loss, one device at a time. -/
theorem sumPart13 (c : Dev nD) (t : Fin cfg0.N) (y : S8x128.Idx) (j : Fin 8) : iblk m c 13 t (ix3 j (y 0) (y 1))
    = m ((c : Thread nD τ).loc main_arg13) (ix3 j ((((cfg0.win 27).blk t).view.emb y) 0) ((((cfg0.win 27).blk t).view.emb y) 1)) := by
  blk_point [iblk, V, idx t]

open Cert.Reference16Ideal.Read in
set_option maxHeartbeats 2000000 in
/-- The sum of the devices' parts of the loss. -/
theorem final27 (c : Dev nD) : (dats m 0 c).arrAt 27 (cfgs 0).N = val_main_v77 (F := Ideal) (m ((c : Thread nD τ).loc main_arg13)) := by
  refine (dats m 0 c).arrAt_eq_of_covers 27 _ (by decide +kernel) fun t _ (y : S8x128.Idx) => ?_
  blk_simp
  rw [after0_27]; frame_out
  pointwise [k0_pay1, k0_pay23, k0_pay24, val_main_cst_30, val_main_v77]
  rw [Fin.sum_univ_eight]
  simp only [sumPart13 m c t y]
  all_goals rfl

open Cert.Reference16Ideal.Read in
set_option maxHeartbeats 8000000 in
/-- `adamw_small`: from the same arguments the call and the reference end with equal sums, updates and moments. -/
theorem claim : Cert.algebraic_Kernel16Ideal_Reference16Ideal (hKernel16Ideal := Cert.Kernel16Ideal.Gen.facts)
    (hReference16Ideal := Cert.Reference16Ideal.Gen.facts) := by
  intro m g m' g' hpre hagree
  refine ⟨fun c => (dats m 0 c).arrAt 14 (cfgs 0).N, fun c => (dats m 0 c).arrAt 15 (cfgs 0).N, fun c => (dats m 0 c).arrAt 16 (cfgs 0).N, fun c => (dats m 0 c).arrAt 17 (cfgs 0).N, fun c => (dats m 0 c).arrAt 18 (cfgs 0).N, fun c => (dats m 0 c).arrAt 19 (cfgs 0).N, fun c => (dats m 0 c).arrAt 20 (cfgs 0).N, fun c => (dats m 0 c).arrAt 21 (cfgs 0).N, fun c => (dats m 0 c).arrAt 22 (cfgs 0).N, fun c => (dats m 0 c).arrAt 23 (cfgs 0).N, fun c => (dats m 0 c).arrAt 24 (cfgs 0).N, fun c => (dats m 0 c).arrAt 25 (cfgs 0).N, fun c => (dats m 0 c).arrAt 26 (cfgs 0).N, fun c => (dats m 0 c).arrAt 27 (cfgs 0).N, ?_, ?_⟩
  · refine Idealize.ShloMosaic.θ_run_mono (Idealize.ShloMosaic.θ_run_and (Cert.Kernel16Ideal.Gen.run_main m g) (Cert.Kernel16Ideal.Gen.unchanged m g)) ?_
    intro r hr c
    have hw := (hr.1 c).1
    exact ⟨hw 14, hw 15, hw 16, hw 17, hw 18, hw 19, hw 20, hw 21, hw 22, hw 23, hw 24, hw 25, hw 26, hw 27, hr.2 c⟩
  · refine Idealize.ShloMosaic.θ_run_mono (Cert.Reference16Ideal.Value.run m' g') ?_
    intro r hr c
    obtain ⟨e0, e1, e2, e3, e4, e5, e6, e7, e8, e9, e10, e11, e12, e13, hu⟩ := hr c
    obtain ⟨a0, a1, a2, a3, a4, a5, a6, a7, a8, a9, a10, a11, a12, a13⟩ := hagree c
    refine ⟨?_, ?_, ?_, ?_, ?_, ?_, ?_, ?_, ?_, ?_, ?_, ?_, ?_, ?_, hu⟩
    · exact (e0.trans (val_main_v0_eq _)).trans (by rw [a9]; exact (AdamWSmallA.final14 m c).symm)
    · exact (e1.trans (val_main_v24_eq _ _ _ _)).trans (by rw [a0, a3, a6, a9]; exact (AdamWSmallA.final15 m c).symm)
    · exact (e2.trans (val_main_v5_eq _ _)).trans (by rw [a3, a9]; exact (AdamWSmallA.final16 m c).symm)
    · exact (e3.trans (val_main_v11_eq _ _)).trans (by rw [a6, a9]; exact (AdamWSmallA.final17 m c).symm)
    · exact (e4.trans (val_main_v25_eq _)).trans (by rw [a10]; exact (AdamWSmallB.final18 m c).symm)
    · exact (e5.trans (val_main_v49_eq _ _ _ _)).trans (by rw [a1, a4, a7, a10]; exact (AdamWSmallB.final19 m c).symm)
    · exact (e6.trans (val_main_v30_eq _ _)).trans (by rw [a4, a10]; exact (AdamWSmallB.final20 m c).symm)
    · exact (e7.trans (val_main_v36_eq _ _)).trans (by rw [a7, a10]; exact (AdamWSmallB.final21 m c).symm)
    · exact (e8.trans (val_main_v51_eq _)).trans (by rw [a11]; exact (AdamWSmallC.final22 m c).symm)
    · exact (e9.trans (val_main_v75_eq _ _ _ _)).trans (by rw [a2, a5, a8, a11]; exact (AdamWSmallC.final23 m c).symm)
    · exact (e10.trans (val_main_v56_eq _ _)).trans (by rw [a5, a11]; exact (AdamWSmallC.final24 m c).symm)
    · exact (e11.trans (val_main_v62_eq _ _)).trans (by rw [a8, a11]; exact (AdamWSmallC.final25 m c).symm)
    · exact (e12.trans (val_main_v76_eq _)).trans (by rw [a12]; exact (final26 m c).symm)
    · exact (e13.trans (val_main_v77_eq _)).trans (by rw [a13]; exact (final27 m c).symm)

end Cert.Kernel16Ideal.AdamWSmall

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.DAct
public import proofs.«01_k».proof.Proof.Gen.Kernel2.Frame
public import proofs.«01_k».proof.Proof.DN2
public import proofs.«01_k».proof.Proof.Gen.Kernel3.Frame
public import proofs.«01_k».proof.Proof.Dx
public import proofs.«01_k».proof.Proof.Gen.Kernel4.Frame
public import proofs.«01_k».proof.Proof.DownLoss
public import proofs.«01_k».proof.Proof.DMerge
public import proofs.«01_k».proof.Proof.Gen.Reference5Ideal.Frame
public import proofs.«01_k».proof.Proof.AttnValue
public import proofs.«01_k».proof.Proof.Gen.Reference6Ideal.Run
public import proofs.«01_k».proof.Proof.Gen.Kernel7.Frame
public import proofs.«01_k».proof.Proof.Up
public import proofs.«01_k».proof.Proof.Gen.Kernel8.Frame
public import proofs.«01_k».proof.Proof.NormMix
public import proofs.«01_k».proof.Proof.Gen.Kernel9.Frame
public import proofs.«01_k».proof.Proof.AdamWIn
public import proofs.«01_k».proof.Proof.Gen.Kernel10.Frame
public import proofs.«01_k».proof.Proof.AdamWUq
public import proofs.«01_k».proof.Proof.Gen.Kernel11.Frame
public import proofs.«01_k».proof.Proof.AdamWUkv
public import proofs.«01_k».proof.Proof.Gen.Kernel12.Frame
public import proofs.«01_k».proof.Proof.AdamWOut
public import proofs.«01_k».proof.Proof.Gen.Kernel13.Frame
public import proofs.«01_k».proof.Proof.AdamWUp
public import proofs.«01_k».proof.Proof.Gen.Kernel14.Frame
public import proofs.«01_k».proof.Proof.AdamWDown
public import proofs.«01_k».proof.Proof.Gen.Kernel15.Frame
public import proofs.«01_k».proof.Proof.AdamWConv
public import proofs.«01_k».proof.Proof.Gen.Kernel16.Frame
public import proofs.«01_k».proof.Proof.AdamWSmall
public import Idealize.ShloMosaic.Lib.Claim

@[expose] public section

namespace Cert.Proof

open Idealize.ShloMosaic Idealize.ShloMosaic.TcCoe Idealize.SL.Sem

/-- `d_act`: from the same arguments the call and the derivative of the squared ReLU end with equal results. -/
theorem d_act : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
  · hlo_run
    exact (Cert.KernelIdeal.DAct.final m c).symm

/-- The reference of `d_act` runs and keeps its arguments. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of `d_n2` runs and keeps its arguments. -/
theorem frame_reference2 : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The reference of `dx` runs and keeps its arguments. -/
theorem frame_reference3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The reference of `down_loss` runs and keeps its arguments. -/
theorem frame_reference4 : Cert.quiescent_Reference4Ideal (hReference4Ideal := Cert.Reference4Ideal.Gen.facts) := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The reference of `d_merge` runs and keeps its arguments. -/
theorem frame_reference5 : Cert.quiescent_Reference5Ideal (hReference5Ideal := Cert.Reference5Ideal.Gen.facts) := fun m ρ _ => Cert.Reference5Ideal.Gen.frame m ρ

/-- The idealized kernel of `d_merge` runs and keeps its arguments, from arguments of the precondition too. -/
theorem frame_kernel5 : Cert.quiescent_Kernel5Ideal (hKernel5Ideal := Cert.Kernel5Ideal.Gen.facts) := Cert.Kernel5Ideal.DMerge.frame_ideal

/-- The reference of `attn_bwd` runs and keeps its arguments. -/
theorem frame_reference6 : Cert.quiescent_Reference6Ideal (hReference6Ideal := Cert.Reference6Ideal.Gen.facts) := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- The idealized kernel of `attn_bwd` runs and keeps its arguments, from arguments of the precondition too. -/
theorem frame_kernel6 : Cert.quiescent_Kernel6Ideal (hKernel6Ideal := Cert.Kernel6Ideal.Gen.facts) := Cert.Proof.AttnRun.frame_ideal

/-- The reference of `up` runs and keeps its arguments. -/
theorem frame_reference7 : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The reference of `norm_mix` runs and keeps its arguments. -/
theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference of `adamw_w_in` runs and keeps its arguments. -/
theorem frame_reference9 : Cert.quiescent_Reference9Ideal (hReference9Ideal := Cert.Reference9Ideal.Gen.facts) := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

/-- The reference of `adamw_w_uq` runs and keeps its arguments. -/
theorem frame_reference10 : Cert.quiescent_Reference10Ideal (hReference10Ideal := Cert.Reference10Ideal.Gen.facts) := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

/-- The reference of `adamw_w_ukv` runs and keeps its arguments. -/
theorem frame_reference11 : Cert.quiescent_Reference11Ideal (hReference11Ideal := Cert.Reference11Ideal.Gen.facts) := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

/-- The reference of `adamw_w_out` runs and keeps its arguments. -/
theorem frame_reference12 : Cert.quiescent_Reference12Ideal (hReference12Ideal := Cert.Reference12Ideal.Gen.facts) := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

/-- The reference of `adamw_w_up` runs and keeps its arguments. -/
theorem frame_reference13 : Cert.quiescent_Reference13Ideal (hReference13Ideal := Cert.Reference13Ideal.Gen.facts) := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

/-- The reference of `adamw_w_down` runs and keeps its arguments. -/
theorem frame_reference14 : Cert.quiescent_Reference14Ideal (hReference14Ideal := Cert.Reference14Ideal.Gen.facts) := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

/-- The reference of `adamw_conv_w` runs and keeps its arguments. -/
theorem frame_reference15 : Cert.quiescent_Reference15Ideal (hReference15Ideal := Cert.Reference15Ideal.Gen.facts) := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

/-- The reference of `adamw_small3` runs and keeps its arguments. -/
theorem frame_reference16 : Cert.quiescent_Reference16Ideal (hReference16Ideal := Cert.Reference16Ideal.Gen.facts) := fun m ρ _ =>
  (θ_run Cert.Reference16Ideal.defs _ _).mono (fun r h => ⟨fun c => (h c).2.2.2.2.2.2.2.2.2.2.2.2.2.2, sem_eq_zero_of_no_sems (by decide) r.2⟩)
    (Cert.Reference16Ideal.Value.run (F := Ideal) m ρ)

/-- Every claim of the statement: the programs run and keep their arguments, and each call ends with its reference's results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel5Ideal.DMerge.pre_facts, Cert.Proof.AttnValue.pre_facts,
  fun m g _ => Cert.Kernel.Gen.frame m g, fun m g _ => Cert.KernelIdeal.Gen.frame m g, frame_reference,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  Cert.Kernel5Ideal.DMerge.frame_bits, frame_kernel5, fun m ρ _ => frame_kernel5 m ρ trivial,
  frame_reference5, fun m ρ _ => frame_reference5 m ρ trivial, Cert.Proof.AttnRun.frame_bits,
  frame_kernel6, fun m ρ _ => frame_kernel6 m ρ trivial, frame_reference6,
  fun m ρ _ => frame_reference6 m ρ trivial, fun m g _ => Cert.Kernel7.Gen.frame m g, fun m g _ => Cert.Kernel7Ideal.Gen.frame m g,
  frame_reference7, fun m g _ => Cert.Kernel8.Gen.frame m g, fun m g _ => Cert.Kernel8Ideal.Gen.frame m g,
  frame_reference8, fun m g _ => Cert.Kernel9.Gen.frame m g, fun m g _ => Cert.Kernel9Ideal.Gen.frame m g,
  frame_reference9, fun m g _ => Cert.Kernel10.Gen.frame m g, fun m g _ => Cert.Kernel10Ideal.Gen.frame m g,
  frame_reference10, fun m g _ => Cert.Kernel11.Gen.frame m g, fun m g _ => Cert.Kernel11Ideal.Gen.frame m g,
  frame_reference11, fun m g _ => Cert.Kernel12.Gen.frame m g, fun m g _ => Cert.Kernel12Ideal.Gen.frame m g,
  frame_reference12, fun m g _ => Cert.Kernel13.Gen.frame m g, fun m g _ => Cert.Kernel13Ideal.Gen.frame m g,
  frame_reference13, fun m g _ => Cert.Kernel14.Gen.frame m g, fun m g _ => Cert.Kernel14Ideal.Gen.frame m g,
  frame_reference14, fun m g _ => Cert.Kernel15.Gen.frame m g, fun m g _ => Cert.Kernel15Ideal.Gen.frame m g,
  frame_reference15, fun m g _ => Cert.Kernel16.Gen.frame m g, fun m g _ => Cert.Kernel16Ideal.Gen.frame m g,
  frame_reference16,
  trivial, d_act, trivial,
  Cert.Kernel2Ideal.DN2.claim, trivial, Cert.Kernel3Ideal.Dx.claim,
  trivial, Cert.Kernel4Ideal.DownLoss.claim, ⟨IdealRules.named_const.statement Cert.Kernel5Ideal.κ "gelu_c" .f32 0x3D372713#32 ((8943 / 200000 : ℝ) : EReal) rfl, IdealRules.named_const.statement Cert.Kernel5Ideal.κ "gelu_3c" .f32 0x3E095D4F#32 ((26829 / 200000 : ℝ) : EReal) rfl⟩,
  Cert.Kernel5Ideal.DMerge.claim, ⟨IdealRules.named_const.statement Cert.Kernel6Ideal.κ "mask" .f32 0xF149F2CA#32 ⊥ rfl, IdealRules.named_const.statement Cert.Kernel6Ideal.κ "ln2" .f32 0x3F317218#32 ((Real.log 2 : ℝ) : EReal) rfl⟩, Cert.Proof.AttnValue.claim,
  trivial, Cert.Kernel7Ideal.Up.claim, trivial,
  Cert.Kernel8Ideal.NormMix.claim, trivial, Cert.Kernel9Ideal.AdamWIn.claim,
  trivial, Cert.Kernel10Ideal.AdamWUq.claim, trivial,
  Cert.Kernel11Ideal.AdamWUkv.claim, trivial, Cert.Kernel12Ideal.AdamWOut.claim,
  trivial, Cert.Kernel13Ideal.AdamWUp.claim, trivial,
  Cert.Kernel14Ideal.AdamWDown.claim, trivial, Cert.Kernel15Ideal.AdamWConv.claim,
  trivial, Cert.Kernel16Ideal.AdamWSmall.claim⟩

end Cert.Proof

end
